-- ==== Defs.lean ====
def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_V (m : (ℓ : Loc Cert.V.nD Cert.V.τ Cert.V.sig) → Buf (Elt Bits) ℓ) : Prop :=
  True

def Pre_VIdeal (m : (ℓ : Loc Cert.VIdeal.nD Cert.VIdeal.τ Cert.VIdeal.sig) → Buf (Elt Ideal) ℓ) : Prop :=
  True

def Pre_VReferenceIdeal (m : (ℓ : Loc Cert.VReferenceIdeal.nD Cert.VReferenceIdeal.τ Cert.VReferenceIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkReferenceIdeal (m : (ℓ : Loc Cert.QkReferenceIdeal.nD Cert.QkReferenceIdeal.τ Cert.QkReferenceIdeal.sig) → Buf (Elt Ideal) ℓ) : Prop :=
  True

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2))
      ∧ r.2.sem = fun _ => 0)

def quiescent_V [hV : Cert.V.Facts] : Prop :=
  ∀ (m : (ℓ : Loc Cert.V.nD Cert.V.τ Cert.V.sig) → Buf (Elt Bits) ℓ) (g : Dev Cert.V.nD → PrngReg), Pre_V m →
    θ_run (Cert.V.defs (F := Bits)) (onTc (τ := Cert.V.τ) (Cert.V.main (F := Bits))) ⟨m, fun _ => 0, g⟩ (fun r => (∀ c : Dev Cert.V.nD,
      r.2.mem ((c.tc : Thread Cert.V.nD Cert.V.τ).loc Cert.V.main_arg0) = m ((c.tc : Thread Cert.V.nD Cert.V.τ).loc Cert.V.main_arg0)
      ∧ r.2.mem ((c.tc : Thread Cert.V.nD Cert.V.τ).loc Cert.V.main_arg1) = m ((c.tc : Thread Cert.V.nD Cert.V.τ).loc Cert.V.main_arg1)
      ∧ r.2.mem ((c.tc : Thread Cert.V.nD Cert.V.τ).loc Cert.V.main_arg2) = m ((c.tc : Thread Cert.V.nD Cert.V.τ).loc Cert.V.main_arg2)
      ∧ r.2.mem ((c.tc : Thread Cert.V.nD Cert.V.τ).loc Cert.V.main_arg3) = m ((c.tc : Thread Cert.V.nD Cert.V.τ).loc Cert.V.main_arg3))
      ∧ r.2.sem = fun _ => 0)

def quiescent_VIdeal [hVIdeal : Cert.VIdeal.Facts] : Prop :=
  ∀ (m : (ℓ : Loc Cert.VIdeal.nD Cert.VIdeal.τ Cert.VIdeal.sig) → Buf (Elt Ideal) ℓ) (g : Dev Cert.VIdeal.nD → PrngReg), Pre_VIdeal m →
    θ_run (Cert.VIdeal.defs (F := Ideal)) (onTc (τ := Cert.VIdeal.τ) (Cert.VIdeal.main (F := Ideal))) ⟨m, fun _ => 0, g⟩ (fun r => (∀ c : Dev Cert.VIdeal.nD,
      r.2.mem ((c.tc : Thread Cert.VIdeal.nD Cert.VIdeal.τ).loc Cert.VIdeal.main_arg0) = m ((c.tc : Thread Cert.VIdeal.nD Cert.VIdeal.τ).loc Cert.VIdeal.main_arg0)
      ∧ r.2.mem ((c.tc : Thread Cert.VIdeal.nD Cert.VIdeal.τ).loc Cert.VIdeal.main_arg1) = m ((c.tc : Thread Cert.VIdeal.nD Cert.VIdeal.τ).loc Cert.VIdeal.main_arg1)
      ∧ r.2.mem ((c.tc : Thread Cert.VIdeal.nD Cert.VIdeal.τ).loc Cert.VIdeal.main_arg2) = m ((c.tc : Thread Cert.VIdeal.nD Cert.VIdeal.τ).loc Cert.VIdeal.main_arg2)
      ∧ r.2.mem ((c.tc : Thread Cert.VIdeal.nD Cert.VIdeal.τ).loc Cert.VIdeal.main_arg3) = m ((c.tc : Thread Cert.VIdeal.nD Cert.VIdeal.τ).loc Cert.VIdeal.main_arg3))
      ∧ r.2.sem = fun _ => 0)

def quiescent_VReferenceIdeal [hVReferenceIdeal : Cert.VReferenceIdeal.Facts] : Prop :=
  ∀ (m : (ℓ : Loc Cert.VReferenceIdeal.nD Cert.VReferenceIdeal.τ Cert.VReferenceIdeal.sig) → Buf (Elt Ideal) ℓ) (g : Dev Cert.VReferenceIdeal.nD → PrngReg), Pre_VReferenceIdeal m →
    θ_run (Cert.VReferenceIdeal.defs (F := Ideal)) (onTc (τ := Cert.VReferenceIdeal.τ) (Cert.VReferenceIdeal.main (F := Ideal))) ⟨m, fun _ => 0, g⟩ (fun r => (∀ c : Dev Cert.VReferenceIdeal.nD,
      r.2.mem ((c.tc : Thread Cert.VReferenceIdeal.nD Cert.VReferenceIdeal.τ).loc Cert.VReferenceIdeal.main_arg0) = m ((c.tc : Thread Cert.VReferenceIdeal.nD Cert.VReferenceIdeal.τ).loc Cert.VReferenceIdeal.main_arg0)
      ∧ r.2.mem ((c.tc : Thread Cert.VReferenceIdeal.nD Cert.VReferenceIdeal.τ).loc Cert.VReferenceIdeal.main_arg1) = m ((c.tc : Thread Cert.VReferenceIdeal.nD Cert.VReferenceIdeal.τ).loc Cert.VReferenceIdeal.main_arg1)
      ∧ r.2.mem ((c.tc : Thread Cert.VReferenceIdeal.nD Cert.VReferenceIdeal.τ).loc Cert.VReferenceIdeal.main_arg2) = m ((c.tc : Thread Cert.VReferenceIdeal.nD Cert.VReferenceIdeal.τ).loc Cert.VReferenceIdeal.main_arg2)
      ∧ r.2.mem ((c.tc : Thread Cert.VReferenceIdeal.nD Cert.VReferenceIdeal.τ).loc Cert.VReferenceIdeal.main_arg3) = m ((c.tc : Thread Cert.VReferenceIdeal.nD Cert.VReferenceIdeal.τ).loc Cert.VReferenceIdeal.main_arg3))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4)
      ∧ r.2.mem ((c.tc : Thread Cert.Qk.nD Cert.Qk.τ).loc Cert.Qk.main_arg5) = m ((c.tc : Thread Cert.Qk.nD Cert.Qk.τ).loc Cert.Qk.main_arg5)
      ∧ r.2.mem ((c.tc : Thread Cert.Qk.nD Cert.Qk.τ).loc Cert.Qk.main_arg6) = m ((c.tc : Thread Cert.Qk.nD Cert.Qk.τ).loc Cert.Qk.main_arg6))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
      ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ r.2.sem = fun _ => 0)

def quiescent_QkReferenceIdeal [hQkReferenceIdeal : Cert.QkReferenceIdeal.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4)
      ∧ r.2.mem ((c.tc : Thread Cert.QkReferenceIdeal.nD Cert.QkReferenceIdeal.τ).loc Cert.QkReferenceIdeal.main_arg5) = m ((c.tc : Thread Cert.QkReferenceIdeal.nD Cert.QkReferenceIdeal.τ).loc Cert.QkReferenceIdeal.main_arg5)
      ∧ r.2.mem ((c.tc : Thread Cert.QkReferenceIdeal.nD Cert.QkReferenceIdeal.τ).loc Cert.QkReferenceIdeal.main_arg6) = m ((c.tc : Thread Cert.QkReferenceIdeal.nD Cert.QkReferenceIdeal.τ).loc Cert.QkReferenceIdeal.main_arg6))
      ∧ r.2.sem = fun _ => 0)

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_Gate_GateIdeal : Prop :=
  True

def algebraic_GateIdeal_GateReferenceIdeal [hGateIdeal : Cert.GateIdeal.Facts] [hGateReferenceIdeal : Cert.GateReferenceIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateIdeal m →
    (∀ c : Dev Cert.GateIdeal.nD,
      m' ((c.tc : Thread Cert.GateReferenceIdeal.nD Cert.GateReferenceIdeal.τ).loc Cert.GateReferenceIdeal.main_arg0) = m ((c.tc : Thread Cert.GateIdeal.nD Cert.GateIdeal.τ).loc Cert.GateIdeal.main_arg0)
      ∧ m' ((c.tc : Thread Cert.GateReferenceIdeal.nD Cert.GateReferenceIdeal.τ).loc Cert.GateReferenceIdeal.main_arg1) = m ((c.tc : Thread Cert.GateIdeal.nD Cert.GateIdeal.τ).loc Cert.GateIdeal.main_arg1)
      ∧ m' ((c.tc : Thread Cert.GateReferenceIdeal.nD Cert.GateReferenceIdeal.τ).loc Cert.GateReferenceIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v0) = v0 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2))

def preserves_V_VIdeal : Prop :=
  True

def algebraic_VIdeal_VReferenceIdeal [hVIdeal : Cert.VIdeal.Facts] [hVReferenceIdeal : Cert.VReferenceIdeal.Facts] : Prop :=
  ∀ (m : (ℓ : Loc Cert.VIdeal.nD Cert.VIdeal.τ Cert.VIdeal.sig) → Buf (Elt Ideal) ℓ) (g : Dev Cert.VIdeal.nD → PrngReg)
    (m' : (ℓ : Loc Cert.VReferenceIdeal.nD Cert.VReferenceIdeal.τ Cert.VReferenceIdeal.sig) → Buf (Elt Ideal) ℓ) (g' : Dev Cert.VReferenceIdeal.nD → PrngReg), Pre_VIdeal m →
    (∀ c : Dev Cert.VIdeal.nD,
      m' ((c.tc : Thread Cert.VReferenceIdeal.nD Cert.VReferenceIdeal.τ).loc Cert.VReferenceIdeal.main_arg0) = m ((c.tc : Thread Cert.VIdeal.nD Cert.VIdeal.τ).loc Cert.VIdeal.main_arg0)
      ∧ m' ((c.tc : Thread Cert.VReferenceIdeal.nD Cert.VReferenceIdeal.τ).loc Cert.VReferenceIdeal.main_arg1) = m ((c.tc : Thread Cert.VIdeal.nD Cert.VIdeal.τ).loc Cert.VIdeal.main_arg1)
      ∧ m' ((c.tc : Thread Cert.VReferenceIdeal.nD Cert.VReferenceIdeal.τ).loc Cert.VReferenceIdeal.main_arg2) = m ((c.tc : Thread Cert.VIdeal.nD Cert.VIdeal.τ).loc Cert.VIdeal.main_arg2)
      ∧ m' ((c.tc : Thread Cert.VReferenceIdeal.nD Cert.VReferenceIdeal.τ).loc Cert.VReferenceIdeal.main_arg3) = m ((c.tc : Thread Cert.VIdeal.nD Cert.VIdeal.τ).loc Cert.VIdeal.main_arg3)) →
    ∃ (v0 : (c : Dev Cert.VIdeal.nD) → Buf (Elt Ideal) ((c.tc : Thread Cert.VIdeal.nD Cert.VIdeal.τ).loc Cert.VIdeal.main_v3_0)) (v1 : (c : Dev Cert.VIdeal.nD) → Buf (Elt Ideal) ((c.tc : Thread Cert.VIdeal.nD Cert.VIdeal.τ).loc Cert.VIdeal.main_v3_1)),
      θ_run (Cert.VIdeal.defs (F := Ideal)) (onTc (τ := Cert.VIdeal.τ) (Cert.VIdeal.main (F := Ideal))) ⟨m, fun _ => 0, g⟩ (fun r => ∀ c : Dev Cert.VIdeal.nD,
          r.2.mem ((c.tc : Thread Cert.VIdeal.nD Cert.VIdeal.τ).loc Cert.VIdeal.main_v3_0) = v0 c
          ∧ r.2.mem ((c.tc : Thread Cert.VIdeal.nD Cert.VIdeal.τ).loc Cert.VIdeal.main_v3_1) = v1 c
          ∧ r.2.mem ((c.tc : Thread Cert.VIdeal.nD Cert.VIdeal.τ).loc Cert.VIdeal.main_arg0) = m ((c.tc : Thread Cert.VIdeal.nD Cert.VIdeal.τ).loc Cert.VIdeal.main_arg0)
          ∧ r.2.mem ((c.tc : Thread Cert.VIdeal.nD Cert.VIdeal.τ).loc Cert.VIdeal.main_arg1) = m ((c.tc : Thread Cert.VIdeal.nD Cert.VIdeal.τ).loc Cert.VIdeal.main_arg1)
          ∧ r.2.mem ((c.tc : Thread Cert.VIdeal.nD Cert.VIdeal.τ).loc Cert.VIdeal.main_arg2) = m ((c.tc : Thread Cert.VIdeal.nD Cert.VIdeal.τ).loc Cert.VIdeal.main_arg2)
          ∧ r.2.mem ((c.tc : Thread Cert.VIdeal.nD Cert.VIdeal.τ).loc Cert.VIdeal.main_arg3) = m ((c.tc : Thread Cert.VIdeal.nD Cert.VIdeal.τ).loc Cert.VIdeal.main_arg3))
      ∧ θ_run (Cert.VReferenceIdeal.defs (F := Ideal)) (onTc (τ := Cert.VReferenceIdeal.τ) (Cert.VReferenceIdeal.main (F := Ideal))) ⟨m', fun _ => 0, g'⟩ (fun r => ∀ c : Dev Cert.VReferenceIdeal.nD,
          r.2.mem ((c.tc : Thread Cert.VReferenceIdeal.nD Cert.VReferenceIdeal.τ).loc Cert.VReferenceIdeal.main_v0_0) = v0 c
          ∧ r.2.mem ((c.tc : Thread Cert.VReferenceIdeal.nD Cert.VReferenceIdeal.τ).loc Cert.VReferenceIdeal.main_v0_1) = v1 c
          ∧ r.2.mem ((c.tc : Thread Cert.VReferenceIdeal.nD Cert.VReferenceIdeal.τ).loc Cert.VReferenceIdeal.main_arg0) = m' ((c.tc : Thread Cert.VReferenceIdeal.nD Cert.VReferenceIdeal.τ).loc Cert.VReferenceIdeal.main_arg0)
          ∧ r.2.mem ((c.tc : Thread Cert.VReferenceIdeal.nD Cert.VReferenceIdeal.τ).loc Cert.VReferenceIdeal.main_arg1) = m' ((c.tc : Thread Cert.VReferenceIdeal.nD Cert.VReferenceIdeal.τ).loc Cert.VReferenceIdeal.main_arg1)
          ∧ r.2.mem ((c.tc : Thread Cert.VReferenceIdeal.nD Cert.VReferenceIdeal.τ).loc Cert.VReferenceIdeal.main_arg2) = m' ((c.tc : Thread Cert.VReferenceIdeal.nD Cert.VReferenceIdeal.τ).loc Cert.VReferenceIdeal.main_arg2)
          ∧ r.2.mem ((c.tc : Thread Cert.VReferenceIdeal.nD Cert.VReferenceIdeal.τ).loc Cert.VReferenceIdeal.main_arg3) = m' ((c.tc : Thread Cert.VReferenceIdeal.nD Cert.VReferenceIdeal.τ).loc Cert.VReferenceIdeal.main_arg3))

def preserves_Qk_QkIdeal : Prop :=
  True

def algebraic_QkIdeal_QkReferenceIdeal [hQkIdeal : Cert.QkIdeal.Facts] [hQkReferenceIdeal : Cert.QkReferenceIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkReferenceIdeal.nD Cert.QkReferenceIdeal.τ Cert.QkReferenceIdeal.sig) → Buf (Elt Ideal) ℓ) (g' : Dev Cert.QkReferenceIdeal.nD → PrngReg), Pre_QkIdeal m →
    (∀ c : Dev Cert.QkIdeal.nD,
      m' ((c.tc : Thread Cert.QkReferenceIdeal.nD Cert.QkReferenceIdeal.τ).loc Cert.QkReferenceIdeal.main_arg0) = m ((c.tc : Thread Cert.QkIdeal.nD Cert.QkIdeal.τ).loc Cert.QkIdeal.main_arg0)
      ∧ m' ((c.tc : Thread Cert.QkReferenceIdeal.nD Cert.QkReferenceIdeal.τ).loc Cert.QkReferenceIdeal.main_arg1) = m ((c.tc : Thread Cert.QkIdeal.nD Cert.QkIdeal.τ).loc Cert.QkIdeal.main_arg1)
      ∧ m' ((c.tc : Thread Cert.QkReferenceIdeal.nD Cert.QkReferenceIdeal.τ).loc Cert.QkReferenceIdeal.main_arg2) = m ((c.tc : Thread Cert.QkIdeal.nD Cert.QkIdeal.τ).loc Cert.QkIdeal.main_arg2)
      ∧ m' ((c.tc : Thread Cert.QkReferenceIdeal.nD Cert.QkReferenceIdeal.τ).loc Cert.QkReferenceIdeal.main_arg3) = m ((c.tc : Thread Cert.QkIdeal.nD Cert.QkIdeal.τ).loc Cert.QkIdeal.main_arg3)
      ∧ m' ((c.tc : Thread Cert.QkReferenceIdeal.nD Cert.QkReferenceIdeal.τ).loc Cert.QkReferenceIdeal.main_arg4) = m ((c.tc : Thread Cert.QkIdeal.nD Cert.QkIdeal.τ).loc Cert.QkIdeal.main_arg4)
      ∧ m' ((c.tc : Thread Cert.QkReferenceIdeal.nD Cert.QkReferenceIdeal.τ).loc Cert.QkReferenceIdeal.main_arg5) = m ((c.tc : Thread Cert.QkIdeal.nD Cert.QkIdeal.τ).loc Cert.QkIdeal.main_arg5)
      ∧ m' ((c.tc : Thread Cert.QkReferenceIdeal.nD Cert.QkReferenceIdeal.τ).loc Cert.QkReferenceIdeal.main_arg6) = m ((c.tc : Thread Cert.QkIdeal.nD Cert.QkIdeal.τ).loc Cert.QkIdeal.main_arg6)) →
    ∃ (v0 : (c : Dev Cert.QkIdeal.nD) → Buf (Elt Ideal) ((c.tc : Thread Cert.QkIdeal.nD Cert.QkIdeal.τ).loc Cert.QkIdeal.main_v7_0)) (v1 : (c : Dev Cert.QkIdeal.nD) → Buf (Elt Ideal) ((c.tc : Thread Cert.QkIdeal.nD Cert.QkIdeal.τ).loc Cert.QkIdeal.main_v7_1)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v7_0) = v0 c
          ∧ r.2.mem ((c.tc : Thread Cert.QkIdeal.nD Cert.QkIdeal.τ).loc Cert.QkIdeal.main_v7_1) = v1 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
          ∧ r.2.mem ((c.tc : Thread Cert.QkIdeal.nD Cert.QkIdeal.τ).loc Cert.QkIdeal.main_arg5) = m ((c.tc : Thread Cert.QkIdeal.nD Cert.QkIdeal.τ).loc Cert.QkIdeal.main_arg5)
          ∧ r.2.mem ((c.tc : Thread Cert.QkIdeal.nD Cert.QkIdeal.τ).loc Cert.QkIdeal.main_arg6) = m ((c.tc : Thread Cert.QkIdeal.nD Cert.QkIdeal.τ).loc Cert.QkIdeal.main_arg6))
      ∧ θ_run (Cert.QkReferenceIdeal.defs (F := Ideal)) (onTc (τ := Cert.QkReferenceIdeal.τ) (Cert.QkReferenceIdeal.main (F := Ideal))) ⟨m', fun _ => 0, g'⟩ (fun r => ∀ c : Dev Cert.QkReferenceIdeal.nD,
          r.2.mem ((c.tc : Thread Cert.QkReferenceIdeal.nD Cert.QkReferenceIdeal.τ).loc Cert.QkReferenceIdeal.main_v0_0) = v0 c
          ∧ r.2.mem ((c.tc : Thread Cert.QkReferenceIdeal.nD Cert.QkReferenceIdeal.τ).loc Cert.QkReferenceIdeal.main_v0_1) = v1 c
          ∧ r.2.mem ((c.tc : Thread Cert.QkReferenceIdeal.nD Cert.QkReferenceIdeal.τ).loc Cert.QkReferenceIdeal.main_arg0) = m' ((c.tc : Thread Cert.QkReferenceIdeal.nD Cert.QkReferenceIdeal.τ).loc Cert.QkReferenceIdeal.main_arg0)
          ∧ r.2.mem ((c.tc : Thread Cert.QkReferenceIdeal.nD Cert.QkReferenceIdeal.τ).loc Cert.QkReferenceIdeal.main_arg1) = m' ((c.tc : Thread Cert.QkReferenceIdeal.nD Cert.QkReferenceIdeal.τ).loc Cert.QkReferenceIdeal.main_arg1)
          ∧ r.2.mem ((c.tc : Thread Cert.QkReferenceIdeal.nD Cert.QkReferenceIdeal.τ).loc Cert.QkReferenceIdeal.main_arg2) = m' ((c.tc : Thread Cert.QkReferenceIdeal.nD Cert.QkReferenceIdeal.τ).loc Cert.QkReferenceIdeal.main_arg2)
          ∧ r.2.mem ((c.tc : Thread Cert.QkReferenceIdeal.nD Cert.QkReferenceIdeal.τ).loc Cert.QkReferenceIdeal.main_arg3) = m' ((c.tc : Thread Cert.QkReferenceIdeal.nD Cert.QkReferenceIdeal.τ).loc Cert.QkReferenceIdeal.main_arg3)
          ∧ r.2.mem ((c.tc : Thread Cert.QkReferenceIdeal.nD Cert.QkReferenceIdeal.τ).loc Cert.QkReferenceIdeal.main_arg4) = m' ((c.tc : Thread Cert.QkReferenceIdeal.nD Cert.QkReferenceIdeal.τ).loc Cert.QkReferenceIdeal.main_arg4)
          ∧ r.2.mem ((c.tc : Thread Cert.QkReferenceIdeal.nD Cert.QkReferenceIdeal.τ).loc Cert.QkReferenceIdeal.main_arg5) = m' ((c.tc : Thread Cert.QkReferenceIdeal.nD Cert.QkReferenceIdeal.τ).loc Cert.QkReferenceIdeal.main_arg5)
          ∧ r.2.mem ((c.tc : Thread Cert.QkReferenceIdeal.nD Cert.QkReferenceIdeal.τ).loc Cert.QkReferenceIdeal.main_arg6) = m' ((c.tc : Thread Cert.QkReferenceIdeal.nD Cert.QkReferenceIdeal.τ).loc Cert.QkReferenceIdeal.main_arg6))

def Claim : Prop :=
  ∃ (hOut : Cert.Out.Facts) (hOutIdeal : Cert.OutIdeal.Facts) (hOutReferenceIdeal : Cert.OutReferenceIdeal.Facts) (hGate : Cert.Gate.Facts) (hGateIdeal : Cert.GateIdeal.Facts) (hGateReferenceIdeal : Cert.GateReferenceIdeal.Facts) (hV : Cert.V.Facts) (hVIdeal : Cert.VIdeal.Facts) (hVReferenceIdeal : Cert.VReferenceIdeal.Facts) (hQk : Cert.Qk.Facts) (hQkIdeal : Cert.QkIdeal.Facts) (hQkReferenceIdeal : Cert.QkReferenceIdeal.Facts),
    quiescent_Out (hOut := hOut)
    ∧ quiescent_OutIdeal (hOutIdeal := hOutIdeal)
    ∧ quiescent_OutReferenceIdeal (hOutReferenceIdeal := hOutReferenceIdeal)
    ∧ quiescent_Gate (hGate := hGate)
    ∧ quiescent_GateIdeal (hGateIdeal := hGateIdeal)
    ∧ quiescent_GateReferenceIdeal (hGateReferenceIdeal := hGateReferenceIdeal)
    ∧ quiescent_V (hV := hV)
    ∧ quiescent_VIdeal (hVIdeal := hVIdeal)
    ∧ quiescent_VReferenceIdeal (hVReferenceIdeal := hVReferenceIdeal)
    ∧ quiescent_Qk (hQk := hQk)
    ∧ quiescent_QkIdeal (hQkIdeal := hQkIdeal)
    ∧ quiescent_QkReferenceIdeal (hQkReferenceIdeal := hQkReferenceIdeal)
    ∧ preserves_Out_OutIdeal
    ∧ algebraic_OutIdeal_OutReferenceIdeal (hOutIdeal := hOutIdeal) (hOutReferenceIdeal := hOutReferenceIdeal)
    ∧ preserves_Gate_GateIdeal
    ∧ algebraic_GateIdeal_GateReferenceIdeal (hGateIdeal := hGateIdeal) (hGateReferenceIdeal := hGateReferenceIdeal)
    ∧ preserves_V_VIdeal
    ∧ algebraic_VIdeal_VReferenceIdeal (hVIdeal := hVIdeal) (hVReferenceIdeal := hVReferenceIdeal)
    ∧ preserves_Qk_QkIdeal
    ∧ algebraic_QkIdeal_QkReferenceIdeal (hQkIdeal := hQkIdeal) (hQkReferenceIdeal := hQkReferenceIdeal)
-- ==== Out.lean ====
abbrev S7x3840x3072 : Shape := ⟨3, ![7, 3840, 3072]⟩
abbrev S2880x3840 : Shape := ⟨2, ![2880, 3840]⟩
abbrev S2880x120 : Shape := ⟨2, ![2880, 120]⟩
abbrev S120x2880 : Shape := ⟨2, ![120, 2880]⟩
abbrev S7x2880x3072 : Shape := ⟨3, ![7, 2880, 3072]⟩
abbrev S1x3840x256 : Shape := ⟨3, ![1, 3840, 256]⟩
abbrev S1x2880x256 : Shape := ⟨3, ![1, 2880, 256]⟩
abbrev S120x3840 : Shape := ⟨2, ![120, 3840]⟩
abbrev S120x128 : Shape := ⟨2, ![120, 128]⟩
abbrev S128x3840 : Shape := ⟨2, ![128, 3840]⟩
abbrev S120x64 : Shape := ⟨2, ![120, 64]⟩
abbrev S64x3840 : Shape := ⟨2, ![64, 3840]⟩
abbrev S3840x256 : Shape := ⟨2, ![3840, 256]⟩
abbrev S2880x256 : Shape := ⟨2, ![2880, 256]⟩

abbrev nBuf : Space → Nat
  | .hbm => 5
  | .vmem => 7
  | .smem => 0
  | _ => 0

abbrev bufTy : (tb : Table) → Fin (tcTables nBuf tb) → BufTy
  | .hbm, ⟨0, _⟩ => ⟨S7x3840x3072, .bf16⟩
  | .hbm, ⟨1, _⟩ => ⟨S2880x3840, .fp8e4m3⟩
  | .hbm, ⟨2, _⟩ => ⟨S2880x120, .i8⟩
  | .hbm, ⟨3, _⟩ => ⟨S120x2880, .i8⟩
  | .hbm, ⟨4, _⟩ => ⟨S7x2880x3072, .bf16⟩
  | .local _ .vmem, ⟨0, _⟩ => ⟨S1x3840x256, .bf16⟩
  | .local _ .vmem, ⟨1, _⟩ => ⟨S1x3840x256, .bf16⟩
  | .local _ .vmem, ⟨2, _⟩ => ⟨S2880x3840, .fp8e4m3⟩
  | .local _ .vmem, ⟨3, _⟩ => ⟨S120x2880, .i8⟩
  | .local _ .vmem, ⟨4, _⟩ => ⟨S1x2880x256, .bf16⟩
  | .local _ .vmem, ⟨5, _⟩ => ⟨S1x2880x256, .bf16⟩
  | .local _ .vmem, ⟨6, _⟩ => ⟨S2880x3840, .bf16⟩
  | _, _ => ⟨S7x3840x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![7, 12], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3840x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2880x3840 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S120x2880 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2880x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S7x3840x3072 : Shape := ⟨3, ![7, 3840, 3072]⟩
abbrev S2880x3840 : Shape := ⟨2, ![2880, 3840]⟩
abbrev S2880x120 : Shape := ⟨2, ![2880, 120]⟩
abbrev S7x2880x3072 : Shape := ⟨3, ![7, 2880, 3072]⟩
abbrev S2880x120x32 : Shape := ⟨3, ![2880, 120, 32]⟩
abbrev S2880x120x1 : Shape := ⟨3, ![2880, 120, 1]⟩
abbrev S1x3840x3072 : Shape := ⟨3, ![1, 3840, 3072]⟩
abbrev S3840x3072 : Shape := ⟨2, ![3840, 3072]⟩
abbrev S2880x3072 : Shape := ⟨2, ![2880, 3072]⟩
abbrev S1x2880x3072 : Shape := ⟨3, ![1, 2880, 3072]⟩

abbrev nBuf : Space → Nat
  | .hbm => 4
  | .vmem => 4
  | .smem => 0
  | _ => 0

abbrev bufTy : (tb : Table) → Fin (tcTables nBuf tb) → BufTy
  | .hbm, ⟨0, _⟩ => ⟨S7x3840x3072, .bf16⟩
  | .hbm, ⟨1, _⟩ => ⟨S2880x3840, .fp8e4m3⟩
  | .hbm, ⟨2, _⟩ => ⟨S2880x120, .i8⟩
  | .hbm, ⟨3, _⟩ => ⟨S7x2880x3072, .bf16⟩
  | .local _ .vmem, ⟨0, _⟩ => ⟨S7x3840x3072, .bf16⟩
  | .local _ .vmem, ⟨1, _⟩ => ⟨S2880x3840, .fp8e4m3⟩
  | .local _ .vmem, ⟨2, _⟩ => ⟨S2880x120, .i8⟩
  | .local _ .vmem, ⟨3, _⟩ => ⟨S7x2880x3072, .bf16⟩
  | _, _ => ⟨S7x3840x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S7x3840x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x3840 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2880x120 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x2880x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Gate.lean ====
abbrev S7x3072x2944 : Shape := ⟨3, ![7, 3072, 2944]⟩
abbrev S3840x2880 : Shape := ⟨2, ![3840, 2880]⟩
abbrev S3840x90 : Shape := ⟨2, ![3840, 90]⟩
abbrev S2880x3840 : Shape := ⟨2, ![2880, 3840]⟩
abbrev S90x3840 : Shape := ⟨2, ![90, 3840]⟩
abbrev S7x3840x3072 : Shape := ⟨3, ![7, 3840, 3072]⟩
abbrev S1x256x2944 : Shape := ⟨3, ![1, 256, 2944]⟩
abbrev S1x3840x256 : Shape := ⟨3, ![1, 3840, 256]⟩
abbrev S2944x3840 : Shape := ⟨2, ![2944, 3840]⟩
abbrev S96x3840 : Shape := ⟨2, ![96, 3840]⟩
abbrev S8x3840 : Shape := ⟨2, ![8, 3840]⟩
abbrev S32x3840 : Shape := ⟨2, ![32, 3840]⟩
abbrev S1x3840 : Shape := ⟨2, ![1, 3840]⟩
abbrev S64x3840 : Shape := ⟨2, ![64, 3840]⟩
abbrev S256x2944 : Shape := ⟨2, ![256, 2944]⟩
abbrev S2944x256 : Shape := ⟨2, ![2944, 256]⟩
abbrev S256x256 : Shape := ⟨2, ![256, 256]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 6
  | .vmem => 8
  | .smem => 0
  | _ => 0

abbrev bufTy : (tb : Table) → Fin (tcTables nBuf tb) → BufTy
  | .hbm, ⟨0, _⟩ => ⟨S7x3072x2944, .bf16⟩
  | .hbm, ⟨1, _⟩ => ⟨S3840x2880, .fp8e4m3⟩
  | .hbm, ⟨2, _⟩ => ⟨S3840x90, .i8⟩
  | .hbm, ⟨3, _⟩ => ⟨S2880x3840, .fp8e4m3⟩
  | .hbm, ⟨4, _⟩ => ⟨S90x3840, .i8⟩
  | .hbm, ⟨5, _⟩ => ⟨S7x3840x3072, .bf16⟩
  | .local _ .vmem, ⟨0, _⟩ => ⟨S1x256x2944, .bf16⟩
  | .local _ .vmem, ⟨1, _⟩ => ⟨S1x256x2944, .bf16⟩
  | .local _ .vmem, ⟨2, _⟩ => ⟨S2880x3840, .fp8e4m3⟩
  | .local _ .vmem, ⟨3, _⟩ => ⟨S90x3840, .i8⟩
  | .local _ .vmem, ⟨4, _⟩ => ⟨S1x3840x256, .bf16⟩
  | .local _ .vmem, ⟨5, _⟩ => ⟨S1x3840x256, .bf16⟩
  | .local _ .vmem, ⟨6, _⟩ => ⟨S2944x3840, .bf16⟩
  | .local _ .vmem, ⟨7, _⟩ => ⟨S96x3840, .f32⟩
  | _, _ => ⟨S7x3072x2944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![7, 12], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_113 : BitVec 32 := 0#32
  let c11_i32 : BitVec 32 := 11#32
  let v211 : BitVec 32 := Scalar.addi c0_i32_113 c11_i32
  let c1_i32 : BitVec 32 := 1#32
  ⟨c0_i32_113, v211, c1_i32⟩
def k0_mult1 (k0_t1 : Fin k0_t1_loop.trips) : BitVec 32 :=
  let c0_i32_113 : BitVec 32 := 0#32
  let c1_i32 : BitVec 32 := 1#32
  let arg8 : BitVec 32 := Scf.iv c0_i32_113 c1_i32 k0_t1
  let c8_i32 : BitVec 32 := 8#32
  let v245 : BitVec 32 := Scalar.muli arg8 c8_i32
  v245
def k0_off1 (k0_t1 : Fin k0_t1_loop.trips) : Fin 2 → Nat :=
  let c0_i32_113 : BitVec 32 := 0#32
  let c1_i32 : BitVec 32 := 1#32
  let arg8 : BitVec 32 := Scf.iv c0_i32_113 c1_i32 k0_t1
  let c8_i32 : BitVec 32 := 8#32
  let v245 : BitVec 32 := Scalar.muli arg8 c8_i32
  let v246 : BitVec 32 := v245
  let v247 : Index := Scalar.indexCast v246
  let c0_122 : Index := 0#32
  ![v247.toNat, 0]
def k0_mult2 (k0_t1 : Fin k0_t1_loop.trips) : BitVec 32 :=
  let c0_i32_113 : BitVec 32 := 0#32
  let c1_i32 : BitVec 32 := 1#32
  let arg8 : BitVec 32 := Scf.iv c0_i32_113 c1_i32 k0_t1
  let c8_i32_123 : BitVec 32 := 8#32
  let v249 : BitVec 32 := Scalar.muli arg8 c8_i32_123
  let c0_i32_124 : BitVec 32 := 0#32
  let v250 : BitVec 32 := Scalar.addi v249 c0_i32_124
  let c32_i32 : BitVec 32 := 32#32
  let v251 : BitVec 32 := Scalar.muli v250 c32_i32
  v251
def k0_off2 (k0_t1 : Fin k0_t1_loop.trips) (c0_i32_124 : BitVec 32) : Fin 2 → Nat :=
  let c0_i32_113 : BitVec 32 := 0#32
  let c1_i32 : BitVec 32 := 1#32
  let arg8 : BitVec 32 := Scf.iv c0_i32_113 c1_i32 k0_t1
  let c8_i32_123 : BitVec 32 := 8#32
  let v249 : BitVec 32 := Scalar.muli arg8 c8_i32_123
  let v250 : BitVec 32 := Scalar.addi v249 c0_i32_124
  let c32_i32 : BitVec 32 := 32#32
  let v251 : BitVec 32 := Scalar.muli v250 c32_i32
  let v252 : BitVec 32 := v251
  let v253 : Index := Scalar.indexCast v252
  let c0_125 : Index := 0#32
  ![v253.toNat, 0]
def k0_off3 (k0_t1 : Fin k0_t1_loop.trips) (c0_i32_124 : BitVec 32) : Fin 2 → Nat :=
  let c0_i32_113 : BitVec 32 := 0#32
  let c1_i32 : BitVec 32 := 1#32
  let arg8 : BitVec 32 := Scf.iv c0_i32_113 c1_i32 k0_t1
  let c8_i32_123 : BitVec 32 := 8#32
  let v249 : BitVec 32 := Scalar.muli arg8 c8_i32_123
  let v250 : BitVec 32 := Scalar.addi v249 c0_i32_124
  let c32_i32 : BitVec 32 := 32#32
  let v251 : BitVec 32 := Scalar.muli v250 c32_i32
  let v252 : BitVec 32 := v251
  let v261 : Index := Scalar.indexCast v252
  let c0_126 : Index := 0#32
  ![v261.toNat, 0]
def k0_mult3 (k0_t1 : Fin k0_t1_loop.trips) : BitVec 32 :=
  let c0_i32_113 : BitVec 32 := 0#32
  let c1_i32 : BitVec 32 := 1#32
  let arg8 : BitVec 32 := Scf.iv c0_i32_113 c1_i32 k0_t1
  let c8_i32_127 : BitVec 32 := 8#32
  let v265 : BitVec 32 := Scalar.muli arg8 c8_i32_127
  let c1_i32_128 : BitVec 32 := 1#32
  let v266 : BitVec 32 := Scalar.addi v265 c1_i32_128
  let c32_i32_129 : BitVec 32 := 32#32
  let v267 : BitVec 32 := Scalar.muli v266 c32_i32_129
  v267
def k0_mult4 (k0_t1 : Fin k0_t1_loop.trips) : BitVec 32 :=
  let c0_i32_113 : BitVec 32 := 0#32
  let c1_i32 : BitVec 32 := 1#32
  let arg8 : BitVec 32 := Scf.iv c0_i32_113 c1_i32 k0_t1
  let c8_i32_132 : BitVec 32 := 8#32
  let v281 : BitVec 32 := Scalar.muli arg8 c8_i32_132
  let c2_i32 : BitVec 32 := 2#32
  let v282 : BitVec 32 := Scalar.addi v281 c2_i32
  let c32_i32_133 : BitVec 32 := 32#32
  let v283 : BitVec 32 := Scalar.muli v282 c32_i32_133
  v283
def k0_mult5 (k0_t1 : Fin k0_t1_loop.trips) : BitVec 32 :=
  let c0_i32_113 : BitVec 32 := 0#32
  let c1_i32 : BitVec 32 := 1#32
  let arg8 : BitVec 32 := Scf.iv c0_i32_113 c1_i32 k0_t1
  let c8_i32_136 : BitVec 32 := 8#32
  let v297 : BitVec 32 := Scalar.muli arg8 c8_i32_136
  let c3_i32 : BitVec 32 := 3#32
  let v298 : BitVec 32 := Scalar.addi v297 c3_i32
  let c32_i32_137 : BitVec 32 := 32#32
  let v299 : BitVec 32 := Scalar.muli v298 c32_i32_137
  v299
def k0_mult6 (k0_t1 : Fin k0_t1_loop.trips) : BitVec 32 :=
  let c0_i32_113 : BitVec 32 := 0#32
  let c1_i32 : BitVec 32 := 1#32
  let arg8 : BitVec 32 := Scf.iv c0_i32_113 c1_i32 k0_t1
  let c8_i32_140 : BitVec 32 := 8#32
  let v313 : BitVec 32 := Scalar.muli arg8 c8_i32_140
  let c4_i32 : BitVec 32 := 4#32
  let v314 : BitVec 32 := Scalar.addi v313 c4_i32
  let c32_i32_141 : BitVec 32 := 32#32
  let v315 : BitVec 32 := Scalar.muli v314 c32_i32_141
  v315
def k0_mult7 (k0_t1 : Fin k0_t1_loop.trips) : BitVec 32 :=
  let c0_i32_113 : BitVec 32 := 0#32
  let c1_i32 : BitVec 32 := 1#32
  let arg8 : BitVec 32 := Scf.iv c0_i32_113 c1_i32 k0_t1
  let c8_i32_144 : BitVec 32 := 8#32
  let v329 : BitVec 32 := Scalar.muli arg8 c8_i32_144
  let c5_i32 : BitVec 32 := 5#32
  let v330 : BitVec 32 := Scalar.addi v329 c5_i32
  let c32_i32_145 : BitVec 32 := 32#32
  let v331 : BitVec 32 := Scalar.muli v330 c32_i32_145
  v331
def k0_mult8 (k0_t1 : Fin k0_t1_loop.trips) : BitVec 32 :=
  let c0_i32_113 : BitVec 32 := 0#32
  let c1_i32 : BitVec 32 := 1#32
  let arg8 : BitVec 32 := Scf.iv c0_i32_113 c1_i32 k0_t1
  let c8_i32_148 : BitVec 32 := 8#32
  let v345 : BitVec 32 := Scalar.muli arg8 c8_i32_148
  let c6_i32 : BitVec 32 := 6#32
  let v346 : BitVec 32 := Scalar.addi v345 c6_i32
  let c32_i32_149 : BitVec 32 := 32#32
  let v347 : BitVec 32 := Scalar.muli v346 c32_i32_149
  v347
def k0_mult9 (k0_t1 : Fin k0_t1_loop.trips) : BitVec 32 :=
  let c0_i32_113 : BitVec 32 := 0#32
  let c1_i32 : BitVec 32 := 1#32
  let arg8 : BitVec 32 := Scf.iv c0_i32_113 c1_i32 k0_t1
  let c8_i32_152 : BitVec 32 := 8#32
  let v361 : BitVec 32 := Scalar.muli arg8 c8_i32_152
  let c7_i32 : BitVec 32 := 7#32
  let v362 : BitVec 32 := Scalar.addi v361 c7_i32
  let c32_i32_153 : BitVec 32 := 32#32
  let v363 : BitVec 32 := Scalar.muli v362 c32_i32_153
  v363
def k0_mult10 : BitVec 32 :=
  let c88_i32 : BitVec 32 := 88#32
  c88_i32
def k0_mult11 : BitVec 32 :=
  let c2816_i32 : BitVec 32 := 2816#32
  c2816_i32
def k0_mult12 : BitVec 32 :=
  let c2848_i32 : BitVec 32 := 2848#32
  c2848_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2880x3840 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S90x3840 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3840x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateReferenceIdeal.lean ====
abbrev S7x3072x2944 : Shape := ⟨3, ![7, 3072, 2944]⟩
abbrev S3840x2880 : Shape := ⟨2, ![3840, 2880]⟩
abbrev S3840x90 : Shape := ⟨2, ![3840, 90]⟩
abbrev S7x3840x3072 : Shape := ⟨3, ![7, 3840, 3072]⟩
abbrev S3840x90x32 : Shape := ⟨3, ![3840, 90, 32]⟩
abbrev S3840x90x1 : Shape := ⟨3, ![3840, 90, 1]⟩
abbrev S1x3072x2944 : Shape := ⟨3, ![1, 3072, 2944]⟩
abbrev S3072x2944 : Shape := ⟨2, ![3072, 2944]⟩
abbrev S3072x2880 : Shape := ⟨2, ![3072, 2880]⟩
abbrev S2880x3840 : Shape := ⟨2, ![2880, 3840]⟩
abbrev S3072x3840 : Shape := ⟨2, ![3072, 3840]⟩
abbrev S3840x3072 : Shape := ⟨2, ![3840, 3072]⟩
abbrev S1x3840x3072 : Shape := ⟨3, ![1, 3840, 3072]⟩

abbrev nBuf : Space → Nat
  | .hbm => 4
  | .vmem => 4
  | .smem => 0
  | _ => 0

abbrev bufTy : (tb : Table) → Fin (tcTables nBuf tb) → BufTy
  | .hbm, ⟨0, _⟩ => ⟨S7x3072x2944, .bf16⟩
  | .hbm, ⟨1, _⟩ => ⟨S3840x2880, .fp8e4m3⟩
  | .hbm, ⟨2, _⟩ => ⟨S3840x90, .i8⟩
  | .hbm, ⟨3, _⟩ => ⟨S7x3840x3072, .bf16⟩
  | .local _ .vmem, ⟨0, _⟩ => ⟨S7x3072x2944, .bf16⟩
  | .local _ .vmem, ⟨1, _⟩ => ⟨S3840x2880, .fp8e4m3⟩
  | .local _ .vmem, ⟨2, _⟩ => ⟨S3840x90, .i8⟩
  | .local _ .vmem, ⟨3, _⟩ => ⟨S7x3840x3072, .bf16⟩
  | _, _ => ⟨S7x3072x2944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S7x3072x2944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x90 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7x3840x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== V.lean ====
abbrev S7x3072x2944 : Shape := ⟨3, ![7, 3072, 2944]⟩
abbrev S3840x2880 : Shape := ⟨2, ![3840, 2880]⟩
abbrev S3840x90 : Shape := ⟨2, ![3840, 90]⟩
abbrev S3840x4 : Shape := ⟨2, ![3840, 4]⟩
abbrev S2880x3840 : Shape := ⟨2, ![2880, 3840]⟩
abbrev S90x3840 : Shape := ⟨2, ![90, 3840]⟩
abbrev S4x3840 : Shape := ⟨2, ![4, 3840]⟩
abbrev S7x3840x3072 : Shape := ⟨3, ![7, 3840, 3072]⟩
abbrev S7x8x3840 : Shape := ⟨3, ![7, 8, 3840]⟩
abbrev S1x256x2944 : Shape := ⟨3, ![1, 256, 2944]⟩
abbrev S1x3840x256 : Shape := ⟨3, ![1, 3840, 256]⟩
abbrev S1x8x3840 : Shape := ⟨3, ![1, 8, 3840]⟩
abbrev S2944x3840 : Shape := ⟨2, ![2944, 3840]⟩
abbrev S96x3840 : Shape := ⟨2, ![96, 3840]⟩
abbrev S30x8x128 : Shape := ⟨3, ![30, 8, 128]⟩
abbrev S4x264x128 : Shape := ⟨3, ![4, 264, 128]⟩
abbrev S8x3840 : Shape := ⟨2, ![8, 3840]⟩
abbrev S32x3840 : Shape := ⟨2, ![32, 3840]⟩
abbrev S1x3840 : Shape := ⟨2, ![1, 3840]⟩
abbrev S64x3840 : Shape := ⟨2, ![64, 3840]⟩
abbrev S256x2944 : Shape := ⟨2, ![256, 2944]⟩
abbrev S2944x256 : Shape := ⟨2, ![2944, 256]⟩
abbrev S256x256 : Shape := ⟨2, ![256, 256]⟩
abbrev S256x128 : Shape := ⟨2, ![256, 128]⟩
abbrev S1x8x128 : Shape := ⟨3, ![1, 8, 128]⟩
abbrev S8x128 : Shape := ⟨2, ![8, 128]⟩
abbrev S1x256x128 : Shape := ⟨3, ![1, 256, 128]⟩
abbrev S1x128 : Shape := ⟨2, ![1, 128]⟩
abbrev S128x256 : Shape := ⟨2, ![128, 256]⟩
abbrev S1x128x256 : Shape := ⟨3, ![1, 128, 256]⟩

abbrev nBuf : Space → Nat
  | .hbm => 9
  | .vmem => 13
  | .smem => 0
  | _ => 0

abbrev bufTy : (tb : Table) → Fin (tcTables nBuf tb) → BufTy
  | .hbm, ⟨0, _⟩ => ⟨S7x3072x2944, .bf16⟩
  | .hbm, ⟨1, _⟩ => ⟨S3840x2880, .fp8e4m3⟩
  | .hbm, ⟨2, _⟩ => ⟨S3840x90, .i8⟩
  | .hbm, ⟨3, _⟩ => ⟨S3840x4, .f32⟩
  | .hbm, ⟨4, _⟩ => ⟨S2880x3840, .fp8e4m3⟩
  | .hbm, ⟨5, _⟩ => ⟨S90x3840, .i8⟩
  | .hbm, ⟨6, _⟩ => ⟨S4x3840, .f32⟩
  | .hbm, ⟨7, _⟩ => ⟨S7x3840x3072, .bf16⟩
  | .hbm, ⟨8, _⟩ => ⟨S7x8x3840, .bf16⟩
  | .local _ .vmem, ⟨0, _⟩ => ⟨S1x256x2944, .bf16⟩
  | .local _ .vmem, ⟨1, _⟩ => ⟨S1x256x2944, .bf16⟩
  | .local _ .vmem, ⟨2, _⟩ => ⟨S2880x3840, .fp8e4m3⟩
  | .local _ .vmem, ⟨3, _⟩ => ⟨S90x3840, .i8⟩
  | .local _ .vmem, ⟨4, _⟩ => ⟨S4x3840, .f32⟩
  | .local _ .vmem, ⟨5, _⟩ => ⟨S1x3840x256, .bf16⟩
  | .local _ .vmem, ⟨6, _⟩ => ⟨S1x3840x256, .bf16⟩
  | .local _ .vmem, ⟨7, _⟩ => ⟨S1x8x3840, .bf16⟩
  | .local _ .vmem, ⟨8, _⟩ => ⟨S1x8x3840, .bf16⟩
  | .local _ .vmem, ⟨9, _⟩ => ⟨S2944x3840, .bf16⟩
  | .local _ .vmem, ⟨10, _⟩ => ⟨S96x3840, .f32⟩
  | .local _ .vmem, ⟨11, _⟩ => ⟨S30x8x128, .f32⟩
  | .local _ .vmem, ⟨12, _⟩ => ⟨S4x264x128, .f32⟩
  | _, _ => ⟨S7x3072x2944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![7, 12], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_1226 : BitVec 32 := 0#32
  let c11_i32 : BitVec 32 := 11#32
  let v1654 : BitVec 32 := Scalar.addi c0_i32_1226 c11_i32
  let c1_i32 : BitVec 32 := 1#32
  ⟨c0_i32_1226, v1654, c1_i32⟩
def k0_mult1 (k0_t1 : Fin k0_t1_loop.trips) : BitVec 32 :=
  let c0_i32_1226 : BitVec 32 := 0#32
  let c1_i32 : BitVec 32 := 1#32
  let arg12 : BitVec 32 := Scf.iv c0_i32_1226 c1_i32 k0_t1
  let c8_i32 : BitVec 32 := 8#32
  let v1688 : BitVec 32 := Scalar.muli arg12 c8_i32
  v1688
def k0_off1 (k0_t1 : Fin k0_t1_loop.trips) : Fin 2 → Nat :=
  let c0_i32_1226 : BitVec 32 := 0#32
  let c1_i32 : BitVec 32 := 1#32
  let arg12 : BitVec 32 := Scf.iv c0_i32_1226 c1_i32 k0_t1
  let c8_i32 : BitVec 32 := 8#32
  let v1688 : BitVec 32 := Scalar.muli arg12 c8_i32
  let v1689 : BitVec 32 := v1688
  let v1690 : Index := Scalar.indexCast v1689
  let c0_1235 : Index := 0#32
  ![v1690.toNat, 0]
def k0_mult2 (k0_t1 : Fin k0_t1_loop.trips) : BitVec 32 :=
  let c0_i32_1226 : BitVec 32 := 0#32
  let c1_i32 : BitVec 32 := 1#32
  let arg12 : BitVec 32 := Scf.iv c0_i32_1226 c1_i32 k0_t1
  let c8_i32_1236 : BitVec 32 := 8#32
  let v1692 : BitVec 32 := Scalar.muli arg12 c8_i32_1236
  let c0_i32_1237 : BitVec 32 := 0#32
  let v1693 : BitVec 32 := Scalar.addi v1692 c0_i32_1237
  let c32_i32 : BitVec 32 := 32#32
  let v1694 : BitVec 32 := Scalar.muli v1693 c32_i32
  v1694
def k0_off2 (k0_t1 : Fin k0_t1_loop.trips) (c0_i32_1237 : BitVec 32) : Fin 2 → Nat :=
  let c0_i32_1226 : BitVec 32 := 0#32
  let c1_i32 : BitVec 32 := 1#32
  let arg12 : BitVec 32 := Scf.iv c0_i32_1226 c1_i32 k0_t1
  let c8_i32_1236 : BitVec 32 := 8#32
  let v1692 : BitVec 32 := Scalar.muli arg12 c8_i32_1236
  let v1693 : BitVec 32 := Scalar.addi v1692 c0_i32_1237
  let c32_i32 : BitVec 32 := 32#32
  let v1694 : BitVec 32 := Scalar.muli v1693 c32_i32
  let v1695 : BitVec 32 := v1694
  let v1696 : Index := Scalar.indexCast v1695
  let c0_1238 : Index := 0#32
  ![v1696.toNat, 0]
def k0_off3 (k0_t1 : Fin k0_t1_loop.trips) (c0_i32_1237 : BitVec 32) : Fin 2 → Nat :=
  let c0_i32_1226 : BitVec 32 := 0#32
  let c1_i32 : BitVec 32 := 1#32
  let arg12 : BitVec 32 := Scf.iv c0_i32_1226 c1_i32 k0_t1
  let c8_i32_1236 : BitVec 32 := 8#32
  let v1692 : BitVec 32 := Scalar.muli arg12 c8_i32_1236
  let v1693 : BitVec 32 := Scalar.addi v1692 c0_i32_1237
  let c32_i32 : BitVec 32 := 32#32
  let v1694 : BitVec 32 := Scalar.muli v1693 c32_i32
  let v1695 : BitVec 32 := v1694
  let v1704 : Index := Scalar.indexCast v1695
  let c0_1239 : Index := 0#32
  ![v1704.toNat, 0]
def k0_mult3 (k0_t1 : Fin k0_t1_loop.trips) : BitVec 32 :=
  let c0_i32_1226 : BitVec 32 := 0#32
  let c1_i32 : BitVec 32 := 1#32
  let arg12 : BitVec 32 := Scf.iv c0_i32_1226 c1_i32 k0_t1
  let c8_i32_1240 : BitVec 32 := 8#32
  let v1708 : BitVec 32 := Scalar.muli arg12 c8_i32_1240
  let c1_i32_1241 : BitVec 32 := 1#32
  let v1709 : BitVec 32 := Scalar.addi v1708 c1_i32_1241
  let c32_i32_1242 : BitVec 32 := 32#32
  let v1710 : BitVec 32 := Scalar.muli v1709 c32_i32_1242
  v1710
def k0_mult4 (k0_t1 : Fin k0_t1_loop.trips) : BitVec 32 :=
  let c0_i32_1226 : BitVec 32 := 0#32
  let c1_i32 : BitVec 32 := 1#32
  let arg12 : BitVec 32 := Scf.iv c0_i32_1226 c1_i32 k0_t1
  let c8_i32_1245 : BitVec 32 := 8#32
  let v1724 : BitVec 32 := Scalar.muli arg12 c8_i32_1245
  let c2_i32 : BitVec 32 := 2#32
  let v1725 : BitVec 32 := Scalar.addi v1724 c2_i32
  let c32_i32_1246 : BitVec 32 := 32#32
  let v1726 : BitVec 32 := Scalar.muli v1725 c32_i32_1246
  v1726
def k0_mult5 (k0_t1 : Fin k0_t1_loop.trips) : BitVec 32 :=
  let c0_i32_1226 : BitVec 32 := 0#32
  let c1_i32 : BitVec 32 := 1#32
  let arg12 : BitVec 32 := Scf.iv c0_i32_1226 c1_i32 k0_t1
  let c8_i32_1249 : BitVec 32 := 8#32
  let v1740 : BitVec 32 := Scalar.muli arg12 c8_i32_1249
  let c3_i32 : BitVec 32 := 3#32
  let v1741 : BitVec 32 := Scalar.addi v1740 c3_i32
  let c32_i32_1250 : BitVec 32 := 32#32
  let v1742 : BitVec 32 := Scalar.muli v1741 c32_i32_1250
  v1742
def k0_mult6 (k0_t1 : Fin k0_t1_loop.trips) : BitVec 32 :=
  let c0_i32_1226 : BitVec 32 := 0#32
  let c1_i32 : BitVec 32 := 1#32
  let arg12 : BitVec 32 := Scf.iv c0_i32_1226 c1_i32 k0_t1
  let c8_i32_1253 : BitVec 32 := 8#32
  let v1756 : BitVec 32 := Scalar.muli arg12 c8_i32_1253
  let c4_i32 : BitVec 32 := 4#32
  let v1757 : BitVec 32 := Scalar.addi v1756 c4_i32
  let c32_i32_1254 : BitVec 32 := 32#32
  let v1758 : BitVec 32 := Scalar.muli v1757 c32_i32_1254
  v1758
def k0_mult7 (k0_t1 : Fin k0_t1_loop.trips) : BitVec 32 :=
  let c0_i32_1226 : BitVec 32 := 0#32
  let c1_i32 : BitVec 32 := 1#32
  let arg12 : BitVec 32 := Scf.iv c0_i32_1226 c1_i32 k0_t1
  let c8_i32_1257 : BitVec 32 := 8#32
  let v1772 : BitVec 32 := Scalar.muli arg12 c8_i32_1257
  let c5_i32 : BitVec 32 := 5#32
  let v1773 : BitVec 32 := Scalar.addi v1772 c5_i32
  let c32_i32_1258 : BitVec 32 := 32#32
  let v1774 : BitVec 32 := Scalar.muli v1773 c32_i32_1258
  v1774
def k0_mult8 (k0_t1 : Fin k0_t1_loop.trips) : BitVec 32 :=
  let c0_i32_1226 : BitVec 32 := 0#32
  let c1_i32 : BitVec 32 := 1#32
  let arg12 : BitVec 32 := Scf.iv c0_i32_1226 c1_i32 k0_t1
  let c8_i32_1261 : BitVec 32 := 8#32
  let v1788 : BitVec 32 := Scalar.muli arg12 c8_i32_1261
  let c6_i32 : BitVec 32 := 6#32
  let v1789 : BitVec 32 := Scalar.addi v1788 c6_i32
  let c32_i32_1262 : BitVec 32 := 32#32
  let v1790 : BitVec 32 := Scalar.muli v1789 c32_i32_1262
  v1790
def k0_mult9 (k0_t1 : Fin k0_t1_loop.trips) : BitVec 32 :=
  let c0_i32_1226 : BitVec 32 := 0#32
  let c1_i32 : BitVec 32 := 1#32
  let arg12 : BitVec 32 := Scf.iv c0_i32_1226 c1_i32 k0_t1
  let c8_i32_1265 : BitVec 32 := 8#32
  let v1804 : BitVec 32 := Scalar.muli arg12 c8_i32_1265
  let c7_i32 : BitVec 32 := 7#32
  let v1805 : BitVec 32 := Scalar.addi v1804 c7_i32
  let c32_i32_1266 : BitVec 32 := 32#32
  let v1806 : BitVec 32 := Scalar.muli v1805 c32_i32_1266
  v1806
def k0_mult10 : BitVec 32 :=
  let c88_i32 : BitVec 32 := 88#32
  c88_i32
def k0_mult11 : BitVec 32 :=
  let c2816_i32 : BitVec 32 := 2816#32
  c2816_i32
def k0_mult12 : BitVec 32 :=
  let c2848_i32 : BitVec 32 := 2848#32
  c2848_i32
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2880x3840 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S90x3840 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3840x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x3840 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== VReferenceIdeal.lean ====
abbrev S7x3072x2944 : Shape := ⟨3, ![7, 3072, 2944]⟩
abbrev S3840x2880 : Shape := ⟨2, ![3840, 2880]⟩
abbrev S3840x90 : Shape := ⟨2, ![3840, 90]⟩
abbrev S3840x4 : Shape := ⟨2, ![3840, 4]⟩
abbrev S7x3840x3072 : Shape := ⟨3, ![7, 3840, 3072]⟩
abbrev S7x8x3840 : Shape := ⟨3, ![7, 8, 3840]⟩
abbrev S3840x90x32 : Shape := ⟨3, ![3840, 90, 32]⟩
abbrev S3840x90x1 : Shape := ⟨3, ![3840, 90, 1]⟩
abbrev S1x3072x2944 : Shape := ⟨3, ![1, 3072, 2944]⟩
abbrev S3072x2944 : Shape := ⟨2, ![3072, 2944]⟩
abbrev S3072x2880 : Shape := ⟨2, ![3072, 2880]⟩
abbrev S2880x3840 : Shape := ⟨2, ![2880, 3840]⟩
abbrev S3072x3840 : Shape := ⟨2, ![3072, 3840]⟩
abbrev S3x3840 : Shape := ⟨2, ![3, 3840]⟩
abbrev S3075x3840 : Shape := ⟨2, ![3075, 3840]⟩
abbrev S3840x1 : Shape := ⟨2, ![3840, 1]⟩
abbrev S3840 : Shape := ⟨1, ![3840]⟩
abbrev S1x3840 : Shape := ⟨2, ![1, 3840]⟩
abbrev S3840x3072 : Shape := ⟨2, ![3840, 3072]⟩
abbrev S1x3840x3072 : Shape := ⟨3, ![1, 3840, 3072]⟩
abbrev S8x3840 : Shape := ⟨2, ![8, 3840]⟩
abbrev S1x8x3840 : Shape := ⟨3, ![1, 8, 3840]⟩

abbrev nBuf : Space → Nat
  | .hbm => 6
  | .vmem => 6
  | .smem => 0
  | _ => 0

abbrev bufTy : (tb : Table) → Fin (tcTables nBuf tb) → BufTy
  | .hbm, ⟨0, _⟩ => ⟨S7x3072x2944, .bf16⟩
  | .hbm, ⟨1, _⟩ => ⟨S3840x2880, .fp8e4m3⟩
  | .hbm, ⟨2, _⟩ => ⟨S3840x90, .i8⟩
  | .hbm, ⟨3, _⟩ => ⟨S3840x4, .f32⟩
  | .hbm, ⟨4, _⟩ => ⟨S7x3840x3072, .bf16⟩
  | .hbm, ⟨5, _⟩ => ⟨S7x8x3840, .bf16⟩
  | .local _ .vmem, ⟨0, _⟩ => ⟨S7x3072x2944, .bf16⟩
  | .local _ .vmem, ⟨1, _⟩ => ⟨S3840x2880, .fp8e4m3⟩
  | .local _ .vmem, ⟨2, _⟩ => ⟨S3840x90, .i8⟩
  | .local _ .vmem, ⟨3, _⟩ => ⟨S3840x4, .f32⟩
  | .local _ .vmem, ⟨4, _⟩ => ⟨S7x3840x3072, .bf16⟩
  | .local _ .vmem, ⟨5, _⟩ => ⟨S7x8x3840, .bf16⟩
  | _, _ => ⟨S7x3072x2944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S7x3072x2944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3840x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x90 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7x3840x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7x8x3840 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Qk.lean ====
abbrev S7x3072x2944 : Shape := ⟨3, ![7, 3072, 2944]⟩
abbrev S1920x2880 : Shape := ⟨2, ![1920, 2880]⟩
abbrev S1920x90 : Shape := ⟨2, ![1920, 90]⟩
abbrev S1920x4 : Shape := ⟨2, ![1920, 4]⟩
abbrev S4x1920 : Shape := ⟨2, ![4, 1920]⟩
abbrev S4x3840 : Shape := ⟨2, ![4, 3840]⟩
abbrev S2880x1920 : Shape := ⟨2, ![2880, 1920]⟩
abbrev S90x1920 : Shape := ⟨2, ![90, 1920]⟩
abbrev S7x3840x3072 : Shape := ⟨3, ![7, 3840, 3072]⟩
abbrev S7x8x3840 : Shape := ⟨3, ![7, 8, 3840]⟩
abbrev S1x256x2944 : Shape := ⟨3, ![1, 256, 2944]⟩
abbrev S1x3840x256 : Shape := ⟨3, ![1, 3840, 256]⟩
abbrev S1x8x3840 : Shape := ⟨3, ![1, 8, 3840]⟩
abbrev S2944x3840 : Shape := ⟨2, ![2944, 3840]⟩
abbrev S96x1920 : Shape := ⟨2, ![96, 1920]⟩
abbrev S30x8x128 : Shape := ⟨3, ![30, 8, 128]⟩
abbrev S4x264x128 : Shape := ⟨3, ![4, 264, 128]⟩
abbrev S8x1920 : Shape := ⟨2, ![8, 1920]⟩
abbrev S32x1920 : Shape := ⟨2, ![32, 1920]⟩
abbrev S1x1920 : Shape := ⟨2, ![1, 1920]⟩
abbrev S64x3840 : Shape := ⟨2, ![64, 3840]⟩
abbrev S256x2944 : Shape := ⟨2, ![256, 2944]⟩
abbrev S2944x256 : Shape := ⟨2, ![2944, 256]⟩
abbrev S256x256 : Shape := ⟨2, ![256, 256]⟩
abbrev S256x128 : Shape := ⟨2, ![256, 128]⟩
abbrev S1x8x128 : Shape := ⟨3, ![1, 8, 128]⟩
abbrev S8x128 : Shape := ⟨2, ![8, 128]⟩
abbrev S1x256x128 : Shape := ⟨3, ![1, 256, 128]⟩
abbrev S1x128 : Shape := ⟨2, ![1, 128]⟩
abbrev S128x256 : Shape := ⟨2, ![128, 256]⟩
abbrev S1x128x256 : Shape := ⟨3, ![1, 128, 256]⟩

abbrev nBuf : Space → Nat
  | .hbm => 16
  | .vmem => 15
  | .smem => 0
  | _ => 0

abbrev bufTy : (tb : Table) → Fin (tcTables nBuf tb) → BufTy
  | .hbm, ⟨0, _⟩ => ⟨S7x3072x2944, .bf16⟩
  | .hbm, ⟨1, _⟩ => ⟨S1920x2880, .fp8e4m3⟩
  | .hbm, ⟨2, _⟩ => ⟨S1920x2880, .fp8e4m3⟩
  | .hbm, ⟨3, _⟩ => ⟨S1920x90, .i8⟩
  | .hbm, ⟨4, _⟩ => ⟨S1920x90, .i8⟩
  | .hbm, ⟨5, _⟩ => ⟨S1920x4, .f32⟩
  | .hbm, ⟨6, _⟩ => ⟨S1920x4, .f32⟩
  | .hbm, ⟨7, _⟩ => ⟨S4x1920, .f32⟩
  | .hbm, ⟨8, _⟩ => ⟨S4x1920, .f32⟩
  | .hbm, ⟨9, _⟩ => ⟨S4x3840, .f32⟩
  | .hbm, ⟨10, _⟩ => ⟨S2880x1920, .fp8e4m3⟩
  | .hbm, ⟨11, _⟩ => ⟨S2880x1920, .fp8e4m3⟩
  | .hbm, ⟨12, _⟩ => ⟨S90x1920, .i8⟩
  | .hbm, ⟨13, _⟩ => ⟨S90x1920, .i8⟩
  | .hbm, ⟨14, _⟩ => ⟨S7x3840x3072, .bf16⟩
  | .hbm, ⟨15, _⟩ => ⟨S7x8x3840, .bf16⟩
  | .local _ .vmem, ⟨0, _⟩ => ⟨S1x256x2944, .bf16⟩
  | .local _ .vmem, ⟨1, _⟩ => ⟨S1x256x2944, .bf16⟩
  | .local _ .vmem, ⟨2, _⟩ => ⟨S2880x1920, .fp8e4m3⟩
  | .local _ .vmem, ⟨3, _⟩ => ⟨S2880x1920, .fp8e4m3⟩
  | .local _ .vmem, ⟨4, _⟩ => ⟨S90x1920, .i8⟩
  | .local _ .vmem, ⟨5, _⟩ => ⟨S90x1920, .i8⟩
  | .local _ .vmem, ⟨6, _⟩ => ⟨S4x3840, .f32⟩
  | .local _ .vmem, ⟨7, _⟩ => ⟨S1x3840x256, .bf16⟩
  | .local _ .vmem, ⟨8, _⟩ => ⟨S1x3840x256, .bf16⟩
  | .local _ .vmem, ⟨9, _⟩ => ⟨S1x8x3840, .bf16⟩
  | .local _ .vmem, ⟨10, _⟩ => ⟨S1x8x3840, .bf16⟩
  | .local _ .vmem, ⟨11, _⟩ => ⟨S2944x3840, .bf16⟩
  | .local _ .vmem, ⟨12, _⟩ => ⟨S96x1920, .f32⟩
  | .local _ .vmem, ⟨13, _⟩ => ⟨S30x8x128, .f32⟩
  | .local _ .vmem, ⟨14, _⟩ => ⟨S4x264x128, .f32⟩
  | _, _ => ⟨S7x3072x2944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![7, 12], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_1226 : BitVec 32 := 0#32
  let c11_i32 : BitVec 32 := 11#32
  let v1654 : BitVec 32 := Scalar.addi c0_i32_1226 c11_i32
  let c1_i32 : BitVec 32 := 1#32
  ⟨c0_i32_1226, v1654, c1_i32⟩
def k0_mult1 (k0_t1 : Fin k0_t1_loop.trips) : BitVec 32 :=
  let c0_i32_1226 : BitVec 32 := 0#32
  let c1_i32 : BitVec 32 := 1#32
  let arg14 : BitVec 32 := Scf.iv c0_i32_1226 c1_i32 k0_t1
  let c8_i32 : BitVec 32 := 8#32
  let v1727 : BitVec 32 := Scalar.muli arg14 c8_i32
  v1727
def k0_off1 (k0_t1 : Fin k0_t1_loop.trips) : Fin 2 → Nat :=
  let c0_i32_1226 : BitVec 32 := 0#32
  let c1_i32 : BitVec 32 := 1#32
  let arg14 : BitVec 32 := Scf.iv c0_i32_1226 c1_i32 k0_t1
  let c8_i32 : BitVec 32 := 8#32
  let v1727 : BitVec 32 := Scalar.muli arg14 c8_i32
  let v1728 : BitVec 32 := v1727
  let v1729 : Index := Scalar.indexCast v1728
  let c0_1252 : Index := 0#32
  ![v1729.toNat, 0]
def k0_mult2 (k0_t1 : Fin k0_t1_loop.trips) : BitVec 32 :=
  let c0_i32_1226 : BitVec 32 := 0#32
  let c1_i32 : BitVec 32 := 1#32
  let arg14 : BitVec 32 := Scf.iv c0_i32_1226 c1_i32 k0_t1
  let c8_i32_1253 : BitVec 32 := 8#32
  let v1731 : BitVec 32 := Scalar.muli arg14 c8_i32_1253
  let c0_i32_1254 : BitVec 32 := 0#32
  let v1732 : BitVec 32 := Scalar.addi v1731 c0_i32_1254
  let c32_i32 : BitVec 32 := 32#32
  let v1733 : BitVec 32 := Scalar.muli v1732 c32_i32
  v1733
def k0_off2 (k0_t1 : Fin k0_t1_loop.trips) (c0_i32_1254 : BitVec 32) : Fin 2 → Nat :=
  let c0_i32_1226 : BitVec 32 := 0#32
  let c1_i32 : BitVec 32 := 1#32
  let arg14 : BitVec 32 := Scf.iv c0_i32_1226 c1_i32 k0_t1
  let c8_i32_1253 : BitVec 32 := 8#32
  let v1731 : BitVec 32 := Scalar.muli arg14 c8_i32_1253
  let v1732 : BitVec 32 := Scalar.addi v1731 c0_i32_1254
  let c32_i32 : BitVec 32 := 32#32
  let v1733 : BitVec 32 := Scalar.muli v1732 c32_i32
  let v1734 : BitVec 32 := v1733
  let v1735 : Index := Scalar.indexCast v1734
  let c0_1255 : Index := 0#32
  ![v1735.toNat, 0]
def k0_off3 (k0_t1 : Fin k0_t1_loop.trips) (c0_i32_1254 : BitVec 32) : Fin 2 → Nat :=
  let c0_i32_1226 : BitVec 32 := 0#32
  let c1_i32 : BitVec 32 := 1#32
  let arg14 : BitVec 32 := Scf.iv c0_i32_1226 c1_i32 k0_t1
  let c8_i32_1253 : BitVec 32 := 8#32
  let v1731 : BitVec 32 := Scalar.muli arg14 c8_i32_1253
  let v1732 : BitVec 32 := Scalar.addi v1731 c0_i32_1254
  let c32_i32 : BitVec 32 := 32#32
  let v1733 : BitVec 32 := Scalar.muli v1732 c32_i32
  let v1734 : BitVec 32 := v1733
  let v1743 : Index := Scalar.indexCast v1734
  let c0_1256 : Index := 0#32
  ![v1743.toNat, 0]
def k0_mult3 (k0_t1 : Fin k0_t1_loop.trips) : BitVec 32 :=
  let c0_i32_1226 : BitVec 32 := 0#32
  let c1_i32 : BitVec 32 := 1#32
  let arg14 : BitVec 32 := Scf.iv c0_i32_1226 c1_i32 k0_t1
  let c8_i32_1257 : BitVec 32 := 8#32
  let v1747 : BitVec 32 := Scalar.muli arg14 c8_i32_1257
  let c1_i32_1258 : BitVec 32 := 1#32
  let v1748 : BitVec 32 := Scalar.addi v1747 c1_i32_1258
  let c32_i32_1259 : BitVec 32 := 32#32
  let v1749 : BitVec 32 := Scalar.muli v1748 c32_i32_1259
  v1749
def k0_mult4 (k0_t1 : Fin k0_t1_loop.trips) : BitVec 32 :=
  let c0_i32_1226 : BitVec 32 := 0#32
  let c1_i32 : BitVec 32 := 1#32
  let arg14 : BitVec 32 := Scf.iv c0_i32_1226 c1_i32 k0_t1
  let c8_i32_1262 : BitVec 32 := 8#32
  let v1763 : BitVec 32 := Scalar.muli arg14 c8_i32_1262
  let c2_i32 : BitVec 32 := 2#32
  let v1764 : BitVec 32 := Scalar.addi v1763 c2_i32
  let c32_i32_1263 : BitVec 32 := 32#32
  let v1765 : BitVec 32 := Scalar.muli v1764 c32_i32_1263
  v1765
def k0_mult5 (k0_t1 : Fin k0_t1_loop.trips) : BitVec 32 :=
  let c0_i32_1226 : BitVec 32 := 0#32
  let c1_i32 : BitVec 32 := 1#32
  let arg14 : BitVec 32 := Scf.iv c0_i32_1226 c1_i32 k0_t1
  let c8_i32_1266 : BitVec 32 := 8#32
  let v1779 : BitVec 32 := Scalar.muli arg14 c8_i32_1266
  let c3_i32 : BitVec 32 := 3#32
  let v1780 : BitVec 32 := Scalar.addi v1779 c3_i32
  let c32_i32_1267 : BitVec 32 := 32#32
  let v1781 : BitVec 32 := Scalar.muli v1780 c32_i32_1267
  v1781
def k0_mult6 (k0_t1 : Fin k0_t1_loop.trips) : BitVec 32 :=
  let c0_i32_1226 : BitVec 32 := 0#32
  let c1_i32 : BitVec 32 := 1#32
  let arg14 : BitVec 32 := Scf.iv c0_i32_1226 c1_i32 k0_t1
  let c8_i32_1270 : BitVec 32 := 8#32
  let v1795 : BitVec 32 := Scalar.muli arg14 c8_i32_1270
  let c4_i32 : BitVec 32 := 4#32
  let v1796 : BitVec 32 := Scalar.addi v1795 c4_i32
  let c32_i32_1271 : BitVec 32 := 32#32
  let v1797 : BitVec 32 := Scalar.muli v1796 c32_i32_1271
  v1797
def k0_mult7 (k0_t1 : Fin k0_t1_loop.trips) : BitVec 32 :=
  let c0_i32_1226 : BitVec 32 := 0#32
  let c1_i32 : BitVec 32 := 1#32
  let arg14 : BitVec 32 := Scf.iv c0_i32_1226 c1_i32 k0_t1
  let c8_i32_1274 : BitVec 32 := 8#32
  let v1811 : BitVec 32 := Scalar.muli arg14 c8_i32_1274
  let c5_i32 : BitVec 32 := 5#32
  let v1812 : BitVec 32 := Scalar.addi v1811 c5_i32
  let c32_i32_1275 : BitVec 32 := 32#32
  let v1813 : BitVec 32 := Scalar.muli v1812 c32_i32_1275
  v1813
def k0_mult8 (k0_t1 : Fin k0_t1_loop.trips) : BitVec 32 :=
  let c0_i32_1226 : BitVec 32 := 0#32
  let c1_i32 : BitVec 32 := 1#32
  let arg14 : BitVec 32 := Scf.iv c0_i32_1226 c1_i32 k0_t1
  let c8_i32_1278 : BitVec 32 := 8#32
  let v1827 : BitVec 32 := Scalar.muli arg14 c8_i32_1278
  let c6_i32 : BitVec 32 := 6#32
  let v1828 : BitVec 32 := Scalar.addi v1827 c6_i32
  let c32_i32_1279 : BitVec 32 := 32#32
  let v1829 : BitVec 32 := Scalar.muli v1828 c32_i32_1279
  v1829
def k0_mult9 (k0_t1 : Fin k0_t1_loop.trips) : BitVec 32 :=
  let c0_i32_1226 : BitVec 32 := 0#32
  let c1_i32 : BitVec 32 := 1#32
  let arg14 : BitVec 32 := Scf.iv c0_i32_1226 c1_i32 k0_t1
  let c8_i32_1282 : BitVec 32 := 8#32
  let v1843 : BitVec 32 := Scalar.muli arg14 c8_i32_1282
  let c7_i32 : BitVec 32 := 7#32
  let v1844 : BitVec 32 := Scalar.addi v1843 c7_i32
  let c32_i32_1283 : BitVec 32 := 32#32
  let v1845 : BitVec 32 := Scalar.muli v1844 c32_i32_1283
  v1845
def k0_mult10 : BitVec 32 :=
  let c88_i32 : BitVec 32 := 88#32
  c88_i32
def k0_mult11 : BitVec 32 :=
  let c2816_i32 : BitVec 32 := 2816#32
  c2816_i32
def k0_mult12 : BitVec 32 :=
  let c2848_i32 : BitVec 32 := 2848#32
  c2848_i32
@[reducible] def k0_t2_loop : Scf.Loop 32 :=
  let c0_i32_1238 : BitVec 32 := 0#32
  let c11_i32_1239 : BitVec 32 := 11#32
  let v1693 : BitVec 32 := Scalar.addi c0_i32_1238 c11_i32_1239
  let c1_i32_1240 : BitVec 32 := 1#32
  ⟨c0_i32_1238, v1693, c1_i32_1240⟩
def k0_mult13 (k0_t2 : Fin k0_t2_loop.trips) : BitVec 32 :=
  let c0_i32_1238 : BitVec 32 := 0#32
  let c1_i32_1240 : BitVec 32 := 1#32
  let arg14 : BitVec 32 := Scf.iv c0_i32_1238 c1_i32_1240 k0_t2
  let c8_i32 : BitVec 32 := 8#32
  let v1727 : BitVec 32 := Scalar.muli arg14 c8_i32
  v1727
def k0_off4 (k0_t2 : Fin k0_t2_loop.trips) : Fin 2 → Nat :=
  let c0_i32_1238 : BitVec 32 := 0#32
  let c1_i32_1240 : BitVec 32 := 1#32
  let arg14 : BitVec 32 := Scf.iv c0_i32_1238 c1_i32_1240 k0_t2
  let c8_i32 : BitVec 32 := 8#32
  let v1727 : BitVec 32 := Scalar.muli arg14 c8_i32
  let v1728 : BitVec 32 := v1727
  let v1729 : Index := Scalar.indexCast v1728
  let c0_1252 : Index := 0#32
  ![v1729.toNat, 0]
def k0_mult14 (k0_t2 : Fin k0_t2_loop.trips) : BitVec 32 :=
  let c0_i32_1238 : BitVec 32 := 0#32
  let c1_i32_1240 : BitVec 32 := 1#32
  let arg14 : BitVec 32 := Scf.iv c0_i32_1238 c1_i32_1240 k0_t2
  let c8_i32_1253 : BitVec 32 := 8#32
  let v1731 : BitVec 32 := Scalar.muli arg14 c8_i32_1253
  let c0_i32_1254 : BitVec 32 := 0#32
  let v1732 : BitVec 32 := Scalar.addi v1731 c0_i32_1254
  let c32_i32 : BitVec 32 := 32#32
  let v1733 : BitVec 32 := Scalar.muli v1732 c32_i32
  v1733
def k0_off5 (k0_t2 : Fin k0_t2_loop.trips) (c0_i32_1254 : BitVec 32) : Fin 2 → Nat :=
  let c0_i32_1238 : BitVec 32 := 0#32
  let c1_i32_1240 : BitVec 32 := 1#32
  let arg14 : BitVec 32 := Scf.iv c0_i32_1238 c1_i32_1240 k0_t2
  let c8_i32_1253 : BitVec 32 := 8#32
  let v1731 : BitVec 32 := Scalar.muli arg14 c8_i32_1253
  let v1732 : BitVec 32 := Scalar.addi v1731 c0_i32_1254
  let c32_i32 : BitVec 32 := 32#32
  let v1733 : BitVec 32 := Scalar.muli v1732 c32_i32
  let v1734 : BitVec 32 := v1733
  let v1735 : Index := Scalar.indexCast v1734
  let c0_1255 : Index := 0#32
  ![v1735.toNat, 0]
def k0_off6 (k0_t2 : Fin k0_t2_loop.trips) (c0_i32_1254 : BitVec 32) : Fin 2 → Nat :=
  let c0_i32_1238 : BitVec 32 := 0#32
  let c1_i32_1240 : BitVec 32 := 1#32
  let arg14 : BitVec 32 := Scf.iv c0_i32_1238 c1_i32_1240 k0_t2
  let c8_i32_1253 : BitVec 32 := 8#32
  let v1731 : BitVec 32 := Scalar.muli arg14 c8_i32_1253
  let v1732 : BitVec 32 := Scalar.addi v1731 c0_i32_1254
  let c32_i32 : BitVec 32 := 32#32
  let v1733 : BitVec 32 := Scalar.muli v1732 c32_i32
  let v1734 : BitVec 32 := v1733
  let v1743 : Index := Scalar.indexCast v1734
  let c1920_1256 : Index := 1920#32
  ![v1743.toNat, 1920]
def k0_mult15 (k0_t2 : Fin k0_t2_loop.trips) : BitVec 32 :=
  let c0_i32_1238 : BitVec 32 := 0#32
  let c1_i32_1240 : BitVec 32 := 1#32
  let arg14 : BitVec 32 := Scf.iv c0_i32_1238 c1_i32_1240 k0_t2
  let c8_i32_1257 : BitVec 32 := 8#32
  let v1747 : BitVec 32 := Scalar.muli arg14 c8_i32_1257
  let c1_i32_1258 : BitVec 32 := 1#32
  let v1748 : BitVec 32 := Scalar.addi v1747 c1_i32_1258
  let c32_i32_1259 : BitVec 32 := 32#32
  let v1749 : BitVec 32 := Scalar.muli v1748 c32_i32_1259
  v1749
def k0_mult16 (k0_t2 : Fin k0_t2_loop.trips) : BitVec 32 :=
  let c0_i32_1238 : BitVec 32 := 0#32
  let c1_i32_1240 : BitVec 32 := 1#32
  let arg14 : BitVec 32 := Scf.iv c0_i32_1238 c1_i32_1240 k0_t2
  let c8_i32_1262 : BitVec 32 := 8#32
  let v1763 : BitVec 32 := Scalar.muli arg14 c8_i32_1262
  let c2_i32 : BitVec 32 := 2#32
  let v1764 : BitVec 32 := Scalar.addi v1763 c2_i32
  let c32_i32_1263 : BitVec 32 := 32#32
  let v1765 : BitVec 32 := Scalar.muli v1764 c32_i32_1263
  v1765
def k0_mult17 (k0_t2 : Fin k0_t2_loop.trips) : BitVec 32 :=
  let c0_i32_1238 : BitVec 32 := 0#32
  let c1_i32_1240 : BitVec 32 := 1#32
  let arg14 : BitVec 32 := Scf.iv c0_i32_1238 c1_i32_1240 k0_t2
  let c8_i32_1266 : BitVec 32 := 8#32
  let v1779 : BitVec 32 := Scalar.muli arg14 c8_i32_1266
  let c3_i32 : BitVec 32 := 3#32
  let v1780 : BitVec 32 := Scalar.addi v1779 c3_i32
  let c32_i32_1267 : BitVec 32 := 32#32
  let v1781 : BitVec 32 := Scalar.muli v1780 c32_i32_1267
  v1781
def k0_mult18 (k0_t2 : Fin k0_t2_loop.trips) : BitVec 32 :=
  let c0_i32_1238 : BitVec 32 := 0#32
  let c1_i32_1240 : BitVec 32 := 1#32
  let arg14 : BitVec 32 := Scf.iv c0_i32_1238 c1_i32_1240 k0_t2
  let c8_i32_1270 : BitVec 32 := 8#32
  let v1795 : BitVec 32 := Scalar.muli arg14 c8_i32_1270
  let c4_i32 : BitVec 32 := 4#32
  let v1796 : BitVec 32 := Scalar.addi v1795 c4_i32
  let c32_i32_1271 : BitVec 32 := 32#32
  let v1797 : BitVec 32 := Scalar.muli v1796 c32_i32_1271
  v1797
def k0_mult19 (k0_t2 : Fin k0_t2_loop.trips) : BitVec 32 :=
  let c0_i32_1238 : BitVec 32 := 0#32
  let c1_i32_1240 : BitVec 32 := 1#32
  let arg14 : BitVec 32 := Scf.iv c0_i32_1238 c1_i32_1240 k0_t2
  let c8_i32_1274 : BitVec 32 := 8#32
  let v1811 : BitVec 32 := Scalar.muli arg14 c8_i32_1274
  let c5_i32 : BitVec 32 := 5#32
  let v1812 : BitVec 32 := Scalar.addi v1811 c5_i32
  let c32_i32_1275 : BitVec 32 := 32#32
  let v1813 : BitVec 32 := Scalar.muli v1812 c32_i32_1275
  v1813
def k0_mult20 (k0_t2 : Fin k0_t2_loop.trips) : BitVec 32 :=
  let c0_i32_1238 : BitVec 32 := 0#32
  let c1_i32_1240 : BitVec 32 := 1#32
  let arg14 : BitVec 32 := Scf.iv c0_i32_1238 c1_i32_1240 k0_t2
  let c8_i32_1278 : BitVec 32 := 8#32
  let v1827 : BitVec 32 := Scalar.muli arg14 c8_i32_1278
  let c6_i32 : BitVec 32 := 6#32
  let v1828 : BitVec 32 := Scalar.addi v1827 c6_i32
  let c32_i32_1279 : BitVec 32 := 32#32
  let v1829 : BitVec 32 := Scalar.muli v1828 c32_i32_1279
  v1829
def k0_mult21 (k0_t2 : Fin k0_t2_loop.trips) : BitVec 32 :=
  let c0_i32_1238 : BitVec 32 := 0#32
  let c1_i32_1240 : BitVec 32 := 1#32
  let arg14 : BitVec 32 := Scf.iv c0_i32_1238 c1_i32_1240 k0_t2
  let c8_i32_1282 : BitVec 32 := 8#32
  let v1843 : BitVec 32 := Scalar.muli arg14 c8_i32_1282
  let c7_i32 : BitVec 32 := 7#32
  let v1844 : BitVec 32 := Scalar.addi v1843 c7_i32
  let c32_i32_1283 : BitVec 32 := 32#32
  let v1845 : BitVec 32 := Scalar.muli v1844 c32_i32_1283
  v1845
def k0_mult22 : BitVec 32 :=
  let c88_i32_1242 : BitVec 32 := 88#32
  c88_i32_1242
def k0_mult23 : BitVec 32 :=
  let c2816_i32_1244 : BitVec 32 := 2816#32
  c2816_i32_1244
def k0_mult24 : BitVec 32 :=
  let c2848_i32_1247 : BitVec 32 := 2848#32
  c2848_i32_1247
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x2944 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2880x1920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2880x1920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S90x1920 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S90x1920 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x3840 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x3840x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x3840 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== QkReferenceIdeal.lean ====
abbrev S7x3072x2944 : Shape := ⟨3, ![7, 3072, 2944]⟩
abbrev S1920x2880 : Shape := ⟨2, ![1920, 2880]⟩
abbrev S1920x90 : Shape := ⟨2, ![1920, 90]⟩
abbrev S1920x4 : Shape := ⟨2, ![1920, 4]⟩
abbrev S7x3840x3072 : Shape := ⟨3, ![7, 3840, 3072]⟩
abbrev S7x8x3840 : Shape := ⟨3, ![7, 8, 3840]⟩
abbrev S1920x90x32 : Shape := ⟨3, ![1920, 90, 32]⟩
abbrev S1920x90x1 : Shape := ⟨3, ![1920, 90, 1]⟩
abbrev S1x3072x2944 : Shape := ⟨3, ![1, 3072, 2944]⟩
abbrev S3072x2944 : Shape := ⟨2, ![3072, 2944]⟩
abbrev S3072x2880 : Shape := ⟨2, ![3072, 2880]⟩
abbrev S2880x1920 : Shape := ⟨2, ![2880, 1920]⟩
abbrev S3072x1920 : Shape := ⟨2, ![3072, 1920]⟩
abbrev S3x1920 : Shape := ⟨2, ![3, 1920]⟩
abbrev S3075x1920 : Shape := ⟨2, ![3075, 1920]⟩
abbrev S1920x1 : Shape := ⟨2, ![1920, 1]⟩
abbrev S1920 : Shape := ⟨1, ![1920]⟩
abbrev S1x1920 : Shape := ⟨2, ![1, 1920]⟩
abbrev S1920x3072 : Shape := ⟨2, ![1920, 3072]⟩
abbrev S1x1920x3072 : Shape := ⟨3, ![1, 1920, 3072]⟩
abbrev S8x1920 : Shape := ⟨2, ![8, 1920]⟩
abbrev S1x8x1920 : Shape := ⟨3, ![1, 8, 1920]⟩

abbrev nBuf : Space → Nat
  | .hbm => 9
  | .vmem => 9
  | .smem => 0
  | _ => 0

abbrev bufTy : (tb : Table) → Fin (tcTables nBuf tb) → BufTy
  | .hbm, ⟨0, _⟩ => ⟨S7x3072x2944, .bf16⟩
  | .hbm, ⟨1, _⟩ => ⟨S1920x2880, .fp8e4m3⟩
  | .hbm, ⟨2, _⟩ => ⟨S1920x2880, .fp8e4m3⟩
  | .hbm, ⟨3, _⟩ => ⟨S1920x90, .i8⟩
  | .hbm, ⟨4, _⟩ => ⟨S1920x90, .i8⟩
  | .hbm, ⟨5, _⟩ => ⟨S1920x4, .f32⟩
  | .hbm, ⟨6, _⟩ => ⟨S1920x4, .f32⟩
  | .hbm, ⟨7, _⟩ => ⟨S7x3840x3072, .bf16⟩
  | .hbm, ⟨8, _⟩ => ⟨S7x8x3840, .bf16⟩
  | .local _ .vmem, ⟨0, _⟩ => ⟨S7x3072x2944, .bf16⟩
  | .local _ .vmem, ⟨1, _⟩ => ⟨S1920x2880, .fp8e4m3⟩
  | .local _ .vmem, ⟨2, _⟩ => ⟨S1920x2880, .fp8e4m3⟩
  | .local _ .vmem, ⟨3, _⟩ => ⟨S1920x90, .i8⟩
  | .local _ .vmem, ⟨4, _⟩ => ⟨S1920x90, .i8⟩
  | .local _ .vmem, ⟨5, _⟩ => ⟨S1920x4, .f32⟩
  | .local _ .vmem, ⟨6, _⟩ => ⟨S1920x4, .f32⟩
  | .local _ .vmem, ⟨7, _⟩ => ⟨S7x3840x3072, .bf16⟩
  | .local _ .vmem, ⟨8, _⟩ => ⟨S7x8x3840, .bf16⟩
  | _, _ => ⟨S7x3072x2944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S7x3072x2944 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1920x2880 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x90 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x90 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7x3840x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7x8x3840 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Scale.lean ====
/- The scale byte of an MX block as an extended real: the kernels shift the byte into the exponent field of a float's
   word, the references raise two to the byte less the bias. Both are `power` below. Also the words in which a kernel
   counts the block of an element. -/
module

public import Idealize.ShloMosaic.Lib.Pointwise

@[expose] public section

set_option maxRecDepth 16384

noncomputable section

open Idealize.ShloMosaic

namespace Cert.Scale

/-- What a scale byte stands for: nothing for a zero byte, infinity for the last one, a power of two between. -/
def power (b : BitVec 8) : EReal :=
  if b = 0#8 then 0 else if b = 255#8 then ⊤ else (((2 : ℝ) ^ ((b.toNat : ℤ) - 127) : ℝ) : EReal)

/-- The fields of the word a shifted byte makes, as a float's: no sign, no fraction, the byte as exponent. -/
theorem word_fields_fin : ∀ n : Fin 256,
    ((IntOp.shli ArithUnit.vector ((BitVec.ofFin n : BitVec 8).setWidth 32) 23#32).extractLsb' 31 1 == 1#1) = false
    ∧ ((IntOp.shli ArithUnit.vector ((BitVec.ofFin n : BitVec 8).setWidth 32) 23#32).extractLsb' 23 8).toNat = n.val
    ∧ ((IntOp.shli ArithUnit.vector ((BitVec.ofFin n : BitVec 8).setWidth 32) 23#32).extractLsb' 0 23).toNat = 0 := by
  decide +kernel

theorem word_fields (b : BitVec 8) :
    ((IntOp.shli ArithUnit.vector (b.setWidth 32) 23#32).extractLsb' 31 1 == 1#1) = false
    ∧ ((IntOp.shli ArithUnit.vector (b.setWidth 32) 23#32).extractLsb' 23 8).toNat = b.toNat
    ∧ ((IntOp.shli ArithUnit.vector (b.setWidth 32) 23#32).extractLsb' 0 23).toNat = 0 :=
  BitVec.casesOn b fun n => word_fields_fin n

/-- A float's word without sign and fraction is a power of two, nothing or infinity. -/
theorem ieee_of_fields (w : BitVec 32) (n : ℕ) (hn : n < 256) (h1 : (w.extractLsb' 31 1 == 1#1) = false)
    (h2 : (w.extractLsb' 23 8).toNat = n) (h3 : (w.extractLsb' 0 23).toNat = 0) :
    Ideal.ieee 8 23 w = if n = 0 then 0 else if n = 255 then ⊤ else (((2 : ℝ) ^ ((n : ℤ) - 127) : ℝ) : EReal) := by
  unfold Ideal.ieee
  simp only [Nat.reduceAdd, h1, h2, h3]
  by_cases c0 : n = 0
  · subst c0; simp
  by_cases c1 : n = 255
  · subst c1; simp
  have c2 : ¬ n = 2 ^ 8 - 1 := by norm_num [c1]
  rw [if_neg c0, if_neg c1, if_neg c2, if_neg c0]
  congr 1
  have : ((n : ℤ) - 127 : ℤ) = 23 + ((n : ℤ) - (2 ^ (8 - 1) - 1) - (23 : ℕ)) := by norm_num
  rw [this, zpow_add₀ (by norm_num : (2 : ℝ) ≠ 0)]
  norm_num

/-- The kernel's reading of a scale byte: its bits as the exponent of a float. -/
theorem ofBits_shli (b : BitVec 8) :
    Ideal.ofBits FTy.f32 (IntOp.shli ArithUnit.vector (b.setWidth 32) 23#32) = power b := by
  obtain ⟨h1, h2, h3⟩ := word_fields b
  have hb : b.toNat < 256 := b.isLt
  have e0 : b = 0#8 ↔ b.toNat = 0 := by rw [← BitVec.toNat_inj]; rfl
  have e1 : b = 255#8 ↔ b.toNat = 255 := by rw [← BitVec.toNat_inj]; rfl
  unfold power
  rw [show ∀ w, Ideal.ofBits FTy.f32 w = Ideal.ieee 8 23 w from fun _ => rfl, ieee_of_fields _ _ hb h1 h2 h3]
  simp only [e0, e1]

/-- The reference's reading of a scale byte: two to the byte less the bias, with the two ends apart. -/
theorem select_exp2 (b : BitVec 8) :
    Scalar.select (IntOp.cmpi CmpIPredicate.eq (b.setWidth 32) 0#32) (0 : EReal)
      (Scalar.select (IntOp.cmpi CmpIPredicate.eq (b.setWidth 32) 255#32) (Ideal.ofBits FTy.f32 0x7F800000#32)
        (Ideal.exp2 (FloatOps.sitofp (F := Ideal) FTy.f32 (b.setWidth 32) - Ideal.ofBits FTy.f32 0x42FE0000#32))) = power b := by
  have hb : b.toNat < 256 := b.isLt
  have t0 : (b.setWidth 32).toNat = b.toNat := by
    rw [BitVec.toNat_setWidth]; exact Nat.mod_eq_of_lt (by omega)
  have e0 : b.setWidth 32 = 0#32 ↔ b = 0#8 := by rw [← BitVec.toNat_inj, ← BitVec.toNat_inj, t0]; rfl
  have e1 : b.setWidth 32 = 255#32 ↔ b = 255#8 := by rw [← BitVec.toNat_inj, ← BitVec.toNat_inj, t0]; rfl
  unfold power
  by_cases c0 : b = 0#8
  · subst c0; rfl
  by_cases c1 : b = 255#8
  · subst c1
    rw [if_neg (by decide), if_pos rfl]
    show Ideal.ofBits FTy.f32 0x7F800000#32 = ⊤
    simp [Ideal.ofBits, Ideal.ieee]
  rw [if_neg c0, if_neg c1]
  have s0 : IntOp.cmpi CmpIPredicate.eq (b.setWidth 32) 0#32 = 0#1 := by
    show BitVec.ofBool (_ == _) = 0#1
    rw [beq_eq_false_iff_ne.mpr fun h => c0 (e0.mp h)]; rfl
  have s1 : IntOp.cmpi CmpIPredicate.eq (b.setWidth 32) 255#32 = 0#1 := by
    show BitVec.ofBool (_ == _) = 0#1
    rw [beq_eq_false_iff_ne.mpr fun h => c1 (e1.mp h)]; rfl
  rw [s0, s1]
  show Ideal.exp2 (FloatOps.sitofp (F := Ideal) FTy.f32 (b.setWidth 32) - Ideal.ofBits FTy.f32 0x42FE0000#32) = _
  have hi : (b.setWidth 32).toInt = (b.toNat : ℤ) := by
    rw [BitVec.toInt_eq_toNat_of_lt (by rw [t0]; omega), t0]
  have h127 : Ideal.ofBits FTy.f32 0x42FE0000#32 = ((127 : ℝ) : EReal) := by
    simp [Ideal.ofBits, Ideal.ieee, -EReal.coe_mul]; norm_num
  rw [h127]
  show Ideal.exp2 ((((b.setWidth 32).toInt : ℝ) : EReal) - ((127 : ℝ) : EReal)) = _
  rw [hi, ← EReal.coe_sub, Ideal.exp2_coe]
  congr 1
  rw [← Real.rpow_intCast]
  push_cast
  rfl

/-- The kernel's count of an element's block, a floor division by 32 spelt over words. -/
theorem word_block : ∀ n : Fin 3840,
    Scalar.select
            (IntOp.andi
              (IntOp.cmpi CmpIPredicate.ne
                (IntOp.subi (BitVec.setWidth 32 (IntOp.cmpi CmpIPredicate.sgt (BitVec.ofNat 32 ↑n) 0#32))
                  (BitVec.setWidth 32 (IntOp.cmpi CmpIPredicate.slt (BitVec.ofNat 32 ↑n) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 ↑n) 32#32) 0#32))
            (IntOp.subi (IntOp.divsi ArithUnit.vector (BitVec.ofNat 32 ↑n) 32#32) 1#32)
            (IntOp.divsi ArithUnit.vector (BitVec.ofNat 32 ↑n) 32#32) = BitVec.ofNat 32 (n.val / 32) := by
  decide +kernel

/-- A comparison of two small numbers as words, read as a float: one where they agree, zero elsewhere. -/
theorem sitofp_eq (a b : ℕ) (ha : a < 4096) (hb : b < 4096) :
    FloatOps.sitofp (F := Ideal) FTy.f32 (BitVec.setWidth 32 (IntOp.cmpi CmpIPredicate.eq (BitVec.ofNat 32 a) (BitVec.ofNat 32 b)))
      = (if b = a then 1 else 0 : EReal) := by
  by_cases h : b = a
  · subst h
    rw [if_pos rfl]
    have : IntOp.cmpi CmpIPredicate.eq (BitVec.ofNat 32 b) (BitVec.ofNat 32 b) = 1#1 := by simp [IntOp.cmpi]
    rw [this]
    show (((1#32).toInt : ℝ) : EReal) = 1
    norm_num
  · rw [if_neg h]
    have hne : ¬ BitVec.ofNat 32 a = BitVec.ofNat 32 b := fun e => h (by
      have := congrArg BitVec.toNat e
      simp only [BitVec.toNat_ofNat] at this
      omega)
    have : IntOp.cmpi CmpIPredicate.eq (BitVec.ofNat 32 a) (BitVec.ofNat 32 b) = 0#1 := by
      show BitVec.ofBool (_ == _) = 0#1
      rw [beq_eq_false_iff_ne.mpr hne]; rfl
    rw [this]
    show (((0#32).toInt : ℝ) : EReal) = 0
    norm_num

/-- A contraction with a row of zeros and one one picks out an entry. -/
theorem sum_pick {n : ℕ} (f : Fin n → EReal) (a : Fin n) :
    ∑ x : Fin n, f x * (if x.val = a.val then 1 else 0 : EReal) = f a := by
  rw [Finset.sum_eq_single a]
  · simp
  · intro b _ hb
    rw [if_neg (fun h => hb (Fin.ext h)), mul_zero]
  · intro h; exact absurd (Finset.mem_univ _) h

end Cert.Scale

end
-- ==== Proof.OutPure.lean ====
/- The values the out projection's body stores, at an index: a tile of the dequantised weight, a block of the product. -/
module

public import proofs.«01_k».proof.Proof.Scale
public import proofs.«01_k».proof.Proof.Gen.OutIdeal.Skeleton

@[expose] public section

set_option maxRecDepth 16384

noncomputable section

open Idealize.ShloMosaic Idealize.ShloMosaic.TcCoe Idealize.SL.Sem

namespace Cert.OutIdeal.Pure

open Cert.OutIdeal Cert.OutIdeal.Gen

/-- The scale bytes as powers of two. -/
theorem pay6_at (v : Vec Ideal S120x2880 .i8) (g : Fin 120) (n : Fin 2880) :
    k0_pay6 (F := Ideal) v (ix2 g n) = Scale.power (v (ix2 g n)) := by
  pointwise [k0_pay6]
  exact Scale.ofBits_shli _

/-- The matrix that spreads a block's scale over its 32 elements: one where the element lies in the block. -/
theorem pay5_at (g : Fin 120) (n : Fin 3840) :
    k0_pay5 (F := Ideal) (ix2 g n) = (if g.val = n.val / 32 then 1 else 0 : EReal) := by
  pointwise [k0_pay5]
  rw [Scale.word_block]
  exact Scale.sitofp_eq _ _ (by omega) (by omega)

/-- The block of 32 an input lies in. -/
abbrev grp (k : Fin 3840) : Fin 120 := ⟨k.val / 32, by omega⟩

/-- The dequantised weight. -/
def weight (w : Vec Ideal S2880x3840 .fp8e4m3) (s : Vec Ideal S120x2880 .i8) (n : Fin 2880) (k : Fin 3840) : EReal :=
  (show EReal from w (ix2 n k)) * Scale.power (s (ix2 (grp k) n))

/-- The spread scale at an element is the scale of its block. -/
theorem spread_at (s : Vec Ideal S120x2880 .i8) (n : Fin 2880) (k : Fin 3840) :
    ∑ g : Fin 120, (show EReal from k0_pay6 (F := Ideal) s (ix2 g n)) * (show EReal from k0_pay5 (F := Ideal) (ix2 g k))
      = Scale.power (s (ix2 (grp k) n)) := by
  rw [← Scale.sum_pick (fun g : Fin 120 => Scale.power (s (ix2 g n))) (grp k)]
  exact Finset.sum_congr rfl fun g _ => by rw [pay6_at, pay5_at]

/-- A tile's value at an element: the code times the spread scale. -/
theorem tile_at (w : Vec Ideal S2880x3840 .fp8e4m3) (s : Vec Ideal S120x2880 .i8) (n n' : Fin 2880) (k k' : Fin 3840)
    (hn : n'.val = n.val) (hk : k'.val = k.val) :
    (show EReal from w (ix2 n k)) * ∑ g : Fin 120, (show EReal from k0_pay6 (F := Ideal) s (ix2 g n)) * (show EReal from k0_pay5 (F := Ideal) (ix2 g k))
      = weight w s n' k' := by
  obtain rfl := Fin.ext hn; obtain rfl := Fin.ext hk
  rw [spread_at]; rfl

/-- The product's block. -/
theorem pay4_at (W : Vec Ideal S2880x3840 .bf16) (y : Vec Ideal S1x3840x256 .bf16) (z : Fin 1) (n : Fin 2880) (t : Fin 256) :
    k0_pay4 (F := Ideal) W y (ix3 z n t) = ∑ k : Fin 3840, (show EReal from W (ix2 n k)) * (show EReal from y (ix3 0 k t)) := by
  pointwise [k0_pay4]

end Cert.OutIdeal.Pure

end
-- ==== Proof.OutValue.lean ====
/- What the out projection leaves in its output array. -/
module
public import proofs.«01_k».proof.Proof.OutPure
public import proofs.«01_k».proof.Proof.Gen.OutIdeal.Value
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.OutIdeal.OutValue
open Cert.OutIdeal Cert.OutIdeal.Gen Cert.OutIdeal.Pure
variable (m : (ℓ : Loc nD τ sig) → Buf (Elt Ideal) ℓ)

/-- The dequantised weight as a whole vector. -/
def weightV (w : Vec Ideal S2880x3840 .fp8e4m3) (s : Vec Ideal S120x2880 .i8) : Vec Ideal S2880x3840 .bf16 :=
  fun j => weight w s (j 0) (j 1)

/-- A load of the whole of a buffer after some stores reads what they leave. -/
theorem readCov_whole {S : Shape} {e : EltTy} {sig : RefSig} {κ : Kind} {sp : Space} (v : View sig κ sp S e)
    {off : Fin S.rank → Nat} (h : off = fun _ => 0) (inb : ∀ a, off a + S.size a ≤ S.size a)
    (L : List (View.Piece (Elt Ideal) S e)) :
    v.readCov L (Rect.unit off S.size inb).toLoadRect = View.canon L := by
  rw [View.readCov_eq_canon']
  exact View.ld_unit_zero h inb (View.canon L)

theorem hz : (![0, 0] : Fin 2 → Nat) = fun _ => 0 := funext fun a => by fin_cases a <;> rfl

/-- The first point leaves the dequantised weight in the scratch: every tile of it is the weight's rows times the spread scales. -/
theorem sA (c : Dev nD) (t : Fin cfg0.N) (h : cond0_0 (grid0.coords t)) (x0 : Vec Ideal S1x3840x256 .bf16) (x1 : Vec Ideal S2880x3840 .fp8e4m3) (x2 : Vec Ideal S120x2880 .i8) : sout0_A_0 c (grid0.coords t) (ms0_0 t) (hs0_0 t) (ms0_1 t) (hs0_1 t) (ms0_2 t) (hs0_2 t) (ms0_3 t) (hs0_3 t) scM0_0 (Memref.isWhole_whole _) h x0 x1 x2 = weightV x1 x2 := by
    frame_out
    funext j
    idx_vars j
    canon_tiles x h using View.cover_of_tiledBy _ ![64, 3840] (by sl_kernel_rfl) _
    all_goals (rw [eq_ix2 x]; pointwise [k0_pay1, k0_pay2, k0_pay3, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32]; exact tile_at _ _ _ _ _ _ h0 h1)

/-- The first point leaves the product of the dequantised weight with its block in the output. -/
theorem oA (c : Dev nD) (t : Fin cfg0.N) (h : cond0_0 (grid0.coords t)) (x0 : Vec Ideal S1x3840x256 .bf16)
    (x1 : Vec Ideal S2880x3840 .fp8e4m3) (x2 : Vec Ideal S120x2880 .i8) :
    out0_A_3 c (grid0.coords t) (ms0_0 t) (hs0_0 t) (ms0_1 t) (hs0_1 t) (ms0_2 t) (hs0_2 t) (ms0_3 t) (hs0_3 t) scM0_0 (Memref.isWhole_whole _) h x0 x1 x2
      = k0_pay4 (weightV x1 x2) x0 := by
  have h1 := sA c t h x0 x1 x2
  frame_out at h1
  frame_out
  conv_lhs => arg 1; rw [readCov_whole _ hz]
  rw [h1]

/-- What the first point leaves. -/
theorem outs_A (c : Dev nD) (t : Fin cfg0.N) (h0 : t.val % 84 = 0) :
    outsAt0 m c t.val t.isLt
      = (k0_pay4 (F := Ideal) (weightV (iblk m c 1 t) (iblk m c 2 t)) (iblk m c 0 t), weightV (iblk m c 1 t) (iblk m c 2 t)) := by
  rw [outsAt0_A m c t h0]
  rw [oA c t ((hcond0_0 t).mpr h0) (iblk m c 0 t) (iblk m c 1 t) (iblk m c 2 t),
    sA c t ((hcond0_0 t).mpr h0) (iblk m c 0 t) (iblk m c 1 t) (iblk m c 2 t)]

/-- A later point keeps the scratch and multiplies it with its block. -/
theorem outs_B (c : Dev nD) (t : Fin cfg0.N) (h0 : ¬ t.val % 84 = 0) :
    outsAt0 m c t.val t.isLt
      = (k0_pay4 (F := Ideal) (outsAt0 m c (t.val - 1) (Nat.lt_of_le_of_lt (Nat.sub_le _ _) t.isLt)).2 (iblk m c 0 t),
        (outsAt0 m c (t.val - 1) (Nat.lt_of_le_of_lt (Nat.sub_le _ _) t.isLt)).2) := by
  rw [outsAt0_B m c t h0]
  refine Prod.ext ?_ rfl
  dsimp only
  frame_out
  rw [read_unread_whole]

/-- Which block each window holds at a point. -/
theorem idx : ∀ t : Fin cfg0.N, win0_0.index t = ![t.val / 12, 0, t.val % 12] ∧ win0_1.index t = ![0, 0] ∧ win0_2.index t = ![0, 0]
    ∧ win0_3.index t = ![t.val / 12, 0, t.val % 12] :=
  (by decide +kernel : ∀ t : Fin grid0.N, _)

/-- The weight and scale windows hold the same block at every point. -/
theorem iblk_const (c : Dev nD) (t t' : Fin cfg0.N) : iblk m c 1 t = iblk m c 1 t' ∧ iblk m c 2 t = iblk m c 2 t' := by
  constructor
  · funext j
    blk_ext [iblk, V, idx t, idx t']
  · funext j
    blk_ext [iblk, V, idx t, idx t']

/-- What every point leaves. -/
theorem outs_eq (c : Dev nD) : ∀ (n : ℕ) (hn : n < cfg0.N),
    outsAt0 m c n hn = (k0_pay4 (F := Ideal) (weightV (iblk m c 1 ⟨n, hn⟩) (iblk m c 2 ⟨n, hn⟩)) (iblk m c 0 ⟨n, hn⟩), weightV (iblk m c 1 ⟨n, hn⟩) (iblk m c 2 ⟨n, hn⟩))
  | 0, hn => outs_A m c ⟨0, hn⟩ rfl
  | n + 1, hn => by
    have hN : n + 1 < 84 := lt_of_lt_of_eq hn N_0
    have e := outs_B m c ⟨n + 1, hn⟩ (show ¬ (n + 1) % 84 = 0 by omega)
    rw [e]
    show (k0_pay4 (F := Ideal) (outsAt0 m c n _).2 _, (outsAt0 m c n _).2) = _
    rw [outs_eq c n (Nat.lt_of_succ_lt hn), (iblk_const m c ⟨n, _⟩ ⟨n + 1, hn⟩).1, (iblk_const m c ⟨n, _⟩ ⟨n + 1, hn⟩).2]

/-- The result. -/
def OUT (y : Vec Ideal S7x3840x3072 .bf16) (w : Vec Ideal S2880x3840 .fp8e4m3) (s : Vec Ideal S2880x120 .i8) : Vec Ideal S7x2880x3072 .bf16 :=
  fun i => ∑ k : Fin 3840, (show EReal from w (ix2 (i 1) k)) * Scale.power (s (ix2 (i 1) (grp k))) * (show EReal from y (ix3 (i 0) k (i 2)))

/-- The dequantised weight at an index. -/
theorem weightV_at (w : Vec Ideal S2880x3840 .fp8e4m3) (s : Vec Ideal S120x2880 .i8) (n : Fin 2880) (k : Fin 3840) :
    weightV w s (ix2 n k) = (show EReal from w (ix2 n k)) * Scale.power (s (ix2 (grp k) n)) := rfl

/-- The output array is the product of the dequantised weight with the activations. -/
theorem final (c : Dev nD) : (dats m 0 c).arrAt 3 cfg0.N
    = OUT (m ((c : Thread nD τ).loc main_arg0)) (m ((c : Thread nD τ).loc main_arg1)) (m ((c : Thread nD τ).loc main_arg2)) := by
  refine (dats m 0 c).arrAt_eq_of_covers 3 _ (by decide +kernel) fun t hf y => ?_
  have e : outsAt0 m c t.val t.isLt = (k0_pay4 (F := Ideal) (weightV (iblk m c 1 t) (iblk m c 2 t)) (iblk m c 0 t), weightV (iblk m c 1 t) (iblk m c 2 t)) := outs_eq m c t.val t.isLt
  blk_simp
  rw [after0_3, e]
  idx_vars y
  rw [pay4_at]
  simp only [weightV_at]
  unfold OUT
  refine Fin.sum_fin_congr fun k => ?_
  have e0 : iblk m c 0 t (ix3 0 k y2) = m ((c : Thread nD τ).loc main_arg0) (ix3 ((win0_3.blk t).view.emb (ix3 y0 y1 y2) 0) k ((win0_3.blk t).view.emb (ix3 y0 y1 y2) 2)) := by
    blk_ext [iblk, V, idx t]
  have e1 : iblk m c 1 t (ix2 y1 k) = m ((c : Thread nD τ).loc main_arg1) (ix2 ((win0_3.blk t).view.emb (ix3 y0 y1 y2) 1) k) := by
    blk_ext [iblk, V, idx t]
  have e2 : iblk m c 2 t (ix2 (grp k) y1) = m ((c : Thread nD τ).loc main_arg2) (ix2 ((win0_3.blk t).view.emb (ix3 y0 y1 y2) 1) (grp k)) := by
    blk_point [iblk, V, idx t]
  rw [e0, e1, e2]
end Cert.OutIdeal.OutValue
end
end
-- ==== Proof.OutReferencePure.lean ====
/- The values the out projection's reference stores, at an index. -/
module

public import proofs.«01_k».proof.Proof.Scale
public import proofs.«01_k».proof.Proof.Gen.OutReferenceIdeal.Skeleton

@[expose] public section

set_option maxRecDepth 16384

noncomputable section

open Idealize.ShloMosaic Idealize.ShloMosaic.TcCoe Idealize.SL.Sem

namespace Cert.OutReferenceIdeal.Pure

open Cert.OutReferenceIdeal Cert.OutReferenceIdeal.Gen

/-- A choice between zero and a product is a product with a choice between zero and the factor. -/
theorem select_mul (c : BitVec 1) (w x : EReal) : Scalar.select c (0 : EReal) (w * x) = w * Scalar.select c (0 : EReal) x := by
  unfold Scalar.select; split <;> simp

/-- The dequantised weight at an index. -/
theorem pay2_at (w : Vec Ideal S2880x3840 .fp8e4m3) (s : Vec Ideal S2880x120 .i8) (n : Fin 2880) (k : Fin 3840) :
    k0_pay2 (F := Ideal) w s (ix2 n k) = (show EReal from w (ix2 n k)) * Scale.power (s (ix2 n ⟨k.val / 32, by omega⟩)) := by
  pointwise [k0_pay2]
  rw [← Scale.select_exp2]
  exact select_mul _ _ _

/-- One batch of the product at an index. -/
theorem pay3_at (w : Vec Ideal S2880x3840 .fp8e4m3) (s : Vec Ideal S2880x120 .i8) (y : Vec Ideal S1x3840x3072 .bf16) (z : Fin 1) (n : Fin 2880) (t : Fin 3072) :
    k0_pay3 (F := Ideal) w s y (ix3 z n t)
      = ∑ k : Fin 3840, (show EReal from w (ix2 n k)) * Scale.power (s (ix2 n ⟨k.val / 32, by omega⟩)) * (show EReal from y (ix3 0 k t)) := by
  pointwise [k0_pay3]
  exact Finset.sum_congr rfl fun k _ => by rw [pay2_at]

end Cert.OutReferenceIdeal.Pure

end
-- ==== Proof.OutReferenceValue.lean ====
/- What the out projection's reference leaves in its output array. -/
module
public import proofs.«01_k».proof.Proof.OutReferencePure
public import proofs.«01_k».proof.Proof.Gen.OutReferenceIdeal.Value
public import Idealize.ShloMosaic.Lib.Pipeline.ValueKit
@[expose] public section
set_option maxRecDepth 16384
noncomputable section
open Idealize.ShloMosaic Idealize.ShloMosaic.TcCoe Idealize.SL.Sem
namespace Cert.OutReferenceIdeal.OutReferenceValue
open Cert.OutReferenceIdeal Cert.OutReferenceIdeal.Gen Cert.OutReferenceIdeal.Pure

/-- A load of the whole weight is the weight. -/
theorem ld_w (w : Vec Ideal S2880x3840 .fp8e4m3) : View.ld w r0_0 = w := View.ld_unit_zero Value.hz1 _ w

/-- A load of all scales is the scales. -/
theorem ld_s (s : Vec Ideal S2880x120 .i8) : View.ld s r0_1 = s := View.ld_unit_zero Value.hz2 _ s

/-- A sum over the dequantised weight's row, at coordinates given by their numbers. -/
theorem row_at (y : Vec Ideal S7x3840x3072 .bf16) (w : Vec Ideal S2880x3840 .fp8e4m3) (s : Vec Ideal S2880x120 .i8)
    (b b' : Fin 7) (n n' : Fin 2880) (t t' : Fin 3072) (hb : b'.val = b.val) (hn : n'.val = n.val) (ht : t'.val = t.val) :
    ∑ k : Fin 3840, (show EReal from k0_pay2 (F := Ideal) w s (ix2 n k)) * (show EReal from y (ix3 b k t))
      = ∑ k : Fin 3840, (show EReal from w (ix2 n' k)) * Scale.power (s (ix2 n' ⟨k.val / 32, by omega⟩)) * (show EReal from y (ix3 b' k t')) := by
  obtain rfl := Fin.ext hb; obtain rfl := Fin.ext hn; obtain rfl := Fin.ext ht
  exact Finset.sum_congr rfl fun k _ => by rw [pay2_at]

/-- The reference's array at an index: one batch stored after the other. -/
theorem G3_at (y : Vec Ideal S7x3840x3072 .bf16) (w : Vec Ideal S2880x3840 .fp8e4m3) (s : Vec Ideal S2880x120 .i8)
    (b : Fin 7) (n : Fin 2880) (t : Fin 3072) :
    Value.G3 (F := Ideal) y w s (ix3 b n t)
      = ∑ k : Fin 3840, (show EReal from w (ix2 n k)) * Scale.power (s (ix2 n ⟨k.val / 32, by omega⟩)) * (show EReal from y (ix3 b k t)) := by
  unfold Value.G3
  canon_tiles x h
  all_goals
    rw [eq_ix3 x]
    pointwise [k0_pay1, k0_pay3, k0_pay4, k0_pay5, k0_pay6, k0_pay7, k0_pay8, k0_pay9]
    try rw [ld_w, ld_s]
    exact row_at _ _ _ _ _ _ _ _ _ (h0.trans (by rw [Nat.lt_one_iff.mp x0_lt]; rfl)) h1 h2

end Cert.OutReferenceIdeal.OutReferenceValue
end
end
-- ==== Proof.OutClaim.lean ====
/- The out projection and its reference end with the same array. -/
module
public import proofs.«01_k».proof.Defs
public import proofs.«01_k».proof.Proof.OutValue
public import proofs.«01_k».proof.Proof.OutReferenceValue
public import Idealize.ShloMosaic.Adequacy
public import Idealize.ShloMosaic.Init
@[expose] public section
set_option maxRecDepth 16384
noncomputable section
open Idealize.ShloMosaic Idealize.ShloMosaic.TcCoe Idealize.SL.Sem
namespace Cert.OutClaim

/-- The reference's array is the kernel's. -/
theorem reference_eq (y : Vec Ideal ⟨3, ![7, 3840, 3072]⟩ .bf16) (w : Vec Ideal ⟨2, ![2880, 3840]⟩ .fp8e4m3) (s : Vec Ideal ⟨2, ![2880, 120]⟩ .i8) :
    OutReferenceIdeal.Value.G3 (F := Ideal) y w s = OutIdeal.OutValue.OUT y w s := by
  funext i
  idx_vars i
  exact OutReferenceIdeal.OutReferenceValue.G3_at y w s _ _ _

/-- The algebraic claim. -/
theorem algebraic : algebraic_OutIdeal_OutReferenceIdeal (hOutIdeal := OutIdeal.Gen.facts) (hOutReferenceIdeal := OutReferenceIdeal.Gen.facts) := by
  intro m g m' g' _ hagree
  refine ⟨fun c => OutIdeal.OutValue.OUT (m ((c.tc : Thread OutIdeal.nD OutIdeal.τ).loc OutIdeal.main_arg0))
    (m ((c.tc : Thread OutIdeal.nD OutIdeal.τ).loc OutIdeal.main_arg1)) (m ((c.tc : Thread OutIdeal.nD OutIdeal.τ).loc OutIdeal.main_arg2)), ?_, ?_⟩
  · exact (θ_run _ _ _).mono (fun r h c => ⟨(h c).1.trans (OutIdeal.OutValue.final m c), (h c).2⟩) (OutIdeal.Value.run_blocks (F := Ideal) m g)
  · refine (θ_run _ _ _).mono (fun r h c => ⟨(h c).1.trans ?_, (h c).2⟩) (OutReferenceIdeal.Value.run (F := Ideal) m' g')
    rw [reference_eq, (hagree c).1, (hagree c).2.1, (hagree c).2.2]

end Cert.OutClaim
end
end
-- ==== Proof.GateBody.lean ====
/- What the runs of the gate projection share: its one condition, its buffers, and the frame read off a run. -/
module
public import proofs.«01_k».proof.Proof.Gen.Gate.Frame
public import proofs.«01_k».proof.Proof.Gen.Gate.Loops
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Gate.Body
open Cert.Gate Cert.Gate.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 84 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 84 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x256x2944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x3840 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S90x3840 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3840x256 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S2944x3840 .bf16 := Memref.whole cc0_scratch0
abbrev scM0_1 : Memref sig .tc .vmem S96x3840 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl
end Cert.Gate.Body
end
end
-- ==== Proof.GateRunFirst.lean ====
/- The body of the gate projection at the first point, which fills the scratch. -/
module
public import proofs.«01_k».proof.Proof.GateBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Gate.Run
open Cert.Gate Cert.Gate.Gen Cert.Gate.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
-- (the run's proof term is large: checking it walks past the default budget)
set_option maxHeartbeats 1000000 in
/-- The body's triple IN CASE A (`scf.if` 0 taken: points 0): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : cond0_0 i)
    (x0 : Vec F S1x256x2944 .bf16) (x1 : Vec F S2880x3840 .fp8e4m3) (x2 : Vec F S90x3840 .i8) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_proj_gate i arg2 harg2 arg3 harg3 arg4 harg4 arg5 harg5 arg6 harg6 arg7 harg7) K := by
    intro E K
    simp only [cc0_proj_gate_eq_skeleton]; unfold cc0_proj_gate_skel
    simp only [k0_part4_eq_skeleton, k0_part3_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl
end Cert.Gate.Run
end
end
-- ==== Proof.GateRunRest.lean ====
/- The body of the gate projection at a later point, which finds the scratch filled. -/
module
public import proofs.«01_k».proof.Proof.GateRunFirst
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Gate.Run
open Cert.Gate Cert.Gate.Gen Cert.Gate.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
-- (the run's proof term is large: checking it walks past the default budget)
set_option maxHeartbeats 1000000 in
/-- The body's triple IN CASE B (`scf.if` 0 not taken: points 1, 2, … 83: 83 of 84): on whole staging memrefs — the inputs' at their contents,
    the FORGOTTEN outputs' (3) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : ¬cond0_0 i)
    (x0 : Vec F S1x256x2944 .bf16) (x1 : Vec F S2880x3840 .fp8e4m3) (x2 : Vec F S90x3840 .i8) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)) -∗ K ⟨⟩))
          ⊢ wp frame (wpE (defs₀ (F := F)) Variants.none c none) E (cc0_proj_gate i arg2 harg2 arg3 harg3 arg4 harg4 arg5 harg5 arg6 harg6 arg7 harg7) K := by
    intro E K
    simp only [cc0_proj_gate_eq_skeleton]; unfold cc0_proj_gate_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl
end Cert.Gate.Run
end
end
-- ==== Proof.GateFrame.lean ====
/- The frame of the gate projection: its run ends with every argument as it was. What it leaves in its output is not named here. -/
module
public import proofs.«01_k».proof.Proof.GateRunRest
public import Idealize.ShloMosaic.Lib.Claim
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Gate.FrameRun
open Cert.Gate Cert.Gate.Gen Cert.Gate.Body Cert.Gate.Run
variable {F : FTy → Type} [FloatOps F]
local notation "𝕄" => MT nD τ sig Unit (Elt F) ℕ (UR sig nD τ) ℕ
variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  have hN : t.val < 84 := lt_of_lt_of_eq t.isLt (show cfg0.N = 84 from N_0)
  by_cases h0 : t.val % 84 = 0
  · iintro ⟨⟨⟨HS0, HS1⟩, Hg⟩, Ho, ⟨%d0, H0⟩, ⟨%d1, H1⟩, ⟨%d2, H2⟩, ⟨%d3, H3⟩⟩
    iapply ((kernelRun0_A c (grid0.coords t) _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3
  · iintro ⟨⟨⟨HS0, HS1⟩, Hg⟩, Ho, ⟨%d0, H0⟩, ⟨%d1, H1⟩, ⟨%d2, H2⟩, ⟨%d3, H3⟩⟩
    iapply ((kernelRun0_B c (grid0.coords t) _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_run m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))
end Cert.Gate.FrameRun
end
end
-- ==== Proof.ProjWeight.lean ====
/- The projections dequantise their weight into scratch, 32 rows at a time: each store is the codes' rows times the row
   of spread scales. This module says, for any views, that such a store is a block of the dequantised weight. -/
module

public import proofs.«01_k».proof.Proof.Scale
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.ProjWeight

/-- The dequantised weight over its padded rows: the rows behind the codes are zero. -/
def weightV {N : ℕ} (w : Vec Ideal ⟨2, ![2880, N]⟩ .fp8e4m3) (s : Vec Ideal ⟨2, ![90, N]⟩ .i8) : Vec Ideal ⟨2, ![2944, N]⟩ .bf16 :=
  fun j => if h : (j 0).val < 2880 then
    (show EReal from w (ix2 ⟨(j 0).val, h⟩ (j 1))) * Scale.power (s (ix2 ⟨(j 0).val / 32, by omega⟩ (j 1))) else (0 : EReal)

theorem weightV_code {N : ℕ} (w : Vec Ideal ⟨2, ![2880, N]⟩ .fp8e4m3) (s : Vec Ideal ⟨2, ![90, N]⟩ .i8) (i : Fin 2944) (b : Fin N)
    (i' : Fin 2880) (hi : i.val = i'.val) (g : Fin 90) (hg : g.val = i'.val / 32) :
    weightV w s (ix2 i b) = (show EReal from w (ix2 i' b)) * Scale.power (s (ix2 g b)) := by
  have h : i.val < 2880 := by omega
  obtain rfl : i' = ⟨i.val, h⟩ := Fin.ext hi.symm
  have h32 : i.val / 32 < 90 := Nat.div_lt_of_lt_mul h
  obtain rfl : g = ⟨i.val / 32, h32⟩ := Fin.ext hg
  exact dif_pos h

theorem weightV_pad {N : ℕ} (w : Vec Ideal ⟨2, ![2880, N]⟩ .fp8e4m3) (s : Vec Ideal ⟨2, ![90, N]⟩ .i8) (i : Fin 2944) (b : Fin N)
    (hi : ¬ i.val < 2880) : weightV w s (ix2 i b) = (0 : EReal) := dif_neg hi

/-- A sum over the padded rows is a sum over the rows of codes. -/
theorem sum_rows {N : ℕ} (w : Vec Ideal ⟨2, ![2880, N]⟩ .fp8e4m3) (s : Vec Ideal ⟨2, ![90, N]⟩ .i8) (x : Fin 2944 → EReal) (b : Fin N) :
    ∑ k : Fin 2944, x k * (show EReal from weightV w s (ix2 k b))
      = ∑ k : Fin 2880, x ⟨k.val, by omega⟩ * ((show EReal from w (ix2 k b)) * Scale.power (s (ix2 ⟨k.val / 32, by omega⟩ b))) := by
  refine (Fin.sum_univ_add (b := 64) (fun k : Fin (2880 + 64) => x k * (show EReal from weightV w s (ix2 k b)))).trans ?_
  rw [Finset.sum_eq_zero (s := (Finset.univ : Finset (Fin 64))), add_zero]
  · refine Finset.sum_congr rfl fun k _ => ?_
    dsimp only
    rw [weightV_code w s (Fin.castAdd 64 k) b k rfl ⟨k.val / 32, by omega⟩ rfl]
    rfl
  · intro k _
    dsimp only
    rw [weightV_pad w s (Fin.natAdd 2880 k) b (by show ¬ 2880 + k.val < 2880; omega)]
    exact mul_zero _

/-- A load of some rows at an index. -/
theorem readAt_rows {sig : RefSig} {κ : Kind} {sp : Space} {e : EltTy} {M N m n : ℕ} (v : View sig κ sp ⟨2, ![M, N]⟩ e)
    (f : v.ty.Contents (Elt Ideal)) {off : Fin 2 → ℕ} (inb : ∀ a, off a + (![m, n] : Fin 2 → ℕ) a ≤ (⟨2, ![M, N]⟩ : Shape).size a)
    (a : Fin m) (b : Fin n) (a' : Fin M) (b' : Fin N) (ha : a'.val = off 0 + a.val) (hb : b'.val = off 1 + b.val) :
    v.readAt (Elt Ideal) (Rect.unit (s := ⟨2, ![M, N]⟩) off ![m, n] inb).toLoadRect f (ix2 a b) = v.read (Elt Ideal) f (ix2 a' b') := by
  rw [View.readAt_apply]
  congr 1
  funext x
  refine Fin.ext ?_
  match x with
  | ⟨0, _⟩ => show off 0 + 1 * a.val = a'.val; omega
  | ⟨1, _⟩ => show off 1 + 1 * b.val = b'.val; omega

/-- Where a rectangle of rows puts an index. -/
theorem emb_rows {M N m n : ℕ} {off : Fin 2 → ℕ} (inb : ∀ a, off a + (![m, n] : Fin 2 → ℕ) a ≤ (⟨2, ![M, N]⟩ : Shape).size a)
    (a : Fin m) (b : Fin n) (a' : Fin M) (b' : Fin N) (ha : a'.val = off 0 + a.val) (hb : b'.val = off 1 + b.val) :
    (Rect.unit (s := ⟨2, ![M, N]⟩) off ![m, n] inb).emb (ix2 a b) = ix2 a' b' := by
  funext x
  refine Fin.ext ?_
  match x with
  | ⟨0, _⟩ => show off 0 + 1 * a.val = a'.val; omega
  | ⟨1, _⟩ => show off 1 + 1 * b.val = b'.val; omega

/-- A store of 32 rows: codes' rows `32 q …` times row `r` of the eight scales loaded at row `8 (q / 8)`. -/
theorem piece {sig : RefSig} {κ κ' : Kind} {sp sp' : Space} {N : ℕ} (v3 : View sig κ sp ⟨2, ![2880, N]⟩ .fp8e4m3) (v7 : View sig κ' sp' ⟨2, ![96, N]⟩ .f32)
    (X3 : v3.ty.Contents (Elt Ideal)) (X7 : v7.ty.Contents (Elt Ideal))
    (w : Vec Ideal ⟨2, ![2880, N]⟩ .fp8e4m3) (s : Vec Ideal ⟨2, ![90, N]⟩ .i8)
    (h3 : v3.read (Elt Ideal) X3 = w)
    (h7 : ∀ (g : Fin 96) (g' : Fin 90) (b : Fin N), g.val = g'.val → v7.read (Elt Ideal) X7 (ix2 g b) = Scale.power (s (ix2 g' b)))
    (o3 o7 o6 : Fin 2 → ℕ)
    (i3 : ∀ a, o3 a + (![32, N] : Fin 2 → ℕ) a ≤ (⟨2, ![2880, N]⟩ : Shape).size a)
    (i7 : ∀ a, o7 a + (![8, N] : Fin 2 → ℕ) a ≤ (⟨2, ![96, N]⟩ : Shape).size a)
    (i6 : ∀ a, o6 a + (![32, N] : Fin 2 → ℕ) a ≤ (⟨2, ![2944, N]⟩ : Shape).size a)
    (q : ℕ) (r : Fin 8) (hq : q + r.val < 90) (e3 : o3 = ![32 * (q + r.val), 0]) (e7 : o7 = ![q, 0]) (e6 : o6 = ![32 * (q + r.val), 0])
    (P : Vec Ideal ⟨2, ![32, N]⟩ .bf16)
    (hP : ∀ (a : Fin 32) (b : Fin N), P (ix2 a b) = (show EReal from v3.readAt (Elt Ideal) (Rect.unit (s := ⟨2, ![2880, N]⟩) o3 ![32, N] i3).toLoadRect X3 (ix2 a b))
      * (show EReal from v7.readAt (Elt Ideal) (Rect.unit (s := ⟨2, ![96, N]⟩) o7 ![8, N] i7).toLoadRect X7 (ix2 r b)))
    (z : (⟨2, ![32, N]⟩ : Shape).Idx) :
    P z = weightV w s ((Rect.unit (s := ⟨2, ![2944, N]⟩) o6 ![32, N] i6).emb z) := by
  obtain ⟨a, b, rfl⟩ : ∃ (a : Fin 32) (b : Fin N), z = ix2 a b := ⟨z 0, z 1, eq_ix2 z⟩
  subst e3; subst e7; subst e6
  have ha := a.isLt
  have hr := r.isLt
  rw [hP, emb_rows i6 a b ⟨32 * (q + r.val) + a.val, by omega⟩ b rfl (by show b.val = 0 + b.val; omega),
    readAt_rows v3 X3 i3 a b ⟨32 * (q + r.val) + a.val, by omega⟩ b rfl (by show b.val = 0 + b.val; omega),
    readAt_rows v7 X7 i7 r b ⟨q + r.val, by omega⟩ b rfl (by show b.val = 0 + b.val; omega),
    h3, h7 _ ⟨q + r.val, hq⟩ b rfl,
    weightV_code w s _ b ⟨32 * (q + r.val) + a.val, by omega⟩ rfl ⟨q + r.val, hq⟩ (by show q + r.val = (32 * (q + r.val) + a.val) / 32; omega)]

theorem piecesOf_append {S : Shape} {e : EltTy} {Val : EltTy → Type} {G : S.Idx → Val e} : ∀ {L L' : List (View.Piece Val S e)},
    View.PiecesOf G L → View.PiecesOf G L' → View.PiecesOf G (L ++ L')
  | [], _, _, h' => h'
  | _ :: _, _, h, h' => ⟨h.1, piecesOf_append h.2 h'⟩

/-- Stores that are blocks of one vector and together cover the buffer leave that vector, whatever it held. -/
theorem read_writes_of_piecesOf {S : Shape} {e : EltTy} {sig : RefSig} {κ : Kind} {sp : Space} (v : View sig κ sp S e)
    (f : v.ty.Contents (Elt Ideal)) (G : S.Idx → Elt Ideal e) (L : List (View.Piece (Elt Ideal) S e)) (h : View.PiecesOf G L)
    (hc : ∀ y, ∃ p ∈ L, y ∈ p.1.set) : v.read (Elt Ideal) (v.writes (Elt Ideal) f L) = G := by
  rw [View.read_writes_eq_canon v f L hc]
  funext y
  exact View.canon_apply_of_pieces G L h.mem y (hc y)

/-- The newest stores of a list: one more of them is a block of the vector. -/
theorem piecesOf_take_cons {S : Shape} {e : EltTy} {G : S.Idx → Elt Ideal e} {p : View.Piece (Elt Ideal) S e} {L : List (View.Piece (Elt Ideal) S e)} {n : ℕ}
    (h : (∀ z, p.2 z = G (p.1.emb z)) ∧ View.PiecesOf G (L.take n)) : View.PiecesOf G ((p :: L).take (n + 1)) := h

/-- The newest stores of a list decide what it leaves, when they are blocks of one vector and together cover the buffer. -/
theorem read_writes_of_top {S : Shape} {e : EltTy} {sig : RefSig} {κ : Kind} {sp : Space} (v : View sig κ sp S e) (n : ℕ)
    (f : v.ty.Contents (Elt Ideal)) (G : S.Idx → Elt Ideal e) (L : List (View.Piece (Elt Ideal) S e)) (h : View.PiecesOf G (L.take n))
    (hc : ∀ y, ∃ p ∈ L.take n, y ∈ p.1.set) : v.read (Elt Ideal) (v.writes (Elt Ideal) f L) = G := by
  have key : ∀ (L1 L2 : List (View.Piece (Elt Ideal) S e)), v.writes (Elt Ideal) f (L1 ++ L2) = v.writes (Elt Ideal) (v.writes (Elt Ideal) f L2) L1 := by
    intro L1 L2
    induction L1 with
    | nil => rfl
    | cons p L1 ih => rw [List.cons_append, View.writes_cons, View.writes_cons, ih]
  rw [← List.take_append_drop n L, key]
  exact read_writes_of_piecesOf v _ G _ h hc

end Cert.ProjWeight

end
end
-- ==== Proof.GateIdealBody.lean ====
/- What the runs of the gate projection share: its one condition, its buffers, and the frame read off a run. -/
module
public import proofs.«01_k».proof.Proof.Gen.GateIdeal.Frame
public import proofs.«01_k».proof.Proof.Gen.GateIdeal.Loops
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.GateIdeal.Body
open Cert.GateIdeal Cert.GateIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 84 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 84 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x256x2944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x3840 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S90x3840 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3840x256 .bf16 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S2944x3840 .bf16 := Memref.whole cc0_scratch0
abbrev scM0_1 : Memref sig .tc .vmem S96x3840 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl
end Cert.GateIdeal.Body
end
end
-- ==== Proof.GateIdealRunFirst.lean ====
/- The body of the gate projection at the first point, with what it leaves. -/
module
public import proofs.«01_k».proof.Proof.GateIdealBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.GateIdeal.Run
open Cert.GateIdeal Cert.GateIdeal.Gen Cert.GateIdeal.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 1000000 in
/-- The body at the first point, over scratch that holds anything: the pieces it leaves in the output and in the two scratch buffers. -/
noncomputable def runFirst (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : cond0_0 i)
    (x0 : Vec F S1x256x2944 .bf16) (x1 : Vec F S2880x3840 .fp8e4m3) (x2 : Vec F S90x3840 .i8) (f6 : BufTy.Contents (Elt F) arg6.view.ty) (f7 : BufTy.Contents (Elt F) arg7.view.ty) :
    Σ' (L3 : List (View.Piece (Elt F) S1x3840x256 .bf16)), { LS0 : List (View.Piece (Elt F) S2944x3840 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (arg6.view.loc (c : Thread nD τ) ↦[arg6.view.set]{fullShare} f6) ∗ (arg7.view.loc (c : Thread nD τ) ↦[arg7.view.set]{fullShare} f7)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) f6 LS0) ∗ (∃ d, owns (c : Thread nD τ) arg7 fullShare d)) -∗ K ⟨⟩))
          ⊢ wp frame (wpE (defs₀ (F := F)) Variants.none c none) E (cc0_proj_gate i arg2 harg2 arg3 harg3 arg4 harg4 arg5 harg5 arg6 harg6 arg7 harg7) K } := by
  refine ⟨?_, ?_, fun E K => ?run⟩
  case run =>
    simp only [cc0_proj_gate_eq_skeleton]; unfold cc0_proj_gate_skel
    simp only [k0_part4_eq_skeleton, k0_part3_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, HS0, HS1, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexact HS0
    iexists _, _; isplitr; swap; · iexact HS1
    ipureintro; rfl
end Cert.GateIdeal.Run
end
end
-- ==== Proof.GateIdealWeight.lean ====
/- The scratch weight of the gate projection after the first point: the dequantised weight, with zero rows behind it. -/
module

public import proofs.«01_k».proof.Proof.ProjWeight
public import proofs.«01_k».proof.Proof.GateIdealRunFirst

@[expose] public section

set_option maxRecDepth 16384

noncomputable section

open Idealize.ShloMosaic Idealize.ShloMosaic.TcCoe Idealize.SL.Sem

namespace Cert.GateIdeal.Weight

open Cert.GateIdeal Cert.GateIdeal.Gen Cert.GateIdeal.Body Cert.GateIdeal.Run Cert.ProjWeight

/-- Each store's value: the codes times one of the eight rows of scales loaded. -/
theorem pay3_at (A : Vec Ideal S8x3840 .f32) (B : Vec Ideal S32x3840 .fp8e4m3) (a : Fin 32) (b : Fin 3840) :
    k0_pay3 (F := Ideal) A B (ix2 a b) = (show EReal from B (ix2 a b)) * (show EReal from A (ix2 0 b)) := by
  pointwise [k0_pay3]
theorem pay4_at (A : Vec Ideal S8x3840 .f32) (B : Vec Ideal S32x3840 .fp8e4m3) (a : Fin 32) (b : Fin 3840) :
    k0_pay4 (F := Ideal) A B (ix2 a b) = (show EReal from B (ix2 a b)) * (show EReal from A (ix2 1 b)) := by
  pointwise [k0_pay4]
theorem pay5_at (A : Vec Ideal S8x3840 .f32) (B : Vec Ideal S32x3840 .fp8e4m3) (a : Fin 32) (b : Fin 3840) :
    k0_pay5 (F := Ideal) A B (ix2 a b) = (show EReal from B (ix2 a b)) * (show EReal from A (ix2 2 b)) := by
  pointwise [k0_pay5]
theorem pay6_at (A : Vec Ideal S8x3840 .f32) (B : Vec Ideal S32x3840 .fp8e4m3) (a : Fin 32) (b : Fin 3840) :
    k0_pay6 (F := Ideal) A B (ix2 a b) = (show EReal from B (ix2 a b)) * (show EReal from A (ix2 3 b)) := by
  pointwise [k0_pay6]
theorem pay7_at (A : Vec Ideal S8x3840 .f32) (B : Vec Ideal S32x3840 .fp8e4m3) (a : Fin 32) (b : Fin 3840) :
    k0_pay7 (F := Ideal) A B (ix2 a b) = (show EReal from B (ix2 a b)) * (show EReal from A (ix2 4 b)) := by
  pointwise [k0_pay7]
theorem pay8_at (A : Vec Ideal S8x3840 .f32) (B : Vec Ideal S32x3840 .fp8e4m3) (a : Fin 32) (b : Fin 3840) :
    k0_pay8 (F := Ideal) A B (ix2 a b) = (show EReal from B (ix2 a b)) * (show EReal from A (ix2 5 b)) := by
  pointwise [k0_pay8]
theorem pay9_at (A : Vec Ideal S8x3840 .f32) (B : Vec Ideal S32x3840 .fp8e4m3) (a : Fin 32) (b : Fin 3840) :
    k0_pay9 (F := Ideal) A B (ix2 a b) = (show EReal from B (ix2 a b)) * (show EReal from A (ix2 6 b)) := by
  pointwise [k0_pay9]
theorem pay13_at (A : Vec Ideal S8x3840 .f32) (B : Vec Ideal S32x3840 .fp8e4m3) (a : Fin 32) (b : Fin 3840) :
    k0_pay13 (F := Ideal) A B (ix2 a b) = (show EReal from B (ix2 a b)) * (show EReal from A (ix2 0 b)) := by
  pointwise [k0_pay13]
theorem pay14_at (A : Vec Ideal S8x3840 .f32) (B : Vec Ideal S32x3840 .fp8e4m3) (a : Fin 32) (b : Fin 3840) :
    k0_pay14 (F := Ideal) A B (ix2 a b) = (show EReal from B (ix2 a b)) * (show EReal from A (ix2 1 b)) := by
  pointwise [k0_pay14]
theorem pay12_at (A : Vec Ideal S8x3840 .f32) (B : Vec Ideal S32x3840 .fp8e4m3) (a : Fin 32) (b : Fin 3840) :
    k0_pay12 (F := Ideal) (k0_pay10 A B) (ix2 a b) = (show EReal from B (ix2 a b)) * (show EReal from A (ix2 7 b)) := by
  pointwise [k0_pay10, k0_pay12]

/-- The scale bytes as powers of two. -/
theorem pay11_at (v : Vec Ideal S90x3840 .i8) (g : Fin 90) (n : Fin 3840) :
    k0_pay11 (F := Ideal) v (ix2 g n) = Scale.power (v (ix2 g n)) := by
  pointwise [k0_pay11]
  exact Scale.ofBits_shli _

/-- The rows a trip of the loop works on. -/
theorem off1_eq : ∀ k : Fin k0_t1_loop.trips, k0_off1 k = ![8 * k.val, 0] := by decide +kernel

theorem off2_0 : ∀ k : Fin k0_t1_loop.trips, k0_off2 k 0#32 = ![32 * (8 * k.val + 0), 0] := by decide +kernel
theorem off2_1 : ∀ k : Fin k0_t1_loop.trips, k0_off2 k 1#32 = ![32 * (8 * k.val + 1), 0] := by decide +kernel
theorem off2_2 : ∀ k : Fin k0_t1_loop.trips, k0_off2 k 2#32 = ![32 * (8 * k.val + 2), 0] := by decide +kernel
theorem off2_3 : ∀ k : Fin k0_t1_loop.trips, k0_off2 k 3#32 = ![32 * (8 * k.val + 3), 0] := by decide +kernel
theorem off2_4 : ∀ k : Fin k0_t1_loop.trips, k0_off2 k 4#32 = ![32 * (8 * k.val + 4), 0] := by decide +kernel
theorem off2_5 : ∀ k : Fin k0_t1_loop.trips, k0_off2 k 5#32 = ![32 * (8 * k.val + 5), 0] := by decide +kernel
theorem off2_6 : ∀ k : Fin k0_t1_loop.trips, k0_off2 k 6#32 = ![32 * (8 * k.val + 6), 0] := by decide +kernel
theorem off2_7 : ∀ k : Fin k0_t1_loop.trips, k0_off2 k 7#32 = ![32 * (8 * k.val + 7), 0] := by decide +kernel
theorem off3_0 : ∀ k : Fin k0_t1_loop.trips, k0_off3 k 0#32 = ![32 * (8 * k.val + 0), 0] := by decide +kernel
theorem off3_1 : ∀ k : Fin k0_t1_loop.trips, k0_off3 k 1#32 = ![32 * (8 * k.val + 1), 0] := by decide +kernel
theorem off3_2 : ∀ k : Fin k0_t1_loop.trips, k0_off3 k 2#32 = ![32 * (8 * k.val + 2), 0] := by decide +kernel
theorem off3_3 : ∀ k : Fin k0_t1_loop.trips, k0_off3 k 3#32 = ![32 * (8 * k.val + 3), 0] := by decide +kernel
theorem off3_4 : ∀ k : Fin k0_t1_loop.trips, k0_off3 k 4#32 = ![32 * (8 * k.val + 4), 0] := by decide +kernel
theorem off3_5 : ∀ k : Fin k0_t1_loop.trips, k0_off3 k 5#32 = ![32 * (8 * k.val + 5), 0] := by decide +kernel
theorem off3_6 : ∀ k : Fin k0_t1_loop.trips, k0_off3 k 6#32 = ![32 * (8 * k.val + 6), 0] := by decide +kernel
theorem off3_7 : ∀ k : Fin k0_t1_loop.trips, k0_off3 k 7#32 = ![32 * (8 * k.val + 7), 0] := by decide +kernel

/-- A trip's stores are blocks of the dequantised weight. -/
theorem trip_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : cond0_0 i)
    (X3 : BufTy.Contents (Elt Ideal) arg3.view.ty) (X7 : BufTy.Contents (Elt Ideal) arg7.view.ty)
    (w : Vec Ideal S2880x3840 .fp8e4m3) (s : Vec Ideal S90x3840 .i8)
    (h3 : arg3.view.read (Elt Ideal) X3 = w)
    (h7 : ∀ (g : Fin 96) (g' : Fin 90) (b : Fin 3840), g.val = g'.val → arg7.view.read (Elt Ideal) X7 (ix2 g b) = Scale.power (s (ix2 g' b)))
    (k : Fin k0_t1_loop.trips) :
    View.PiecesOf (weightV w s) (tripL_k0_t1 (F := Ideal) Variants.none c none i arg2 harg2 arg3 harg3 arg4 harg4 arg5 harg5 arg6 harg6 arg7 harg7 hc0 X3 X7 k) := by
  have hk : k.val < 11 := Nat.lt_of_lt_of_le k.isLt k0_t1_abs.2.1
  unfold tripL_k0_t1
  unfold trip_k0_t1
  frame_open
  dsimp only
  exact ⟨
      fun z => piece arg3.view arg7.view X3 X7 w s h3 h7 _ _ _ (k0_off2_inb i k hc0 7) (k0_off1_inb i k hc0) (k0_off3_inb i k hc0 7) (8 * k.val) 7 (by omega) (off2_7 k) (off1_eq k) (off3_7 k) _ (pay12_at _ _) z,
      fun z => piece arg3.view arg7.view X3 X7 w s h3 h7 _ _ _ (k0_off2_inb i k hc0 6) (k0_off1_inb i k hc0) (k0_off3_inb i k hc0 6) (8 * k.val) 6 (by omega) (off2_6 k) (off1_eq k) (off3_6 k) _ (pay9_at _ _) z,
      fun z => piece arg3.view arg7.view X3 X7 w s h3 h7 _ _ _ (k0_off2_inb i k hc0 5) (k0_off1_inb i k hc0) (k0_off3_inb i k hc0 5) (8 * k.val) 5 (by omega) (off2_5 k) (off1_eq k) (off3_5 k) _ (pay8_at _ _) z,
      fun z => piece arg3.view arg7.view X3 X7 w s h3 h7 _ _ _ (k0_off2_inb i k hc0 4) (k0_off1_inb i k hc0) (k0_off3_inb i k hc0 4) (8 * k.val) 4 (by omega) (off2_4 k) (off1_eq k) (off3_4 k) _ (pay7_at _ _) z,
      fun z => piece arg3.view arg7.view X3 X7 w s h3 h7 _ _ _ (k0_off2_inb i k hc0 3) (k0_off1_inb i k hc0) (k0_off3_inb i k hc0 3) (8 * k.val) 3 (by omega) (off2_3 k) (off1_eq k) (off3_3 k) _ (pay6_at _ _) z,
      fun z => piece arg3.view arg7.view X3 X7 w s h3 h7 _ _ _ (k0_off2_inb i k hc0 2) (k0_off1_inb i k hc0) (k0_off3_inb i k hc0 2) (8 * k.val) 2 (by omega) (off2_2 k) (off1_eq k) (off3_2 k) _ (pay5_at _ _) z,
      fun z => piece arg3.view arg7.view X3 X7 w s h3 h7 _ _ _ (k0_off2_inb i k hc0 1) (k0_off1_inb i k hc0) (k0_off3_inb i k hc0 1) (8 * k.val) 1 (by omega) (off2_1 k) (off1_eq k) (off3_1 k) _ (pay4_at _ _) z,
      fun z => piece arg3.view arg7.view X3 X7 w s h3 h7 _ _ _ (k0_off2_inb i k hc0 0) (k0_off1_inb i k hc0) (k0_off3_inb i k hc0 0) (8 * k.val) 0 (by omega) (off2_0 k) (off1_eq k) (off3_0 k) _ (pay3_at _ _) z,
      trivial⟩

/-- The loop's stores are blocks of the dequantised weight. -/
theorem loop_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : cond0_0 i)
    (X3 : BufTy.Contents (Elt Ideal) arg3.view.ty) (X7 : BufTy.Contents (Elt Ideal) arg7.view.ty)
    (w : Vec Ideal S2880x3840 .fp8e4m3) (s : Vec Ideal S90x3840 .i8)
    (h3 : arg3.view.read (Elt Ideal) X3 = w)
    (h7 : ∀ (g : Fin 96) (g' : Fin 90) (b : Fin 3840), g.val = g'.val → arg7.view.read (Elt Ideal) X7 (ix2 g b) = Scale.power (s (ix2 g' b))) :
    ∀ n, n ≤ k0_t1_loop.trips →
      View.PiecesOf (weightV w s) (pb_k0_t1 (F := Ideal) Variants.none c none i arg2 harg2 arg3 harg3 arg4 harg4 arg5 harg5 arg6 harg6 arg7 harg7 hc0 X3 X7 n)
  | 0, _ => trivial
  | n + 1, hn => by
    rw [pb_k0_t1_succ Variants.none c none i arg2 harg2 arg3 harg3 arg4 harg4 arg5 harg5 arg6 harg6 arg7 harg7 hc0 X3 X7 ⟨n, hn⟩]
    exact piecesOf_append (trip_pieces c i arg2 harg2 arg3 harg3 arg4 harg4 arg5 harg5 arg6 harg6 arg7 harg7 hc0 X3 X7 w s h3 h7 ⟨n, hn⟩) (loop_pieces c i arg2 harg2 arg3 harg3 arg4 harg4 arg5 harg5 arg6 harg6 arg7 harg7 hc0 X3 X7 w s h3 h7 n (Nat.le_of_succ_le hn))

/-- The first rows of the scale scratch hold the scales once they are stored, whatever the rest holds. -/
theorem scales (arg4 : Memref sig .tc .vmem S90x3840 .i8) (harg4 : arg4.IsWhole) (arg7 : Memref sig .tc .vmem S96x3840 .f32)
    (x2 : Vec Ideal S90x3840 .i8) (f7 : BufTy.Contents (Elt Ideal) arg7.view.ty)
    (g : Fin 96) (g' : Fin 90) (b : Fin 3840) (h : g.val = g'.val) :
    arg7.view.read (Elt Ideal) (arg7.view.writes (Elt Ideal) f7 [⟨Rect.unit ![0, 0] S90x3840.size inb_S96x3840_S90x3840_0_0,
      k0_pay11 (F := Ideal) (View.readAt (Elt Ideal) arg4.view (Rect.unit ![0, 0] S90x3840.size inb_S90x3840_S90x3840_0_0).toLoadRect (harg4.unread x2))⟩]) (ix2 g b)
      = Scale.power (x2 (ix2 g' b)) := by
  have e : (Rect.unit (s := S96x3840) ![0, 0] S90x3840.size inb_S96x3840_S90x3840_0_0).emb (ix2 g' b) = ix2 g b :=
    emb_rows _ g' b g b (by show g.val = 0 + g'.val; omega) (by show b.val = 0 + b.val; omega)
  rw [← e, View.read_writes_cons_emb, pay11_at]
  rw [readAt_rows arg4.view _ _ g' b g' b (by show g'.val = 0 + g'.val; omega) (by show b.val = 0 + b.val; omega), harg4.read_unread]

/-- The first point's stores cover the scratch. -/
theorem first_cover (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : cond0_0 i)
    (x0 : Vec Ideal S1x256x2944 .bf16) (x1 : Vec Ideal S2880x3840 .fp8e4m3) (x2 : Vec Ideal S90x3840 .i8)
    (f6 : BufTy.Contents (Elt Ideal) arg6.view.ty) (f7 : BufTy.Contents (Elt Ideal) arg7.view.ty) (y : S2944x3840.Idx) :
    ∃ p ∈ (runFirst c i arg2 harg2 arg3 harg3 arg4 harg4 arg5 harg5 arg6 harg6 arg7 harg7 hc0 x0 x1 x2 f6 f7).2.1, y ∈ p.1.set :=
  View.cover_of_tiledBy (runFirst c i arg2 harg2 arg3 harg3 arg4 harg4 arg5 harg5 arg6 harg6 arg7 harg7 hc0 x0 x1 x2 f6 f7).2.1 ![32, 3840] (by sl_kernel_rfl) y

/-- The zero rows. -/
theorem pay15_at (x1 : Vec Ideal S2880x3840 .fp8e4m3) (x2 : Vec Ideal S90x3840 .i8) (z : S64x3840.Idx) :
    k0_pay15 (F := Ideal) z = weightV x1 x2 ((Rect.unit (s := S2944x3840) ![2880, 0] S64x3840.size inb_S2944x3840_S64x3840_2880_0).emb z) := by
  obtain ⟨a, b, rfl⟩ : ∃ (a : Fin 64) (b : Fin 3840), z = ix2 a b := ⟨z 0, z 1, eq_ix2 z⟩
  rw [emb_rows _ a b ⟨2880 + a.val, by omega⟩ b rfl (by show b.val = 0 + b.val; omega), weightV_pad _ _ _ _ (by show ¬ 2880 + a.val < 2880; omega)]
  pointwise [k0_pay15]

/-- The first point's stores are blocks of the dequantised weight. -/
theorem first_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : cond0_0 i)
    (x0 : Vec Ideal S1x256x2944 .bf16) (x1 : Vec Ideal S2880x3840 .fp8e4m3) (x2 : Vec Ideal S90x3840 .i8)
    (f6 : BufTy.Contents (Elt Ideal) arg6.view.ty) (f7 : BufTy.Contents (Elt Ideal) arg7.view.ty) :
    View.PiecesOf (weightV x1 x2) (runFirst c i arg2 harg2 arg3 harg3 arg4 harg4 arg5 harg5 arg6 harg6 arg7 harg7 hc0 x0 x1 x2 f6 f7).2.1 := by
  frame_open
  have h3 := harg3.read_unread (Val := Elt Ideal) x1
  have h7 := scales arg4 harg4 arg7 x2 f7
  exact ⟨pay15_at x1 x2,
    fun z => piece arg3.view arg7.view _ _ x1 x2 h3 h7 ![2848, 0] ![88, 0] ![2848, 0] inb_S2880x3840_S32x3840_2848_0 inb_S96x3840_S8x3840_88_0 inb_S2944x3840_S32x3840_2848_0 88 1 (by decide) (by decide) rfl (by decide) _ (pay14_at _ _) z,
    fun z => piece arg3.view arg7.view _ _ x1 x2 h3 h7 ![2816, 0] ![88, 0] ![2816, 0] inb_S2880x3840_S32x3840_2816_0 inb_S96x3840_S8x3840_88_0 inb_S2944x3840_S32x3840_2816_0 88 0 (by decide) (by decide) rfl (by decide) _ (pay13_at _ _) z,
    loop_pieces c i arg2 harg2 arg3 harg3 arg4 harg4 arg5 harg5 arg6 harg6 arg7 harg7 hc0 _ _ x1 x2 h3 h7 _ le_rfl⟩

/-- The scratch holds the dequantised weight after the first point. -/
theorem first_weight (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : cond0_0 i)
    (x0 : Vec Ideal S1x256x2944 .bf16) (x1 : Vec Ideal S2880x3840 .fp8e4m3) (x2 : Vec Ideal S90x3840 .i8)
    (f6 : BufTy.Contents (Elt Ideal) arg6.view.ty) (f7 : BufTy.Contents (Elt Ideal) arg7.view.ty) :
    arg6.view.read (Elt Ideal) (arg6.view.writes (Elt Ideal) f6 (runFirst c i arg2 harg2 arg3 harg3 arg4 harg4 arg5 harg5 arg6 harg6 arg7 harg7 hc0 x0 x1 x2 f6 f7).2.1) = weightV x1 x2 :=
  read_writes_of_piecesOf _ _ _ _ (first_pieces c i arg2 harg2 arg3 harg3 arg4 harg4 arg5 harg5 arg6 harg6 arg7 harg7 hc0 x0 x1 x2 f6 f7) (first_cover c i arg2 harg2 arg3 harg3 arg4 harg4 arg5 harg5 arg6 harg6 arg7 harg7 hc0 x0 x1 x2 f6 f7)

end Cert.GateIdeal.Weight

end
end
-- ==== Proof.GateIdealRunRest.lean ====
/- The body of the gate projection at a later point, with what it leaves. -/
module
public import proofs.«01_k».proof.Proof.GateIdealBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.GateIdeal.Run
open Cert.GateIdeal Cert.GateIdeal.Gen Cert.GateIdeal.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 1000000 in
/-- The body at a later point, the scratch holding a weight: the pieces it leaves in the output. -/
noncomputable def runRest (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : ¬cond0_0 i)
    (x0 : Vec F S1x256x2944 .bf16) (x1 : Vec F S2880x3840 .fp8e4m3) (x2 : Vec F S90x3840 .i8) (xs0 : Vec F S2944x3840 .bf16) :
    { L3 : List (View.Piece (Elt F) S1x3840x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0 ∗ (∃ d, owns (c : Thread nD τ) arg7 fullShare d)) -∗ K ⟨⟩))
          ⊢ wp frame (wpE (defs₀ (F := F)) Variants.none c none) E (cc0_proj_gate i arg2 harg2 arg3 harg3 arg4 harg4 arg5 harg5 arg6 harg6 arg7 harg7) K } := by
  refine ⟨?_, fun E K => ?run⟩
  case run =>
    simp only [cc0_proj_gate_eq_skeleton]; unfold cc0_proj_gate_skel
    simp only [k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]
    · iexists _; isplitr; · ipureintro; exact harg6.read_unread _
      iexact HS0
    iexists _, _; isplitr; swap; · iexact HS1
    ipureintro; rfl
end Cert.GateIdeal.Run
end
end
-- ==== Proof.GateIdealOutput.lean ====
/- The output block the gate projection's body leaves at a point: the product of the activations with the weight in the
   scratch, 128 columns to a store. -/
module

public import proofs.«01_k».proof.Proof.GateIdealWeight
public import proofs.«01_k».proof.Proof.GateIdealRunRest

@[expose] public section

set_option maxRecDepth 16384

noncomputable section

open Idealize.ShloMosaic Idealize.ShloMosaic.TcCoe Idealize.SL.Sem

namespace Cert.GateIdeal.Output

open Cert.GateIdeal Cert.GateIdeal.Gen Cert.GateIdeal.Body Cert.GateIdeal.Run Cert.GateIdeal.Weight Cert.ProjWeight

/-- The block of the product. -/
def outB (x0 : Vec Ideal S1x256x2944 .bf16) (W : Vec Ideal S2944x3840 .bf16) : Vec Ideal S1x3840x256 .bf16 :=
  fun j => ∑ k : Fin 2944, (show EReal from x0 (ix3 0 (j 2) k)) * (show EReal from W (ix2 k (j 1)))

/-- The first 128 columns of a product of 256, transposed. -/
theorem pay25_at (v5 : Vec Ideal S1x256x2944 .bf16) (w : Vec Ideal S2944x256 .bf16) (a : Fin 1) (n : Fin 128) (t : Fin 256) (n' : Fin 256) (h : n'.val = n.val) :
    k0_pay25 (F := Ideal) (k0_pay16 v5) w (ix3 a n t) = ∑ k : Fin 2944, (show EReal from v5 (ix3 0 t k)) * (show EReal from w (ix2 k n')) := by
  have hn : n.val < 256 := Nat.lt_trans n.isLt (by decide)
  obtain rfl : n' = ⟨n.val, hn⟩ := Fin.ext h
  pointwise [k0_pay25, k0_pay24, k0_pay16]

/-- The last 128 columns of a product of 256, transposed. -/
theorem pay26_at (v5 : Vec Ideal S1x256x2944 .bf16) (w : Vec Ideal S2944x256 .bf16) (a : Fin 1) (n : Fin 128) (t : Fin 256) (n' : Fin 256) (h : n'.val = 128 + n.val) :
    k0_pay26 (F := Ideal) (k0_pay16 v5) w (ix3 a n t) = ∑ k : Fin 2944, (show EReal from v5 (ix3 0 t k)) * (show EReal from w (ix2 k n')) := by
  have hn : 128 + n.val < 256 := Nat.add_lt_add_left n.isLt 128
  obtain rfl : n' = ⟨128 + n.val, hn⟩ := Fin.ext h
  pointwise [k0_pay26, k0_pay24, k0_pay16]

/-- Where a store of 128 rows puts an index. -/
theorem emb_block (o : ℕ) (inb : ∀ a, (![0, o, 0] : Fin 3 → ℕ) a + S1x128x256.size a ≤ S1x3840x256.size a) (a : Fin 1) (n : Fin 128) (t : Fin 256)
    (n' : Fin 3840) (h : n'.val = o + n.val) :
    (Rect.unit (s := S1x3840x256) ![0, o, 0] S1x128x256.size inb).emb (ix3 a n t) = ix3 a n' t := by
  funext x
  refine Fin.ext ?_
  match x with
  | ⟨0, _⟩ => show 0 + 1 * a.val = a.val; omega
  | ⟨1, _⟩ => show o + 1 * n.val = n'.val; omega
  | ⟨2, _⟩ => show 0 + 1 * t.val = t.val; omega

/-- The activations' block, read whole. -/
theorem read_block (v2 : Memref sig .tc .vmem S1x256x2944 .bf16) (X2 : BufTy.Contents (Elt Ideal) v2.view.ty) (x0 : Vec Ideal S1x256x2944 .bf16)
    (h2 : v2.view.read (Elt Ideal) X2 = x0) (i2 : ∀ a, (![0, 0, 0] : Fin 3 → ℕ) a + S1x256x2944.size a ≤ S1x256x2944.size a)
    (a : Fin 1) (t : Fin 256) (k : Fin 2944) :
    View.readAt (Elt Ideal) v2.view (Rect.unit ![0, 0, 0] S1x256x2944.size i2).toLoadRect X2 (ix3 a t k) = x0 (ix3 a t k) := by
  rw [View.readAt_apply, h2]
  congr 1
  funext x
  refine Fin.ext ?_
  match x with
  | ⟨0, _⟩ => show 0 + 1 * a.val = a.val; omega
  | ⟨1, _⟩ => show 0 + 1 * t.val = t.val; omega
  | ⟨2, _⟩ => show 0 + 1 * k.val = k.val; omega

/-- A store of the first 128 columns of a product of 256 is a block of the product. -/
theorem blockLeft (v2 : Memref sig .tc .vmem S1x256x2944 .bf16) (v6 : Memref sig .tc .vmem S2944x3840 .bf16)
    (X2 : BufTy.Contents (Elt Ideal) v2.view.ty) (X6 : BufTy.Contents (Elt Ideal) v6.view.ty)
    (x0 : Vec Ideal S1x256x2944 .bf16) (W : Vec Ideal S2944x3840 .bf16) (h2 : v2.view.read (Elt Ideal) X2 = x0) (h6 : v6.view.read (Elt Ideal) X6 = W)
    (o : ℕ) (ho : o + 256 ≤ 3840) (i2 : ∀ a, (![0, 0, 0] : Fin 3 → ℕ) a + S1x256x2944.size a ≤ S1x256x2944.size a)
    (i6 : ∀ a, (![0, o] : Fin 2 → ℕ) a + S2944x256.size a ≤ S2944x3840.size a)
    (i5 : ∀ a, (![0, o, 0] : Fin 3 → ℕ) a + S1x128x256.size a ≤ S1x3840x256.size a) (z : S1x128x256.Idx) :
    k0_pay25 (F := Ideal) (k0_pay16 (View.readAt (Elt Ideal) v2.view (Rect.unit ![0, 0, 0] S1x256x2944.size i2).toLoadRect X2))
      (View.readAt (Elt Ideal) v6.view (Rect.unit (s := S2944x3840) ![0, o] S2944x256.size i6).toLoadRect X6) z
      = outB x0 W ((Rect.unit (s := S1x3840x256) ![0, o, 0] S1x128x256.size i5).emb z) := by
  obtain ⟨a, n, t, rfl⟩ : ∃ (a : Fin 1) (n : Fin 128) (t : Fin 256), z = ix3 a n t := ⟨z 0, z 1, z 2, eq_ix3 z⟩
  have hn := n.isLt
  rw [emb_block o i5 a n t ⟨o + n.val, by omega⟩ rfl, pay25_at _ _ a n t ⟨n.val, by omega⟩ rfl]
  refine Finset.sum_congr rfl fun k _ => ?_
  rw [read_block v2 X2 x0 h2 i2 0 t k,
    readAt_rows v6.view X6 i6 k ⟨n.val, by omega⟩ k ⟨o + n.val, by omega⟩ (by show k.val = 0 + k.val; omega) rfl, h6]
  rfl

/-- A store of the last 128 columns of a product of 256 is a block of the product. -/
theorem blockRight (v2 : Memref sig .tc .vmem S1x256x2944 .bf16) (v6 : Memref sig .tc .vmem S2944x3840 .bf16)
    (X2 : BufTy.Contents (Elt Ideal) v2.view.ty) (X6 : BufTy.Contents (Elt Ideal) v6.view.ty)
    (x0 : Vec Ideal S1x256x2944 .bf16) (W : Vec Ideal S2944x3840 .bf16) (h2 : v2.view.read (Elt Ideal) X2 = x0) (h6 : v6.view.read (Elt Ideal) X6 = W)
    (o p : ℕ) (hp : p = o + 128) (ho : o + 256 ≤ 3840) (i2 : ∀ a, (![0, 0, 0] : Fin 3 → ℕ) a + S1x256x2944.size a ≤ S1x256x2944.size a)
    (i6 : ∀ a, (![0, o] : Fin 2 → ℕ) a + S2944x256.size a ≤ S2944x3840.size a)
    (i5 : ∀ a, (![0, p, 0] : Fin 3 → ℕ) a + S1x128x256.size a ≤ S1x3840x256.size a) (z : S1x128x256.Idx) :
    k0_pay26 (F := Ideal) (k0_pay16 (View.readAt (Elt Ideal) v2.view (Rect.unit ![0, 0, 0] S1x256x2944.size i2).toLoadRect X2))
      (View.readAt (Elt Ideal) v6.view (Rect.unit (s := S2944x3840) ![0, o] S2944x256.size i6).toLoadRect X6) z
      = outB x0 W ((Rect.unit (s := S1x3840x256) ![0, p, 0] S1x128x256.size i5).emb z) := by
  obtain ⟨a, n, t, rfl⟩ : ∃ (a : Fin 1) (n : Fin 128) (t : Fin 256), z = ix3 a n t := ⟨z 0, z 1, z 2, eq_ix3 z⟩
  have hn := n.isLt
  rw [emb_block p i5 a n t ⟨p + n.val, by omega⟩ rfl, pay26_at _ _ a n t ⟨128 + n.val, by omega⟩ rfl]
  refine Finset.sum_congr rfl fun k _ => ?_
  rw [read_block v2 X2 x0 h2 i2 0 t k,
    readAt_rows v6.view X6 i6 k ⟨128 + n.val, by omega⟩ k ⟨p + n.val, by omega⟩ (by show k.val = 0 + k.val; omega)
      (by show p + n.val = o + (128 + n.val); omega), h6]
  rfl

/-- A later point's stores are blocks of the product with the weight in the scratch. -/
theorem rest_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : ¬ cond0_0 i)
    (x0 : Vec Ideal S1x256x2944 .bf16) (x1 : Vec Ideal S2880x3840 .fp8e4m3) (x2 : Vec Ideal S90x3840 .i8) (xs0 : Vec Ideal S2944x3840 .bf16) :
    View.PiecesOf (outB x0 xs0) (runRest c i arg2 harg2 arg3 harg3 arg4 harg4 arg5 harg5 arg6 harg6 arg7 harg7 hc0 x0 x1 x2 xs0).1 := by
  frame_open
  have h2 := harg2.read_unread (Val := Elt Ideal) x0
  have h6 := harg6.read_unread (Val := Elt Ideal) xs0
  exact ⟨fun z => blockRight arg2 arg6 _ _ x0 _ h2 h6 3584 3712 rfl (by decide) _ _ inb_S1x3840x256_S1x128x256_0_3712_0 z,
    fun z => blockLeft arg2 arg6 _ _ x0 _ h2 h6 3584 (by decide) _ _ inb_S1x3840x256_S1x128x256_0_3584_0 z,
    fun z => blockRight arg2 arg6 _ _ x0 _ h2 h6 3328 3456 rfl (by decide) _ _ inb_S1x3840x256_S1x128x256_0_3456_0 z,
    fun z => blockLeft arg2 arg6 _ _ x0 _ h2 h6 3328 (by decide) _ _ inb_S1x3840x256_S1x128x256_0_3328_0 z,
    fun z => blockRight arg2 arg6 _ _ x0 _ h2 h6 3072 3200 rfl (by decide) _ _ inb_S1x3840x256_S1x128x256_0_3200_0 z,
    fun z => blockLeft arg2 arg6 _ _ x0 _ h2 h6 3072 (by decide) _ _ inb_S1x3840x256_S1x128x256_0_3072_0 z,
    fun z => blockRight arg2 arg6 _ _ x0 _ h2 h6 2816 2944 rfl (by decide) _ _ inb_S1x3840x256_S1x128x256_0_2944_0 z,
    fun z => blockLeft arg2 arg6 _ _ x0 _ h2 h6 2816 (by decide) _ _ inb_S1x3840x256_S1x128x256_0_2816_0 z,
    fun z => blockRight arg2 arg6 _ _ x0 _ h2 h6 2560 2688 rfl (by decide) _ _ inb_S1x3840x256_S1x128x256_0_2688_0 z,
    fun z => blockLeft arg2 arg6 _ _ x0 _ h2 h6 2560 (by decide) _ _ inb_S1x3840x256_S1x128x256_0_2560_0 z,
    fun z => blockRight arg2 arg6 _ _ x0 _ h2 h6 2304 2432 rfl (by decide) _ _ inb_S1x3840x256_S1x128x256_0_2432_0 z,
    fun z => blockLeft arg2 arg6 _ _ x0 _ h2 h6 2304 (by decide) _ _ inb_S1x3840x256_S1x128x256_0_2304_0 z,
    fun z => blockRight arg2 arg6 _ _ x0 _ h2 h6 2048 2176 rfl (by decide) _ _ inb_S1x3840x256_S1x128x256_0_2176_0 z,
    fun z => blockLeft arg2 arg6 _ _ x0 _ h2 h6 2048 (by decide) _ _ inb_S1x3840x256_S1x128x256_0_2048_0 z,
    fun z => blockRight arg2 arg6 _ _ x0 _ h2 h6 1792 1920 rfl (by decide) _ _ inb_S1x3840x256_S1x128x256_0_1920_0 z,
    fun z => blockLeft arg2 arg6 _ _ x0 _ h2 h6 1792 (by decide) _ _ inb_S1x3840x256_S1x128x256_0_1792_0 z,
    fun z => blockRight arg2 arg6 _ _ x0 _ h2 h6 1536 1664 rfl (by decide) _ _ inb_S1x3840x256_S1x128x256_0_1664_0 z,
    fun z => blockLeft arg2 arg6 _ _ x0 _ h2 h6 1536 (by decide) _ _ inb_S1x3840x256_S1x128x256_0_1536_0 z,
    fun z => blockRight arg2 arg6 _ _ x0 _ h2 h6 1280 1408 rfl (by decide) _ _ inb_S1x3840x256_S1x128x256_0_1408_0 z,
    fun z => blockLeft arg2 arg6 _ _ x0 _ h2 h6 1280 (by decide) _ _ inb_S1x3840x256_S1x128x256_0_1280_0 z,
    fun z => blockRight arg2 arg6 _ _ x0 _ h2 h6 1024 1152 rfl (by decide) _ _ inb_S1x3840x256_S1x128x256_0_1152_0 z,
    fun z => blockLeft arg2 arg6 _ _ x0 _ h2 h6 1024 (by decide) _ _ inb_S1x3840x256_S1x128x256_0_1024_0 z,
    fun z => blockRight arg2 arg6 _ _ x0 _ h2 h6 768 896 rfl (by decide) _ _ inb_S1x3840x256_S1x128x256_0_896_0 z,
    fun z => blockLeft arg2 arg6 _ _ x0 _ h2 h6 768 (by decide) _ _ inb_S1x3840x256_S1x128x256_0_768_0 z,
    fun z => blockRight arg2 arg6 _ _ x0 _ h2 h6 512 640 rfl (by decide) _ _ inb_S1x3840x256_S1x128x256_0_640_0 z,
    fun z => blockLeft arg2 arg6 _ _ x0 _ h2 h6 512 (by decide) _ _ inb_S1x3840x256_S1x128x256_0_512_0 z,
    fun z => blockRight arg2 arg6 _ _ x0 _ h2 h6 256 384 rfl (by decide) _ _ inb_S1x3840x256_S1x128x256_0_384_0 z,
    fun z => blockLeft arg2 arg6 _ _ x0 _ h2 h6 256 (by decide) _ _ inb_S1x3840x256_S1x128x256_0_256_0 z,
    fun z => blockRight arg2 arg6 _ _ x0 _ h2 h6 0 128 rfl (by decide) _ _ inb_S1x3840x256_S1x128x256_0_128_0 z,
    fun z => blockLeft arg2 arg6 _ _ x0 _ h2 h6 0 (by decide) _ _ inb_S1x3840x256_S1x128x256_0_0_0 z,
    trivial⟩

/-- The first point's stores are blocks of the product with the weight it has just dequantised. -/
theorem first_out_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : cond0_0 i)
    (x0 : Vec Ideal S1x256x2944 .bf16) (x1 : Vec Ideal S2880x3840 .fp8e4m3) (x2 : Vec Ideal S90x3840 .i8)
    (f6 : BufTy.Contents (Elt Ideal) arg6.view.ty) (f7 : BufTy.Contents (Elt Ideal) arg7.view.ty) :
    View.PiecesOf (outB x0 (weightV x1 x2)) (runFirst c i arg2 harg2 arg3 harg3 arg4 harg4 arg5 harg5 arg6 harg6 arg7 harg7 hc0 x0 x1 x2 f6 f7).1 := by
  have h2 := harg2.read_unread (Val := Elt Ideal) x0
  have h6 := first_weight c i arg2 harg2 arg3 harg3 arg4 harg4 arg5 harg5 arg6 harg6 arg7 harg7 hc0 x0 x1 x2 f6 f7
  frame_open
  exact ⟨fun z => blockRight arg2 arg6 _ _ x0 _ h2 h6 3584 3712 rfl (by decide) _ _ inb_S1x3840x256_S1x128x256_0_3712_0 z,
    fun z => blockLeft arg2 arg6 _ _ x0 _ h2 h6 3584 (by decide) _ _ inb_S1x3840x256_S1x128x256_0_3584_0 z,
    fun z => blockRight arg2 arg6 _ _ x0 _ h2 h6 3328 3456 rfl (by decide) _ _ inb_S1x3840x256_S1x128x256_0_3456_0 z,
    fun z => blockLeft arg2 arg6 _ _ x0 _ h2 h6 3328 (by decide) _ _ inb_S1x3840x256_S1x128x256_0_3328_0 z,
    fun z => blockRight arg2 arg6 _ _ x0 _ h2 h6 3072 3200 rfl (by decide) _ _ inb_S1x3840x256_S1x128x256_0_3200_0 z,
    fun z => blockLeft arg2 arg6 _ _ x0 _ h2 h6 3072 (by decide) _ _ inb_S1x3840x256_S1x128x256_0_3072_0 z,
    fun z => blockRight arg2 arg6 _ _ x0 _ h2 h6 2816 2944 rfl (by decide) _ _ inb_S1x3840x256_S1x128x256_0_2944_0 z,
    fun z => blockLeft arg2 arg6 _ _ x0 _ h2 h6 2816 (by decide) _ _ inb_S1x3840x256_S1x128x256_0_2816_0 z,
    fun z => blockRight arg2 arg6 _ _ x0 _ h2 h6 2560 2688 rfl (by decide) _ _ inb_S1x3840x256_S1x128x256_0_2688_0 z,
    fun z => blockLeft arg2 arg6 _ _ x0 _ h2 h6 2560 (by decide) _ _ inb_S1x3840x256_S1x128x256_0_2560_0 z,
    fun z => blockRight arg2 arg6 _ _ x0 _ h2 h6 2304 2432 rfl (by decide) _ _ inb_S1x3840x256_S1x128x256_0_2432_0 z,
    fun z => blockLeft arg2 arg6 _ _ x0 _ h2 h6 2304 (by decide) _ _ inb_S1x3840x256_S1x128x256_0_2304_0 z,
    fun z => blockRight arg2 arg6 _ _ x0 _ h2 h6 2048 2176 rfl (by decide) _ _ inb_S1x3840x256_S1x128x256_0_2176_0 z,
    fun z => blockLeft arg2 arg6 _ _ x0 _ h2 h6 2048 (by decide) _ _ inb_S1x3840x256_S1x128x256_0_2048_0 z,
    fun z => blockRight arg2 arg6 _ _ x0 _ h2 h6 1792 1920 rfl (by decide) _ _ inb_S1x3840x256_S1x128x256_0_1920_0 z,
    fun z => blockLeft arg2 arg6 _ _ x0 _ h2 h6 1792 (by decide) _ _ inb_S1x3840x256_S1x128x256_0_1792_0 z,
    fun z => blockRight arg2 arg6 _ _ x0 _ h2 h6 1536 1664 rfl (by decide) _ _ inb_S1x3840x256_S1x128x256_0_1664_0 z,
    fun z => blockLeft arg2 arg6 _ _ x0 _ h2 h6 1536 (by decide) _ _ inb_S1x3840x256_S1x128x256_0_1536_0 z,
    fun z => blockRight arg2 arg6 _ _ x0 _ h2 h6 1280 1408 rfl (by decide) _ _ inb_S1x3840x256_S1x128x256_0_1408_0 z,
    fun z => blockLeft arg2 arg6 _ _ x0 _ h2 h6 1280 (by decide) _ _ inb_S1x3840x256_S1x128x256_0_1280_0 z,
    fun z => blockRight arg2 arg6 _ _ x0 _ h2 h6 1024 1152 rfl (by decide) _ _ inb_S1x3840x256_S1x128x256_0_1152_0 z,
    fun z => blockLeft arg2 arg6 _ _ x0 _ h2 h6 1024 (by decide) _ _ inb_S1x3840x256_S1x128x256_0_1024_0 z,
    fun z => blockRight arg2 arg6 _ _ x0 _ h2 h6 768 896 rfl (by decide) _ _ inb_S1x3840x256_S1x128x256_0_896_0 z,
    fun z => blockLeft arg2 arg6 _ _ x0 _ h2 h6 768 (by decide) _ _ inb_S1x3840x256_S1x128x256_0_768_0 z,
    fun z => blockRight arg2 arg6 _ _ x0 _ h2 h6 512 640 rfl (by decide) _ _ inb_S1x3840x256_S1x128x256_0_640_0 z,
    fun z => blockLeft arg2 arg6 _ _ x0 _ h2 h6 512 (by decide) _ _ inb_S1x3840x256_S1x128x256_0_512_0 z,
    fun z => blockRight arg2 arg6 _ _ x0 _ h2 h6 256 384 rfl (by decide) _ _ inb_S1x3840x256_S1x128x256_0_384_0 z,
    fun z => blockLeft arg2 arg6 _ _ x0 _ h2 h6 256 (by decide) _ _ inb_S1x3840x256_S1x128x256_0_256_0 z,
    fun z => blockRight arg2 arg6 _ _ x0 _ h2 h6 0 128 rfl (by decide) _ _ inb_S1x3840x256_S1x128x256_0_128_0 z,
    fun z => blockLeft arg2 arg6 _ _ x0 _ h2 h6 0 (by decide) _ _ inb_S1x3840x256_S1x128x256_0_0_0 z,
    trivial⟩

/-- A later point leaves the block of the product. -/
theorem rest_out (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : ¬ cond0_0 i)
    (x0 : Vec Ideal S1x256x2944 .bf16) (x1 : Vec Ideal S2880x3840 .fp8e4m3) (x2 : Vec Ideal S90x3840 .i8) (xs0 : Vec Ideal S2944x3840 .bf16)
    (f5 : BufTy.Contents (Elt Ideal) arg5.view.ty) :
    arg5.view.read (Elt Ideal) (arg5.view.writes (Elt Ideal) f5 (runRest c i arg2 harg2 arg3 harg3 arg4 harg4 arg5 harg5 arg6 harg6 arg7 harg7 hc0 x0 x1 x2 xs0).1) = outB x0 xs0 :=
  read_writes_of_piecesOf _ _ _ _ (rest_pieces c i arg2 harg2 arg3 harg3 arg4 harg4 arg5 harg5 arg6 harg6 arg7 harg7 hc0 x0 x1 x2 xs0)
    (fun y => View.cover_of_tiledBy (runRest c i arg2 harg2 arg3 harg3 arg4 harg4 arg5 harg5 arg6 harg6 arg7 harg7 hc0 x0 x1 x2 xs0).1 ![1, 128, 256] (by sl_kernel_rfl) y)

/-- The first point leaves the block of the product. -/
theorem first_out (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S1x3840x256 .bf16) (harg5 : arg5.IsWhole) (arg6 : Memref sig .tc .vmem S2944x3840 .bf16) (harg6 : arg6.IsWhole) (arg7 : Memref sig .tc .vmem S96x3840 .f32) (harg7 : arg7.IsWhole) (hc0 : cond0_0 i)
    (x0 : Vec Ideal S1x256x2944 .bf16) (x1 : Vec Ideal S2880x3840 .fp8e4m3) (x2 : Vec Ideal S90x3840 .i8)
    (f6 : BufTy.Contents (Elt Ideal) arg6.view.ty) (f7 : BufTy.Contents (Elt Ideal) arg7.view.ty)
    (f5 : BufTy.Contents (Elt Ideal) arg5.view.ty) :
    arg5.view.read (Elt Ideal) (arg5.view.writes (Elt Ideal) f5 (runFirst c i arg2 harg2 arg3 harg3 arg4 harg4 arg5 harg5 arg6 harg6 arg7 harg7 hc0 x0 x1 x2 f6 f7).1) = outB x0 (weightV x1 x2) :=
  read_writes_of_piecesOf _ _ _ _ (first_out_pieces c i arg2 harg2 arg3 harg3 arg4 harg4 arg5 harg5 arg6 harg6 arg7 harg7 hc0 x0 x1 x2 f6 f7)
    (fun y => View.cover_of_tiledBy (runFirst c i arg2 harg2 arg3 harg3 arg4 harg4 arg5 harg5 arg6 harg6 arg7 harg7 hc0 x0 x1 x2 f6 f7).1 ![1, 128, 256] (by sl_kernel_rfl) y)

end Cert.GateIdeal.Output

end
end
-- ==== Proof.GateIdealFrame.lean ====
/- The gate projection's run over the extended reals: after the first point its scratch holds the dequantised weight, every
   point leaves the product of its block with it, and the run ends with every argument as it was. -/
module

public import proofs.«01_k».proof.Proof.GateIdealOutput
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.GateIdeal.FrameRun

open Cert.GateIdeal Cert.GateIdeal.Gen Cert.GateIdeal.Body Cert.GateIdeal.Run Cert.GateIdeal.Weight Cert.GateIdeal.Output Cert.ProjWeight

local notation "𝕄" => MT nD τ sig Unit (Elt Ideal) ℕ (UR sig nD τ) ℕ

variable (m : (ℓ : Loc nD τ sig) → Buf (Elt Ideal) ℓ) (ρ : Dev nD → PrngReg)

/-- Which block each window holds at a point. -/
theorem idx : ∀ t : Fin cfg0.N, win0_0.index t = ![t.val / 12, t.val % 12, 0] ∧ win0_1.index t = ![0, 0] ∧ win0_2.index t = ![0, 0]
    ∧ win0_3.index t = ![t.val / 12, 0, t.val % 12] :=
  (by decide +kernel : ∀ t : Fin grid0.N, _)

/-- The weight and scale windows hold the same block at every point. -/
theorem iblk_const (c : Dev nD) (t t' : Fin cfg0.N) : iblk m c 1 t = iblk m c 1 t' ∧ iblk m c 2 t = iblk m c 2 t' := by
  constructor
  · funext j
    blk_ext [iblk, idx t, idx t']
  · funext j
    blk_ext [iblk, idx t, idx t']

/-- The dequantised weight, from the blocks a point stages. -/
abbrev weightAt (c : Dev nD) (t : Fin cfg0.N) : Vec Ideal S2944x3840 .bf16 := weightV (iblk m c 1 t) (iblk m c 2 t)

theorem weightAt_const (c : Dev nD) (t t' : Fin cfg0.N) : weightAt m c t = weightAt m c t' := by
  unfold weightAt; rw [(iblk_const m c t t').1, (iblk_const m c t t').2]

/-- The region invariant before a position: before the first point every scratch at anything, afterwards the first at the
    dequantised weight. -/
def PhiS (c : Dev nD) : (n : ℕ) → n ≤ cfg0.N → sProp 𝕄
  | 0, _ => Pipeline.ΦA spec0 c
  | n + 1, hn => iprop(iprop(owns (c : Thread nD τ) scM0_0 fullShare (weightAt m c ⟨n, hn⟩) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns (c : Thread nD τ) scM0_0 fullShare (weightAt m c t) ∗ (∃ d, owns (c : Thread nD τ) scM0_1 fullShare d)) ∗ (∃ r, prngReg c r)) := rfl

/-- Before a point that is not the first the scratch holds the weight as that point's blocks say it. -/
theorem PhiS_pos (c : Dev nD) (n : ℕ) (h : n ≤ cfg0.N) (hz : n ≠ 0) (t : Fin cfg0.N) :
    PhiS m c n h = iprop(iprop(owns (c : Thread nD τ) scM0_0 fullShare (weightAt m c t) ∗ (∃ d, owns (c : Thread nD τ) scM0_1 fullShare d)) ∗ (∃ r, prngReg c r)) := by
  cases n with
  | zero => exact absurd rfl hz
  | succ n => rw [weightAt_const m c t ⟨n, h⟩]; rfl

/-- The class's invariant with the scratch at its contents. -/
theorem PhiA0_open (c : Dev nD) :
    (Pipeline.ΦA spec0 c : sProp 𝕄)
      = iprop(iprop((∃ d, ∃ f, ⌜scM0_0.view.read (Elt Ideal) f = d⌝ ∗ (scM0_0.view.loc (c : Thread nD τ) ↦[scM0_0.view.set]{fullShare} f))
        ∗ (∃ d, ∃ f, ⌜scM0_1.view.read (Elt Ideal) f = d⌝ ∗ (scM0_1.view.loc (c : Thread nD τ) ↦[scM0_1.view.set]{fullShare} f))) ∗ (∃ r, prngReg c r)) := by
  rw [PhiA0_eq]; rfl

/-- The proof data of the pipeline: each input's buffer at its block, the output's at the product with the weight. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB (iblk m c 0 t) (weightAt m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB (iblk m c 0 t) (weightAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the first point dequantises the weight into the scratch, the later ones find it there. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  have hN : t.val < 84 := lt_of_lt_of_eq t.isLt (show cfg0.N = 84 from N_0)
  by_cases hz : t.val = 0
  · have h0 : t.val % 84 = 0 := by omega
    rw [PhiS_castSucc m c t, PhiS_zero m c _ _ hz, PhiA0_open]
    iintro ⟨⟨⟨⟨%ds0, %f6, -, HS0⟩, ⟨%ds1, %f7, -, HS1⟩⟩, Hg⟩, Ho, ⟨%d0, H0⟩, ⟨%d1, H1⟩, ⟨%d2, H2⟩, ⟨%d3, H3⟩⟩
    iapply ((runFirst c (grid0.coords t) _ (hs0_0 t) _ (hs0_1 t) _ (hs0_2 t) _ (hs0_3 t) scM0_0 (Memref.isWhole_whole _) scM0_1 (Memref.isWhole_whole _) ((hcond0_0 t).mpr h0) (iblk m c 0 t) (iblk m c 1 t) (iblk m c 2 t) f6 f7).2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, HS0, HS1⟩
    isplitl [HS0 HS1 Hg]
    · isplitl [HS0 HS1]
      · isplitl [HS0]
        · unfold owns; iexists _; isplitr
          swap; · iexact HS0
          ipureintro; exact first_weight c _ _ _ _ _ _ _ _ _ _ _ _ _ _ _ _ _ _ _
        iexact HS1
      iexact Hg
    isplitl [Ho]; · iexact Ho
    isplitl [H0]; · iexact H0
    isplitl [H1]; · iexact H1
    isplitl [H2]; · iexact H2
    unfold owns; iexists _; isplitr
    swap; · iexact H3
    ipureintro; exact first_out c _ _ _ _ _ _ _ _ _ _ _ _ _ _ _ _ _ _ _ _
  · have h0 : ¬ t.val % 84 = 0 := by omega
    rw [PhiS_castSucc m c t, PhiS_pos m c _ _ hz t]
    iintro ⟨⟨⟨HS0, HS1⟩, Hg⟩, Ho, ⟨%d0, H0⟩, ⟨%d1, H1⟩, ⟨%d2, H2⟩, ⟨%d3, H3⟩⟩
    iapply ((runRest c (grid0.coords t) _ (hs0_0 t) _ (hs0_1 t) _ (hs0_2 t) _ (hs0_3 t) scM0_0 (Memref.isWhole_whole _) scM0_1 (Memref.isWhole_whole _) (fun h => h0 ((hcond0_0 t).mp h)) (iblk m c 0 t) (iblk m c 1 t) (iblk m c 2 t) (weightAt m c t)).2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    unfold owns; iexists _; isplitr
    swap; · iexact H3
    ipureintro; exact rest_out c _ _ _ _ _ _ _ _ _ _ _ _ _ _ _ _ _ _ _

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht ⟨0, by rw [show cfg0.N = 84 from N_0]; decide⟩, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 84 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_OutIdeal`'s statement (Defs.lean) at any `F` — Proof.lean cites it at `Bits`:
    `theorem Cert.Proof.claim : Cert.Claim := ⟨Cert.GateIdeal.Gen.facts, fun m ρ _ => Cert.GateIdeal.Gen.frame m ρ⟩`. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run with the output array named and the arguments unchanged. -/
theorem run_blocks : θ_run defs (onTc (τ := τ) (main (F := Ideal))) ⟨m, fun _ => 0, ρ⟩ (fun r => ∀ c : Dev nD,
      r.2.mem ((c : Thread nD τ).loc main_v2) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨h.1 c, h.2 c⟩)
    (θ_run_and ((θ_run defs _ _).mono (fun r (h : Pipeline.FramePost cfgs (dats m) 0 (V m) r) c => (h c).1 3) (run_main m ρ)) (unchanged m ρ))

end Cert.GateIdeal.FrameRun

end
end
-- ==== Proof.GateIdealValue.lean ====
/- What the gate projection leaves in its output array. -/
module

public import proofs.«01_k».proof.Proof.GateIdealFrame

@[expose] public section

set_option maxRecDepth 16384

noncomputable section

open Idealize.ShloMosaic Idealize.ShloMosaic.TcCoe Idealize.SL.Sem
open Idealize.ShloMosaic.Pipeline (Dat)

namespace Cert.GateIdeal.GateValue

open Cert.GateIdeal Cert.GateIdeal.Gen Cert.GateIdeal.Output Cert.GateIdeal.FrameRun Cert.ProjWeight

variable (m : (ℓ : Loc nD τ sig) → Buf (Elt Ideal) ℓ)

/-- The result. -/
def GATE (x : Vec Ideal S7x3072x2944 .bf16) (w : Vec Ideal S3840x2880 .fp8e4m3) (s : Vec Ideal S3840x90 .i8) : Vec Ideal S7x3840x3072 .bf16 :=
  fun i => ∑ k : Fin 2880, (show EReal from x (ix3 (i 0) (i 2) ⟨k.val, by omega⟩))
    * ((show EReal from w (ix2 (i 1) k)) * Scale.power (s (ix2 (i 1) ⟨k.val / 32, by omega⟩)))

/-- The block of the product at an index, the zero rows left out. -/
theorem outB_at (x : Vec Ideal S1x256x2944 .bf16) (w : Vec Ideal S2880x3840 .fp8e4m3) (s : Vec Ideal S90x3840 .i8) (a : Fin 1) (n : Fin 3840) (t : Fin 256) :
    outB x (weightV w s) (ix3 a n t) = ∑ k : Fin 2880, (show EReal from x (ix3 0 t ⟨k.val, by omega⟩))
      * ((show EReal from w (ix2 k n)) * Scale.power (s (ix2 ⟨k.val / 32, by omega⟩ n))) :=
  sum_rows w s (fun k => x (ix3 0 t k)) n

/-- The output array is the product of the activations with the dequantised weight, transposed. -/
theorem final (c : Dev nD) : (dats m 0 c).arrAt 3 cfg0.N
    = GATE (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  unfold weightAt
  rw [outB_at]
  unfold GATE
  refine Fin.sum_fin_congr fun k => ?_
  have e0 : iblk m c 0 t (ix3 0 y2 ⟨k.val, by omega⟩) = m ((c : Thread nD τ).loc main_arg0) (ix3 ((win0_3.blk t).view.emb (ix3 y0 y1 y2) 0) ((win0_3.blk t).view.emb (ix3 y0 y1 y2) 2) ⟨k.val, by omega⟩) := by
    blk_ext [iblk, V, idx t]
  have e1 : iblk m c 1 t (ix2 k y1) = m ((c : Thread nD τ).loc main_arg1) (ix2 ((win0_3.blk t).view.emb (ix3 y0 y1 y2) 1) k) := by
    blk_point [iblk, V, idx t]
  have e2 : iblk m c 2 t (ix2 ⟨k.val / 32, by omega⟩ y1) = m ((c : Thread nD τ).loc main_arg2) (ix2 ((win0_3.blk t).view.emb (ix3 y0 y1 y2) 1) ⟨k.val / 32, by omega⟩) := by
    blk_point [iblk, V, idx t]
  rw [e0, e1, e2]

end Cert.GateIdeal.GateValue

end
end
-- ==== Proof.GateReferenceValue.lean ====
/- What the gate projection's reference leaves in its output array. -/
module

public import proofs.«01_k».proof.Proof.Scale
public import proofs.«01_k».proof.Proof.OutReferencePure
public import proofs.«01_k».proof.Proof.Gen.GateReferenceIdeal.Value
public import Idealize.ShloMosaic.Lib.Pipeline.ValueKit

@[expose] public section

set_option maxRecDepth 16384

noncomputable section

open Idealize.ShloMosaic Idealize.ShloMosaic.TcCoe Idealize.SL.Sem

namespace Cert.GateReferenceIdeal.GateReferenceValue

open Cert.GateReferenceIdeal Cert.GateReferenceIdeal.Gen

/-- The dequantised weight at an index. -/
theorem pay3_at (w : Vec Ideal S3840x2880 .fp8e4m3) (s : Vec Ideal S3840x90 .i8) (n : Fin 3840) (k : Fin 2880) :
    k0_pay3 (F := Ideal) w s (ix2 n k) = (show EReal from w (ix2 n k)) * Scale.power (s (ix2 n ⟨k.val / 32, by omega⟩)) := by
  pointwise [k0_pay3]
  rw [← Scale.select_exp2]
  exact OutReferenceIdeal.Pure.select_mul _ _ _

/-- A load of the whole weight is the weight. -/
theorem ld_w (w : Vec Ideal S3840x2880 .fp8e4m3) : View.ld w r0_0 = w := View.ld_unit_zero Value.hz1 _ w

/-- A load of all scales is the scales. -/
theorem ld_s (s : Vec Ideal S3840x90 .i8) : View.ld s r0_1 = s := View.ld_unit_zero Value.hz2 _ s

/-- A sum over the dequantised weight's row, at coordinates given by their numbers. -/
theorem row_at (x : Vec Ideal S7x3072x2944 .bf16) (w : Vec Ideal S3840x2880 .fp8e4m3) (s : Vec Ideal S3840x90 .i8)
    (b b' : Fin 7) (n n' : Fin 3840) (t t' : Fin 3072) (hb : b'.val = b.val) (hn : n'.val = n.val) (ht : t'.val = t.val) :
    ∑ k : Fin 2880, (show EReal from x (ix3 b t ⟨k.val, by omega⟩)) * (show EReal from k0_pay3 (F := Ideal) w s (ix2 n k))
      = ∑ k : Fin 2880, (show EReal from x (ix3 b' t' ⟨k.val, by omega⟩)) * ((show EReal from w (ix2 n' k)) * Scale.power (s (ix2 n' ⟨k.val / 32, by omega⟩))) := by
  obtain rfl := Fin.ext hb; obtain rfl := Fin.ext hn; obtain rfl := Fin.ext ht
  exact Finset.sum_congr rfl fun k _ => by rw [pay3_at]

/-- The reference's array at an index: one batch stored after the other. -/
theorem G3_at (x : Vec Ideal S7x3072x2944 .bf16) (w : Vec Ideal S3840x2880 .fp8e4m3) (s : Vec Ideal S3840x90 .i8)
    (b : Fin 7) (n : Fin 3840) (t : Fin 3072) :
    Value.G3 (F := Ideal) x w s (ix3 b n t)
      = ∑ k : Fin 2880, (show EReal from x (ix3 b t ⟨k.val, by omega⟩)) * ((show EReal from w (ix2 n k)) * Scale.power (s (ix2 n ⟨k.val / 32, by omega⟩))) := by
  unfold Value.G3
  canon_tiles z h
  all_goals
    rw [eq_ix3 z]
    pointwise [k0_pay1, k0_pay2, k0_pay4, k0_pay5, k0_pay6, k0_pay7, k0_pay8, k0_pay9, k0_pay10]
    try rw [ld_w, ld_s]
    exact row_at _ _ _ _ _ _ _ _ _ (h0.trans (by rw [Nat.lt_one_iff.mp z0_lt]; rfl)) h1 h2

end Cert.GateReferenceIdeal.GateReferenceValue

end
end
-- ==== Proof.GateClaim.lean ====
/- The gate projection and its reference end with the same array. -/
module

public import proofs.«01_k».proof.Defs
public import proofs.«01_k».proof.Proof.GateIdealValue
public import proofs.«01_k».proof.Proof.GateReferenceValue
public import Idealize.ShloMosaic.Adequacy
public import Idealize.ShloMosaic.Init

@[expose] public section

set_option maxRecDepth 16384

noncomputable section

open Idealize.ShloMosaic Idealize.ShloMosaic.TcCoe Idealize.SL.Sem

namespace Cert.GateClaim

/-- The reference's array is the kernel's. -/
theorem reference_eq (x : Vec Ideal ⟨3, ![7, 3072, 2944]⟩ .bf16) (w : Vec Ideal ⟨2, ![3840, 2880]⟩ .fp8e4m3) (s : Vec Ideal ⟨2, ![3840, 90]⟩ .i8) :
    GateReferenceIdeal.Value.G3 (F := Ideal) x w s = GateIdeal.GateValue.GATE x w s := by
  funext i
  idx_vars i
  exact GateReferenceIdeal.GateReferenceValue.G3_at x w s _ _ _

/-- The algebraic claim. -/
theorem algebraic : algebraic_GateIdeal_GateReferenceIdeal (hGateIdeal := GateIdeal.Gen.facts) (hGateReferenceIdeal := GateReferenceIdeal.Gen.facts) := by
  intro m g m' g' _ hagree
  refine ⟨fun c => GateIdeal.GateValue.GATE (m ((c.tc : Thread GateIdeal.nD GateIdeal.τ).loc GateIdeal.main_arg0))
    (m ((c.tc : Thread GateIdeal.nD GateIdeal.τ).loc GateIdeal.main_arg1)) (m ((c.tc : Thread GateIdeal.nD GateIdeal.τ).loc GateIdeal.main_arg2)), ?_, ?_⟩
  · exact (θ_run _ _ _).mono (fun r h c => ⟨(h c).1.trans (GateIdeal.GateValue.final m c), (h c).2⟩) (GateIdeal.FrameRun.run_blocks m g)
  · refine (θ_run _ _ _).mono (fun r h c => ⟨(h c).1.trans ?_, (h c).2⟩) (GateReferenceIdeal.Value.run (F := Ideal) m' g')
    rw [reference_eq, (hagree c).1, (hagree c).2.1, (hagree c).2.2]

end Cert.GateClaim

end
end
-- ==== Proof.VBody.lean ====
/- What the runs of the v projection share: its conditions and its buffers, and the frame read off a run. -/
module
public import proofs.«01_k».proof.Proof.Gen.V.Frame
public import proofs.«01_k».proof.Proof.Gen.V.Loops
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.V.Body
open Cert.V Cert.V.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- The frame claim's post from a frame run whose arrays are the region-entry contents. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-- The body's first condition, which holds at the first point only. -/
abbrev cond0_0 (i : grid0.Coords) : Prop := k0_cond1 i = 1#1
theorem hcond0_0 : ∀ t : Fin cfg0.N, cond0_0 (grid0.coords t) ↔ t.val % 84 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 84 = 0)

/-- The body's second condition, which holds at the first point of each batch. -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 12 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_1, e0, e1]
    word_cmp
   : ∀ t : Fin grid0.N, cond0_1 (grid0.coords t) ↔ t.val % 12 = 0)

/-- Each window's current staging memref at point `t`, spelled as the pipeline passes it (`bodyAt0`), and its wholeness. -/
abbrev ms0_0 (t : Fin cfg0.N) : Memref sig .tc .vmem S1x256x2944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x3840 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S90x3840 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x3840 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3840x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x3840 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2944x3840 .bf16 := Memref.whole cc0_scratch0
abbrev scM0_1 : Memref sig .tc .vmem S96x3840 .f32 := Memref.whole cc0_scratch1
abbrev scM0_2 : Memref sig .tc .vmem S30x8x128 .f32 := Memref.whole cc0_scratch2
abbrev scM0_3 : Memref sig .tc .vmem S4x264x128 .f32 := Memref.whole cc0_scratch3

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl
end Cert.V.Body
end
end
-- ==== Proof.VRunFirst.lean ====
/- The body of the v projection at the first point, which dequantises the weight and starts a batch. -/
module
public import proofs.«01_k».proof.Proof.VBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.V.Run
open Cert.V Cert.V.Gen Cert.V.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at the first point, which dequantises the weight and starts a batch: the inputs' buffers stay as they are, every other buffer is left at something. -/
theorem runFirst (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec F S1x256x2944 .bf16) (x1 : Vec F S2880x3840 .fp8e4m3) (x2 : Vec F S90x3840 .i8) (x3 : Vec F S4x3840 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj_v i arg2 harg2 arg3 harg3 arg4 harg4 arg5 harg5 arg6 harg6 arg7 harg7 arg8 harg8 arg9 harg9 arg10 harg10 arg11 harg11) K := by
  intro E K
  simp only [cc0_proj_v_eq_skeleton]; unfold cc0_proj_v_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl
end Cert.V.Run
end
end
-- ==== Proof.VRunStart.lean ====
/- The body of the v projection at the first point of a later batch, which clears the rows carried over. -/
module
public import proofs.«01_k».proof.Proof.VBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.V.Run
open Cert.V Cert.V.Gen Cert.V.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at the first point of a later batch, which clears the rows carried over: the inputs' buffers stay as they are, every other buffer is left at something. -/
theorem runStart (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : cond0_1 i)
    (x0 : Vec F S1x256x2944 .bf16) (x1 : Vec F S2880x3840 .fp8e4m3) (x2 : Vec F S90x3840 .i8) (x3 : Vec F S4x3840 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj_v i arg2 harg2 arg3 harg3 arg4 harg4 arg5 harg5 arg6 harg6 arg7 harg7 arg8 harg8 arg9 harg9 arg10 harg10 arg11 harg11) K := by
  intro E K
  simp only [cc0_proj_v_eq_skeleton]; unfold cc0_proj_v_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl
end Cert.V.Run
end
end
-- ==== Proof.VRunRest.lean ====
/- The body of the v projection at any other point. -/
module
public import proofs.«01_k».proof.Proof.VBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.V.Run
open Cert.V Cert.V.Gen Cert.V.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at any other point: the inputs' buffers stay as they are, every other buffer is left at something. -/
theorem runRest (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : ¬cond0_1 i)
    (x0 : Vec F S1x256x2944 .bf16) (x1 : Vec F S2880x3840 .fp8e4m3) (x2 : Vec F S90x3840 .i8) (x3 : Vec F S4x3840 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_proj_v i arg2 harg2 arg3 harg3 arg4 harg4 arg5 harg5 arg6 harg6 arg7 harg7 arg8 harg8 arg9 harg9 arg10 harg10 arg11 harg11) K := by
  intro E K
  simp only [cc0_proj_v_eq_skeleton]; unfold cc0_proj_v_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl
end Cert.V.Run
end
end
-- ==== Proof.VFrame.lean ====
/- The frame of the v projection: its run ends with every argument as it was. What it leaves in its outputs is not named here. -/
module
public import proofs.«01_k».proof.Proof.VRunFirst
public import proofs.«01_k».proof.Proof.VRunStart
public import proofs.«01_k».proof.Proof.VRunRest
public import Idealize.ShloMosaic.Lib.Claim
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.V.FrameRun
open Cert.V Cert.V.Gen Cert.V.Body Cert.V.Run
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- Nothing reads what the kernel leaves in its outputs, so nothing of it is named. -/
def forgets0 : Fin 6 → Bool := fun w => w.val == 4 || w.val == 5

/-- The proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d))

set_option maxHeartbeats 1600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 84 := lt_of_lt_of_eq t.isLt (show cfg0.N = 84 from N_0)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  by_cases h0 : t.val % 84 = 0
  · have h1 : t.val % 12 = 0 := by omega
    iapply ((runFirst c (grid0.coords t) _ _ _ _ _ _ _ _ _ _ _ _ _ _ _ _ _ _ _ _ ((hcond0_0 t).mpr h0) ((hcond0_1 t).mpr h1) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    iexact H5
  · by_cases h1 : t.val % 12 = 0
    · iapply ((runStart c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      iexact H5
    · iapply ((runRest c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t)) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_run m ρ (fun c => (dats m 0 c).toRForget forgets0) (A_eq m) (run_main m ρ)

/-- THE FRAME: `Cert.quiescent_V`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))
end Cert.V.FrameRun
end
end
-- ==== Proof.ConvSilu.lean ====
/- The short convolution of the q, k and v projections followed by silu: four taps on a token and the three before it. -/
module

public import proofs.«01_k».proof.Proof.Scale

@[expose] public section

noncomputable section

open Idealize.ShloMosaic

namespace Cert.ConvSilu

/-- `x * logistic x`. -/
def silu (y : EReal) : EReal := y * Ideal.logistic y

/-- Four taps on the rows `t … t + 3` of a column, then silu. -/
def conv (p : ℕ → EReal) (c : Fin 4 → EReal) (t : ℕ) : EReal :=
  silu (((p t * c 0 + p (t + 1) * c 1) + p (t + 2) * c 2) + p (t + 3) * c 3)

/-- A column with three zero rows before it. -/
def padded {n : ℕ} (l : Fin n → EReal) (r : ℕ) : EReal :=
  if h : 3 ≤ r ∧ r - 3 < n then l ⟨r - 3, h.2⟩ else 0

theorem padded_lt {n : ℕ} (l : Fin n → EReal) (r : ℕ) (h : r < 3) : padded l r = 0 := dif_neg (by omega)

theorem padded_ge {n : ℕ} (l : Fin n → EReal) (r : ℕ) (t : Fin n) (h : r = t.val + 3) : padded l r = l t := by
  subst h
  have ht := t.isLt
  unfold padded
  rw [dif_pos ⟨by omega, by omega⟩]
  rfl

end Cert.ConvSilu

end
end
-- ==== Proof.ProjConv.lean ====
/- The v and q/k projections keep the last eight rows of every column from one block of tokens to the next, and convolve:
   per 128 columns they write those rows and the block's 256 into one of four scratch strips and read it at four offsets.
   This module says, for any views, what such reads hold. -/
module

public import proofs.«01_k».proof.Proof.ProjWeight
public import proofs.«01_k».proof.Proof.ConvSilu
public import Idealize.ShloMosaic.Lib.WritesUnit

@[expose] public section

set_option maxRecDepth 16384

noncomputable section

open Idealize.ShloMosaic Idealize.ShloMosaic.TcCoe Idealize.SL.Sem

namespace Cert.ProjConv

open Cert.ConvSilu

/-- The product of a block of activations with the weight, at a token and a column. -/
def lin (x : Vec Ideal ⟨3, ![1, 256, 2944]⟩ .bf16) (W : Vec Ideal ⟨2, ![2944, 3840]⟩ .bf16) (n : Fin 3840) (t : Fin 256) : EReal :=
  ∑ k : Fin 2944, (show EReal from x (ix3 0 t k)) * (show EReal from W (ix2 k n))

/-- The last eight rows of every column, 128 columns to a strip. -/
def histV (x : Vec Ideal ⟨3, ![1, 256, 2944]⟩ .bf16) (W : Vec Ideal ⟨2, ![2944, 3840]⟩ .bf16) : Vec Ideal ⟨3, ![30, 8, 128]⟩ .f32 :=
  fun j => lin x W ⟨128 * (j 0).val + (j 2).val, by have h0 : (j 0).val < 30 := (j 0).isLt; have h2 : (j 2).val < 128 := (j 2).isLt; omega⟩
    ⟨248 + (j 1).val, by have h1 : (j 1).val < 8 := (j 1).isLt; omega⟩

/-- The last eight rows of every column. -/
def tailV (x : Vec Ideal ⟨3, ![1, 256, 2944]⟩ .bf16) (W : Vec Ideal ⟨2, ![2944, 3840]⟩ .bf16) : Vec Ideal ⟨3, ![1, 8, 3840]⟩ .bf16 :=
  fun j => lin x W (j 2) ⟨248 + (j 1).val, by have h1 : (j 1).val < 8 := (j 1).isLt; omega⟩

/-- Eight rows of a column, then 256. -/
def col (p : Fin 8 → EReal) (l : Fin 256 → EReal) (r : ℕ) : EReal :=
  if h : r < 8 then p ⟨r, h⟩ else if h' : r - 8 < 256 then l ⟨r - 8, h'⟩ else 0

theorem col_lt (p : Fin 8 → EReal) (l : Fin 256 → EReal) (r : ℕ) (a : Fin 8) (h : r = a.val) : col p l r = p a := by
  subst h
  exact dif_pos a.isLt

theorem col_ge (p : Fin 8 → EReal) (l : Fin 256 → EReal) (r : ℕ) (a : Fin 256) (h : r = 8 + a.val) : col p l r = l a := by
  subst h
  have ha := a.isLt
  unfold col
  rw [dif_neg (by omega), dif_pos (by omega)]
  exact congrArg l (Fin.ext (by show 8 + a.val - 8 = a.val; omega))

/-- The rows of a column of the strips, `H` from the block before. -/
def rows (x : Vec Ideal ⟨3, ![1, 256, 2944]⟩ .bf16) (W : Vec Ideal ⟨2, ![2944, 3840]⟩ .bf16) (H : Vec Ideal ⟨3, ![30, 8, 128]⟩ .f32) (n : Fin 3840) : ℕ → EReal :=
  col (fun r => (show EReal from H (ix3 ⟨n.val / 128, by omega⟩ r ⟨n.val % 128, by omega⟩))) (lin x W n)

/-- The block of the convolution, transposed. -/
def outV (x : Vec Ideal ⟨3, ![1, 256, 2944]⟩ .bf16) (W : Vec Ideal ⟨2, ![2944, 3840]⟩ .bf16) (c : Vec Ideal ⟨2, ![4, 3840]⟩ .f32) (H : Vec Ideal ⟨3, ![30, 8, 128]⟩ .f32) :
    Vec Ideal ⟨3, ![1, 3840, 256]⟩ .bf16 :=
  fun j => conv (rows x W H (j 1)) (fun i => (show EReal from c (ix2 i (j 1)))) (5 + (j 2).val)

/-- Where a rectangle of a rank-3 buffer puts an index. -/
theorem emb_ix3 {A B C a' b' c' : ℕ} {off : Fin 3 → ℕ} (inb : ∀ a, off a + (![a', b', c'] : Fin 3 → ℕ) a ≤ (⟨3, ![A, B, C]⟩ : Shape).size a)
    (a : Fin a') (b : Fin b') (c : Fin c') (ra : Fin A) (rb : Fin B) (rc : Fin C) (ha : ra.val = off 0 + a.val) (hb : rb.val = off 1 + b.val) (hc : rc.val = off 2 + c.val) :
    (Rect.unit (s := ⟨3, ![A, B, C]⟩) off ![a', b', c'] inb).emb (ix3 a b c) = ix3 ra rb rc := by
  funext x
  refine Fin.ext ?_
  match x with
  | ⟨0, _⟩ => show off 0 + 1 * a.val = ra.val; omega
  | ⟨1, _⟩ => show off 1 + 1 * b.val = rb.val; omega
  | ⟨2, _⟩ => show off 2 + 1 * c.val = rc.val; omega

/-- A load of a rank-3 buffer at an index. -/
theorem readAt_ix3 {sig : RefSig} {κ : Kind} {sp : Space} {e : EltTy} {A B C a' b' c' : ℕ} (v : View sig κ sp ⟨3, ![A, B, C]⟩ e)
    (f : v.ty.Contents (Elt Ideal)) {off : Fin 3 → ℕ} (inb : ∀ a, off a + (![a', b', c'] : Fin 3 → ℕ) a ≤ (⟨3, ![A, B, C]⟩ : Shape).size a)
    (a : Fin a') (b : Fin b') (c : Fin c') (ra : Fin A) (rb : Fin B) (rc : Fin C) (ha : ra.val = off 0 + a.val) (hb : rb.val = off 1 + b.val) (hc : rc.val = off 2 + c.val) :
    v.readAt (Elt Ideal) (Rect.unit (s := ⟨3, ![A, B, C]⟩) off ![a', b', c'] inb).toLoadRect f (ix3 a b c) = v.read (Elt Ideal) f (ix3 ra rb rc) := by
  rw [View.readAt_apply]
  exact congrArg (v.read (Elt Ideal) f) (emb_ix3 inb a b c ra rb rc ha hb hc)

/-- A strip holding eight rows and the 256 after them, read from row `o`. -/
theorem strip_at {sig : RefSig} {κ : Kind} {sp : Space} (v : View sig κ sp ⟨3, ![4, 264, 128]⟩ .f32) (q o m : ℕ)
    (i2 : ∀ a, (![q, 8, 0] : Fin 3 → ℕ) a + (![1, 256, 128] : Fin 3 → ℕ) a ≤ (⟨3, ![4, 264, 128]⟩ : Shape).size a)
    (i1 : ∀ a, (![q, 0, 0] : Fin 3 → ℕ) a + (![1, 8, 128] : Fin 3 → ℕ) a ≤ (⟨3, ![4, 264, 128]⟩ : Shape).size a)
    (i0 : ∀ a, (![q, o, 0] : Fin 3 → ℕ) a + (![1, m, 128] : Fin 3 → ℕ) a ≤ (⟨3, ![4, 264, 128]⟩ : Shape).size a)
    (P2 : Vec Ideal ⟨3, ![1, 256, 128]⟩ .f32) (P1 : Vec Ideal ⟨3, ![1, 8, 128]⟩ .f32) (L : List (View.Piece (Elt Ideal) ⟨3, ![4, 264, 128]⟩ .f32))
    (a : Fin 1) (t : Fin m) (l : Fin 128) :
    v.readCov (⟨Rect.unit (s := ⟨3, ![4, 264, 128]⟩) ![q, 8, 0] ![1, 256, 128] i2, P2⟩ :: ⟨Rect.unit (s := ⟨3, ![4, 264, 128]⟩) ![q, 0, 0] ![1, 8, 128] i1, P1⟩ :: L)
      (Rect.unit (s := ⟨3, ![4, 264, 128]⟩) ![q, o, 0] ![1, m, 128] i0).toLoadRect (ix3 a t l)
      = col (fun r => (show EReal from P1 (ix3 0 r l))) (fun r => (show EReal from P2 (ix3 0 r l))) (o + t.val) := by
  have hq : q + 1 ≤ 4 := i0 0
  have ho : o + m ≤ 264 := i0 1
  have ha := a.isLt
  have ht := t.isLt
  unfold View.readCov
  rw [readAt_ix3 v _ i0 a t l ⟨q, hq⟩ ⟨o + t.val, by omega⟩ l (by show q = q + a.val; omega) rfl (by show l.val = 0 + l.val; omega)]
  by_cases h : o + t.val < 8
  · rw [col_lt _ _ _ ⟨o + t.val, h⟩ rfl]
    rw [View.read_writes_cons_unit_of_not_mem v _ i2 P2 _ _ rfl 1 (Or.inl h)]
    exact View.read_writes_cons_unit_of_mem v _ i1 P1 L _ (ix3 0 ⟨o + t.val, h⟩ l) rfl (fun x => by
      match x with
      | ⟨0, _⟩ => rfl
      | ⟨1, _⟩ => exact (Nat.zero_add _).symm
      | ⟨2, _⟩ => exact (Nat.zero_add _).symm)
  · rw [col_ge _ _ _ ⟨o + t.val - 8, by omega⟩ (by show o + t.val = 8 + (o + t.val - 8); omega)]
    exact View.read_writes_cons_unit_of_mem v _ i2 P2 _ _ (ix3 0 ⟨o + t.val - 8, by omega⟩ l) rfl (fun x => by
      match x with
      | ⟨0, _⟩ => rfl
      | ⟨1, _⟩ => show o + t.val = 8 + (o + t.val - 8); omega
      | ⟨2, _⟩ => exact (Nat.zero_add _).symm)

end Cert.ProjConv

end
end
-- ==== Proof.VIdealBody.lean ====
/- What the runs of the v projection share: its conditions and its buffers. -/
module
public import proofs.«01_k».proof.Proof.Gen.VIdeal.Frame
public import proofs.«01_k».proof.Proof.Gen.VIdeal.Loops
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.VIdeal.Body
open Cert.VIdeal Cert.VIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- The body's first condition, which holds at the first point only. -/
abbrev cond0_0 (i : grid0.Coords) : Prop := k0_cond1 i = 1#1
theorem hcond0_0 : ∀ t : Fin cfg0.N, cond0_0 (grid0.coords t) ↔ t.val % 84 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 84 = 0)

/-- The body's second condition, which holds at the first point of each batch. -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 12 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_1, e0, e1]
    word_cmp
   : ∀ t : Fin grid0.N, cond0_1 (grid0.coords t) ↔ t.val % 12 = 0)

/-- Each window's current staging memref at point `t`, spelled as the pipeline passes it (`bodyAt0`), and its wholeness. -/
abbrev ms0_0 (t : Fin cfg0.N) : Memref sig .tc .vmem S1x256x2944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x3840 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S90x3840 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x3840 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3840x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x3840 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2944x3840 .bf16 := Memref.whole cc0_scratch0
abbrev scM0_1 : Memref sig .tc .vmem S96x3840 .f32 := Memref.whole cc0_scratch1
abbrev scM0_2 : Memref sig .tc .vmem S30x8x128 .f32 := Memref.whole cc0_scratch2
abbrev scM0_3 : Memref sig .tc .vmem S4x264x128 .f32 := Memref.whole cc0_scratch3

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl
end Cert.VIdeal.Body
end
end
-- ==== Proof.VIdealBlock.lean ====
/- The stores of the v projection's body, 128 columns at a time: each is a block of the convolution, of the tail or of the
   rows carried over, whichever half of a product of 256 columns it is of. -/
module

public import proofs.«01_k».proof.Proof.ProjConv
public import proofs.«01_k».proof.Proof.VIdealBody

@[expose] public section

set_option maxRecDepth 16384

noncomputable section

open Idealize.ShloMosaic Idealize.ShloMosaic.TcCoe Idealize.SL.Sem

namespace Cert.VIdeal.Block

open Cert.VIdeal Cert.VIdeal.Gen Cert.ProjWeight Cert.ProjConv Cert.ConvSilu

/-- The first 128 columns of a product of 256, as they go into a strip. -/
theorem left_at (X : Vec Ideal S1x256x2944 .bf16) (w : Vec Ideal S2944x256 .bf16) (a : Fin 1) (t : Fin 256) (l : Fin 128) :
    k0_pay20 (F := Ideal) X w (ix3 a t l) = ∑ k : Fin 2944, (show EReal from X (ix3 0 t k)) * (show EReal from w (ix2 k ⟨l.val, Nat.lt_trans l.isLt (by decide)⟩)) := by
  pointwise [k0_pay20, k0_pay18, k0_pay17, k0_pay16]

/-- The last 128 columns. -/
theorem right_at (X : Vec Ideal S1x256x2944 .bf16) (w : Vec Ideal S2944x256 .bf16) (a : Fin 1) (t : Fin 256) (l : Fin 128) :
    k0_pay27 (F := Ideal) (k0_pay17 X w) (ix3 a t l) = ∑ k : Fin 2944, (show EReal from X (ix3 0 t k)) * (show EReal from w (ix2 k ⟨128 + l.val, Nat.add_lt_add_left l.isLt 128⟩)) := by
  pointwise [k0_pay27, k0_pay25, k0_pay17, k0_pay16]

/-- The carried rows, as they go into a strip and come back. -/
theorem carry_at (h : Vec Ideal S1x8x128 .f32) (a : Fin 1) (r : Fin 8) (l : Fin 128) : k0_pay19 (F := Ideal) h (ix3 a r l) = h (ix3 0 r l) := by
  pointwise [k0_pay19]
  rw [Subsingleton.elim a 0]

/-- The last rows of the first 128 columns. -/
theorem tailLeft_at (X : Vec Ideal S1x256x2944 .bf16) (w : Vec Ideal S2944x256 .bf16) (a : Fin 1) (r : Fin 8) (l : Fin 128) :
    k0_pay22 (F := Ideal) (k0_pay18 X w) (ix3 a r l) = k0_pay20 (F := Ideal) X w (ix3 0 ⟨248 + r.val, Nat.add_lt_add_left r.isLt 248⟩ l) := by
  pointwise [k0_pay22, k0_pay20]

/-- The last rows of the last 128 columns. -/
theorem tailRight_at (X : Vec Ideal S1x256x2944 .bf16) (w : Vec Ideal S2944x256 .bf16) (a : Fin 1) (r : Fin 8) (l : Fin 128) :
    k0_pay29 (F := Ideal) (k0_pay17 X w) (ix3 a r l) = k0_pay27 (F := Ideal) (k0_pay17 X w) (ix3 0 ⟨248 + r.val, Nat.add_lt_add_left r.isLt 248⟩ l) := by
  pointwise [k0_pay29, k0_pay27]

/-- The four taps and silu. -/
theorem taps_at (t0 : Vec Ideal S1x256x128 .f32) (c0 : Vec Ideal S1x128 .f32) (t1 : Vec Ideal S1x256x128 .f32) (c1 : Vec Ideal S1x128 .f32)
    (t2 : Vec Ideal S1x256x128 .f32) (c2 : Vec Ideal S1x128 .f32) (t3 : Vec Ideal S1x256x128 .f32) (c3 : Vec Ideal S1x128 .f32) (a : Fin 1) (n : Fin 128) (t : Fin 256) :
    k0_pay24 (F := Ideal) (k0_pay23 t0 c0 t1 c1 t2 c2 t3 c3) (ix3 a n t)
      = silu ((((show EReal from t0 (ix3 0 t n)) * (show EReal from c0 (ix2 0 n)) + (show EReal from t1 (ix3 0 t n)) * (show EReal from c1 (ix2 0 n)))
        + (show EReal from t2 (ix3 0 t n)) * (show EReal from c2 (ix2 0 n))) + (show EReal from t3 (ix3 0 t n)) * (show EReal from c3 (ix2 0 n))) := by
  pointwise [k0_pay24, k0_pay23]
  rfl

section Stores

variable (v2 : Memref sig .tc .vmem S1x256x2944 .bf16) (v5 : Memref sig .tc .vmem S4x3840 .f32) (v8 : Memref sig .tc .vmem S2944x3840 .bf16)
  (v11 : Memref sig .tc .vmem S4x264x128 .f32)
  (X2 : BufTy.Contents (Elt Ideal) v2.view.ty) (X5 : BufTy.Contents (Elt Ideal) v5.view.ty) (X8 : BufTy.Contents (Elt Ideal) v8.view.ty)
  (x : Vec Ideal S1x256x2944 .bf16) (c : Vec Ideal S4x3840 .f32) (W : Vec Ideal S2944x3840 .bf16) (H : Vec Ideal S30x8x128 .f32)
  (i2 : ∀ a, (![0, 0, 0] : Fin 3 → ℕ) a + S1x256x2944.size a ≤ S1x256x2944.size a)

/-- The activations' block as a point loads it, -/
abbrev ldX := View.readAt (Elt Ideal) v2.view (Rect.unit ![0, 0, 0] S1x256x2944.size i2).toLoadRect X2
/-- 256 columns of the weight, -/
abbrev ldW (o : ℕ) (i8 : ∀ a, (![0, o] : Fin 2 → ℕ) a + S2944x256.size a ≤ S2944x3840.size a) :=
  View.readAt (Elt Ideal) v8.view (Rect.unit (s := S2944x3840) ![0, o] S2944x256.size i8).toLoadRect X8
/-- and 128 columns of one row of taps. -/
abbrev ldC (i o : ℕ) (i5 : ∀ a, (![i, o] : Fin 2 → ℕ) a + S1x128.size a ≤ S4x3840.size a) :=
  View.readAt (Elt Ideal) v5.view (Rect.unit (s := S4x3840) ![i, o] S1x128.size i5).toLoadRect X5
/-- A strip after its two stores, read from row `r`. -/
abbrev ldT (q r m : ℕ) (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, r, 0] : Fin 3 → ℕ) a + (![1, m, 128] : Fin 3 → ℕ) a ≤ S4x264x128.size a) (P2 : Vec Ideal S1x256x128 .f32) (P1 : Vec Ideal S1x8x128 .f32)
    (L : List (View.Piece (Elt Ideal) S4x264x128 .f32)) :=
  v11.view.readCov (⟨Rect.unit (s := S4x264x128) ![q, 8, 0] S1x256x128.size j2, P2⟩ :: ⟨Rect.unit (s := S4x264x128) ![q, 0, 0] S1x8x128.size j1, P1⟩ :: L)
    (Rect.unit (s := S4x264x128) ![q, r, 0] ![1, m, 128] j0).toLoadRect

variable {X2 X5 X8 x c W} (h2 : v2.view.read (Elt Ideal) X2 = x) (h5 : v5.view.read (Elt Ideal) X5 = c) (h8 : v8.view.read (Elt Ideal) X8 = W)

include h2 in
theorem ldX_at (t : Fin 256) (k : Fin 2944) : ldX v2 X2 i2 (ix3 0 t k) = x (ix3 0 t k) :=
  (readAt_ix3 v2.view X2 i2 0 t k 0 t k rfl (Nat.zero_add _).symm (Nat.zero_add _).symm).trans (congrFun h2 _)
include h8 in
theorem ldW_at (o : ℕ) (i8 : ∀ a, (![0, o] : Fin 2 → ℕ) a + S2944x256.size a ≤ S2944x3840.size a) (k : Fin 2944) (l : Fin 256) (n : Fin 3840) (hn : n.val = o + l.val) :
    ldW v8 X8 o i8 (ix2 k l) = W (ix2 k n) :=
  (readAt_rows v8.view X8 i8 k l k n (Nat.zero_add _).symm hn).trans (congrFun h8 _)
include h5 in
theorem ldC_at (o : ℕ) (i : Fin 4) (i5 : ∀ a, (![i.val, o] : Fin 2 → ℕ) a + S1x128.size a ≤ S4x3840.size a) (l : Fin 128) (n : Fin 3840) (hn : n.val = o + l.val) :
    ldC v5 X5 i.val o i5 (ix2 0 l) = c (ix2 i n) :=
  (readAt_rows v5.view X5 i5 0 l i n rfl hn).trans (congrFun h5 _)

include h2 h8 in
/-- The first 128 columns of a product are the projection. -/
theorem left_lin (o : ℕ) (i8 : ∀ a, (![0, o] : Fin 2 → ℕ) a + S2944x256.size a ≤ S2944x3840.size a) (a : Fin 1) (t : Fin 256) (l : Fin 128) (n : Fin 3840) (hn : n.val = o + l.val) :
    k0_pay20 (F := Ideal) (ldX v2 X2 i2) (ldW v8 X8 o i8) (ix3 a t l) = lin x W n t := by
  rw [left_at]
  refine Finset.sum_congr rfl fun k _ => ?_
  rw [ldX_at v2 i2 h2 t k, ldW_at v8 h8 o i8 k ⟨l.val, by omega⟩ n hn]

include h2 h8 in
/-- The last 128 columns of a product are the projection. -/
theorem right_lin (o : ℕ) (i8 : ∀ a, (![0, o] : Fin 2 → ℕ) a + S2944x256.size a ≤ S2944x3840.size a) (a : Fin 1) (t : Fin 256) (l : Fin 128) (n : Fin 3840) (hn : n.val = o + (128 + l.val)) :
    k0_pay27 (F := Ideal) (k0_pay17 (ldX v2 X2 i2) (ldW v8 X8 o i8)) (ix3 a t l) = lin x W n t := by
  rw [right_at]
  refine Finset.sum_congr rfl fun k _ => ?_
  rw [ldX_at v2 i2 h2 t k, ldW_at v8 h8 o i8 k ⟨128 + l.val, by omega⟩ n hn]

/-- The rows a strip is read back as. -/
theorem strip_rows (q r m p : ℕ) (hp : p < 30) (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, r, 0] : Fin 3 → ℕ) a + (![1, m, 128] : Fin 3 → ℕ) a ≤ S4x264x128.size a) (P2 : Vec Ideal S1x256x128 .f32) (h : Vec Ideal S1x8x128 .f32)
    (L : List (View.Piece (Elt Ideal) S4x264x128 .f32)) (t : Fin m) (l : Fin 128) (n : Fin 3840) (hn : n.val = 128 * p + l.val)
    (hP2 : ∀ t, P2 (ix3 0 t l) = lin x W n t) (hH : ∀ r, h (ix3 0 r l) = H (ix3 ⟨p, hp⟩ r l)) :
    ldT v11 q r m j2 j1 j0 P2 (k0_pay19 (F := Ideal) h) L (ix3 0 t l) = rows x W H n (r + t.val) := by
  have hl := l.isLt
  refine (strip_at v11.view q r m j2 j1 j0 P2 (k0_pay19 (F := Ideal) h) L 0 t l).trans ?_
  unfold rows
  have e1 : (⟨n.val / 128, by omega⟩ : Fin 30) = ⟨p, hp⟩ := Fin.ext (by show n.val / 128 = p; omega)
  have e2 : (⟨n.val % 128, by omega⟩ : Fin 128) = l := Fin.ext (by show n.val % 128 = l.val; omega)
  rw [e1, e2]
  congr 1
  · funext r
    exact (carry_at h 0 r l).trans (hH r)
  · funext t
    exact hP2 t

include h5 in
/-- A store of 128 convolved columns is a block of the convolution, the strip holding the projection after the carried rows. -/
theorem out_store (q p o : ℕ) (ho : o = 128 * p) (hp : p < 30) (j2 : ∀ a, (![q, 8, 0] : Fin 3 → ℕ) a + S1x256x128.size a ≤ S4x264x128.size a) (j1 : ∀ a, (![q, 0, 0] : Fin 3 → ℕ) a + S1x8x128.size a ≤ S4x264x128.size a)
    (k0 : ∀ a, (![q, 5, 0] : Fin 3 → ℕ) a + (![1, 256, 128] : Fin 3 → ℕ) a ≤ S4x264x128.size a) (k1 : ∀ a, (![q, 6, 0] : Fin 3 → ℕ) a + (![1, 256, 128] : Fin 3 → ℕ) a ≤ S4x264x128.size a)
    (k2 : ∀ a, (![q, 7, 0] : Fin 3 → ℕ) a + (![1, 256, 128] : Fin 3 → ℕ) a ≤ S4x264x128.size a) (k3 : ∀ a, (![q, 8, 0] : Fin 3 → ℕ) a + (![1, 256, 128] : Fin 3 → ℕ) a ≤ S4x264x128.size a)
    (c0 : ∀ a, (![0, o] : Fin 2 → ℕ) a + S1x128.size a ≤ S4x3840.size a) (c1 : ∀ a, (![1, o] : Fin 2 → ℕ) a + S1x128.size a ≤ S4x3840.size a)
    (c2 : ∀ a, (![2, o] : Fin 2 → ℕ) a + S1x128.size a ≤ S4x3840.size a) (c3 : ∀ a, (![3, o] : Fin 2 → ℕ) a + S1x128.size a ≤ S4x3840.size a)
    (P2 : Vec Ideal S1x256x128 .f32) (h : Vec Ideal S1x8x128 .f32) (L : List (View.Piece (Elt Ideal) S4x264x128 .f32))
    (hP2 : ∀ (n : Fin 3840) (l : Fin 128) (t : Fin 256), n.val = o + l.val → P2 (ix3 0 t l) = lin x W n t) (hH : ∀ r l, h (ix3 0 r l) = H (ix3 ⟨p, hp⟩ r l))
    (i6 : ∀ a, (![0, o, 0] : Fin 3 → ℕ) a + S1x128x256.size a ≤ S1x3840x256.size a) (z : S1x128x256.Idx) :
    k0_pay24 (F := Ideal) (k0_pay23 (ldT v11 q 5 256 j2 j1 k0 P2 (k0_pay19 h) L) (ldC v5 X5 0 o c0) (ldT v11 q 6 256 j2 j1 k1 P2 (k0_pay19 h) L) (ldC v5 X5 1 o c1)
      (ldT v11 q 7 256 j2 j1 k2 P2 (k0_pay19 h) L) (ldC v5 X5 2 o c2) (ldT v11 q 8 256 j2 j1 k3 P2 (k0_pay19 h) L) (ldC v5 X5 3 o c3)) z
      = outV x W c H ((Rect.unit (s := S1x3840x256) ![0, o, 0] S1x128x256.size i6).emb z) := by
  obtain ⟨a, l, t, rfl⟩ : ∃ (a : Fin 1) (l : Fin 128) (t : Fin 256), z = ix3 a l t := ⟨z 0, z 1, z 2, eq_ix3 z⟩
  have hl := l.isLt
  have hn : 128 * p + l.val < 3840 := by omega
  subst ho
  rw [emb_ix3 i6 a l t 0 ⟨128 * p + l.val, hn⟩ t (by show 0 = 0 + a.val; omega) rfl (Nat.zero_add _).symm, taps_at,
    strip_rows v11 H q 5 256 p hp j2 j1 k0 P2 h L t l ⟨128 * p + l.val, hn⟩ rfl (fun t => hP2 _ l t rfl) (fun r => hH r l),
    strip_rows v11 H q 6 256 p hp j2 j1 k1 P2 h L t l ⟨128 * p + l.val, hn⟩ rfl (fun t => hP2 _ l t rfl) (fun r => hH r l),
    strip_rows v11 H q 7 256 p hp j2 j1 k2 P2 h L t l ⟨128 * p + l.val, hn⟩ rfl (fun t => hP2 _ l t rfl) (fun r => hH r l),
    strip_rows v11 H q 8 256 p hp j2 j1 k3 P2 h L t l ⟨128 * p + l.val, hn⟩ rfl (fun t => hP2 _ l t rfl) (fun r => hH r l),
    show ldC v5 X5 0 (128 * p) c0 (ix2 0 l) = _ from ldC_at v5 h5 (128 * p) 0 c0 l ⟨128 * p + l.val, hn⟩ rfl,
    show ldC v5 X5 1 (128 * p) c1 (ix2 0 l) = _ from ldC_at v5 h5 (128 * p) 1 c1 l ⟨128 * p + l.val, hn⟩ rfl,
    show ldC v5 X5 2 (128 * p) c2 (ix2 0 l) = _ from ldC_at v5 h5 (128 * p) 2 c2 l ⟨128 * p + l.val, hn⟩ rfl,
    show ldC v5 X5 3 (128 * p) c3 (ix2 0 l) = _ from ldC_at v5 h5 (128 * p) 3 c3 l ⟨128 * p + l.val, hn⟩ rfl]
  show _ = conv (rows x W H ⟨128 * p + l.val, hn⟩) (fun i => (show EReal from c (ix2 i ⟨128 * p + l.val, hn⟩))) (5 + t.val)
  unfold conv
  rw [show 5 + t.val + 1 = 6 + t.val by omega, show 5 + t.val + 2 = 7 + t.val by omega, show 5 + t.val + 3 = 8 + t.val by omega]

/-- The rows carried over are the last rows of the projection. -/
theorem hist_store (q p o : ℕ) (ho : o = 128 * p) (hp : p < 30) (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, 256, 0] : Fin 3 → ℕ) a + (![1, 8, 128] : Fin 3 → ℕ) a ≤ S4x264x128.size a)
    (P2 : Vec Ideal S1x256x128 .f32) (P1 : Vec Ideal S1x8x128 .f32) (L : List (View.Piece (Elt Ideal) S4x264x128 .f32))
    (hP2 : ∀ (n : Fin 3840) (l : Fin 128) (t : Fin 256), n.val = o + l.val → P2 (ix3 0 t l) = lin x W n t)
    (i : ∀ a, (![p, 0, 0] : Fin 3 → ℕ) a + S1x8x128.size a ≤ S30x8x128.size a) (z : S1x8x128.Idx) :
    k0_pay21 (F := Ideal) (ldT v11 q 256 8 j2 j1 j0 P2 P1 L) z = histV x W ((Rect.unit (s := S30x8x128) ![p, 0, 0] S1x8x128.size i).emb z) := by
  obtain ⟨a, r, l, rfl⟩ : ∃ (a : Fin 1) (r : Fin 8) (l : Fin 128), z = ix3 a r l := ⟨z 0, z 1, z 2, eq_ix3 z⟩
  have hl := l.isLt
  have hr := r.isLt
  have hn : 128 * p + l.val < 3840 := by omega
  subst ho
  rw [emb_ix3 i a r l ⟨p, hp⟩ r l (by show p = p + a.val; omega) (Nat.zero_add _).symm (Nat.zero_add _).symm]
  refine ((carry_at _ a r l).trans (strip_at v11.view q 256 8 j2 j1 j0 P2 P1 L 0 r l)).trans ?_
  rw [col_ge _ _ _ ⟨248 + r.val, by omega⟩ (by show 256 + r.val = 8 + (248 + r.val); omega)]
  exact hP2 ⟨128 * p + l.val, hn⟩ l _ rfl

/-- A store of the last rows of 128 columns is a block of the tail. -/
theorem tail_store (p o : ℕ) (ho : o = 128 * p) (hp : p < 30) (P : Vec Ideal S1x8x128 .bf16) (P2 : Vec Ideal S1x256x128 .f32)
    (hP : ∀ (a : Fin 1) (r : Fin 8) (l : Fin 128), P (ix3 a r l) = P2 (ix3 0 ⟨248 + r.val, Nat.add_lt_add_left r.isLt 248⟩ l))
    (hP2 : ∀ (n : Fin 3840) (l : Fin 128) (t : Fin 256), n.val = o + l.val → P2 (ix3 0 t l) = lin x W n t)
    (i : ∀ a, (![0, 0, o] : Fin 3 → ℕ) a + S1x8x128.size a ≤ S1x8x3840.size a) (z : S1x8x128.Idx) :
    P z = tailV x W ((Rect.unit (s := S1x8x3840) ![0, 0, o] S1x8x128.size i).emb z) := by
  obtain ⟨a, r, l, rfl⟩ : ∃ (a : Fin 1) (r : Fin 8) (l : Fin 128), z = ix3 a r l := ⟨z 0, z 1, z 2, eq_ix3 z⟩
  have hl := l.isLt
  have hn : 128 * p + l.val < 3840 := by omega
  subst ho
  rw [emb_ix3 i a r l 0 r ⟨128 * p + l.val, hn⟩ (by show 0 = 0 + a.val; omega) (Nat.zero_add _).symm rfl, hP]
  exact hP2 ⟨128 * p + l.val, hn⟩ l _ rfl

include h2 h5 h8 in
/-- The store of the convolution of the first 128 columns of a product. -/
theorem outLeft (q o : ℕ) (ho : o = 128 * (o / 128)) (hp : o / 128 < 30) (i8 : ∀ a, (![0, o] : Fin 2 → ℕ) a + S2944x256.size a ≤ S2944x3840.size a)
    (j2 : ∀ a, (![q, 8, 0] : Fin 3 → ℕ) a + S1x256x128.size a ≤ S4x264x128.size a) (j1 : ∀ a, (![q, 0, 0] : Fin 3 → ℕ) a + S1x8x128.size a ≤ S4x264x128.size a)
    (k0 : ∀ a, (![q, 5, 0] : Fin 3 → ℕ) a + (![1, 256, 128] : Fin 3 → ℕ) a ≤ S4x264x128.size a) (k1 : ∀ a, (![q, 6, 0] : Fin 3 → ℕ) a + (![1, 256, 128] : Fin 3 → ℕ) a ≤ S4x264x128.size a)
    (k2 : ∀ a, (![q, 7, 0] : Fin 3 → ℕ) a + (![1, 256, 128] : Fin 3 → ℕ) a ≤ S4x264x128.size a) (k3 : ∀ a, (![q, 8, 0] : Fin 3 → ℕ) a + (![1, 256, 128] : Fin 3 → ℕ) a ≤ S4x264x128.size a)
    (c0 : ∀ a, (![0, o] : Fin 2 → ℕ) a + S1x128.size a ≤ S4x3840.size a) (c1 : ∀ a, (![1, o] : Fin 2 → ℕ) a + S1x128.size a ≤ S4x3840.size a)
    (c2 : ∀ a, (![2, o] : Fin 2 → ℕ) a + S1x128.size a ≤ S4x3840.size a) (c3 : ∀ a, (![3, o] : Fin 2 → ℕ) a + S1x128.size a ≤ S4x3840.size a)
    (h : Vec Ideal S1x8x128 .f32) (L : List (View.Piece (Elt Ideal) S4x264x128 .f32)) (hH : ∀ r l, h (ix3 0 r l) = H (ix3 ⟨o / 128, hp⟩ r l))
    (i6 : ∀ a, (![0, o, 0] : Fin 3 → ℕ) a + S1x128x256.size a ≤ S1x3840x256.size a) (z : S1x128x256.Idx) :
    k0_pay24 (F := Ideal) (k0_pay23 (ldT v11 q 5 256 j2 j1 k0 (k0_pay20 (ldX v2 X2 i2) (ldW v8 X8 o i8)) (k0_pay19 h) L) (ldC v5 X5 0 o c0) (ldT v11 q 6 256 j2 j1 k1 (k0_pay20 (ldX v2 X2 i2) (ldW v8 X8 o i8)) (k0_pay19 h) L) (ldC v5 X5 1 o c1)
      (ldT v11 q 7 256 j2 j1 k2 (k0_pay20 (ldX v2 X2 i2) (ldW v8 X8 o i8)) (k0_pay19 h) L) (ldC v5 X5 2 o c2) (ldT v11 q 8 256 j2 j1 k3 (k0_pay20 (ldX v2 X2 i2) (ldW v8 X8 o i8)) (k0_pay19 h) L) (ldC v5 X5 3 o c3)) z
      = outV x W c H ((Rect.unit (s := S1x3840x256) ![0, o, 0] S1x128x256.size i6).emb z) :=
  out_store v5 v11 H h5 q (o / 128) o ho hp j2 j1 k0 k1 k2 k3 c0 c1 c2 c3 _ h L (fun n l t hn => left_lin v2 v8 i2 h2 h8 o i8 0 t l n hn) hH i6 z

include h2 h8 in
/-- The store of the rows carried over, of the first 128 columns of a product. -/
theorem histLeft (q p o : ℕ) (ho : o = 128 * p) (hp : p < 30) (i8 : ∀ a, (![0, o] : Fin 2 → ℕ) a + S2944x256.size a ≤ S2944x3840.size a)
    (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, 256, 0] : Fin 3 → ℕ) a + (![1, 8, 128] : Fin 3 → ℕ) a ≤ S4x264x128.size a)
    (P1 : Vec Ideal S1x8x128 .f32) (L : List (View.Piece (Elt Ideal) S4x264x128 .f32))
    (i : ∀ a, (![p, 0, 0] : Fin 3 → ℕ) a + S1x8x128.size a ≤ S30x8x128.size a) (z : S1x8x128.Idx) :
    k0_pay21 (F := Ideal) (ldT v11 q 256 8 j2 j1 j0 (k0_pay20 (ldX v2 X2 i2) (ldW v8 X8 o i8)) P1 L) z = histV x W ((Rect.unit (s := S30x8x128) ![p, 0, 0] S1x8x128.size i).emb z) :=
  hist_store v11 q p o ho hp j2 j1 j0 _ P1 L (fun n l t hn => left_lin v2 v8 i2 h2 h8 o i8 0 t l n hn) i z

include h2 h8 in
/-- The store of the tail of the first 128 columns of a product. -/
theorem tailLeft (o : ℕ) (ho : o = 128 * (o / 128)) (hp : o / 128 < 30) (i8 : ∀ a, (![0, o] : Fin 2 → ℕ) a + S2944x256.size a ≤ S2944x3840.size a)
    (i : ∀ a, (![0, 0, o] : Fin 3 → ℕ) a + S1x8x128.size a ≤ S1x8x3840.size a) (z : S1x8x128.Idx) :
    k0_pay22 (F := Ideal) (k0_pay18 (ldX v2 X2 i2) (ldW v8 X8 o i8)) z = tailV x W ((Rect.unit (s := S1x8x3840) ![0, 0, o] S1x8x128.size i).emb z) :=
  tail_store (o / 128) o ho hp _ _ (fun a r l => tailLeft_at _ _ a r l) (fun n l t hn => left_lin v2 v8 i2 h2 h8 o i8 0 t l n hn) i z

include h2 h5 h8 in
/-- The store of the convolution of the last 128 columns of a product. -/
theorem outRight (q o : ℕ) (ho : o = 128 * (o / 128)) (hp : o / 128 < 30) (g : ℕ) (hg : o = g + 128) (i8 : ∀ a, (![0, g] : Fin 2 → ℕ) a + S2944x256.size a ≤ S2944x3840.size a)
    (j2 : ∀ a, (![q, 8, 0] : Fin 3 → ℕ) a + S1x256x128.size a ≤ S4x264x128.size a) (j1 : ∀ a, (![q, 0, 0] : Fin 3 → ℕ) a + S1x8x128.size a ≤ S4x264x128.size a)
    (k0 : ∀ a, (![q, 5, 0] : Fin 3 → ℕ) a + (![1, 256, 128] : Fin 3 → ℕ) a ≤ S4x264x128.size a) (k1 : ∀ a, (![q, 6, 0] : Fin 3 → ℕ) a + (![1, 256, 128] : Fin 3 → ℕ) a ≤ S4x264x128.size a)
    (k2 : ∀ a, (![q, 7, 0] : Fin 3 → ℕ) a + (![1, 256, 128] : Fin 3 → ℕ) a ≤ S4x264x128.size a) (k3 : ∀ a, (![q, 8, 0] : Fin 3 → ℕ) a + (![1, 256, 128] : Fin 3 → ℕ) a ≤ S4x264x128.size a)
    (c0 : ∀ a, (![0, o] : Fin 2 → ℕ) a + S1x128.size a ≤ S4x3840.size a) (c1 : ∀ a, (![1, o] : Fin 2 → ℕ) a + S1x128.size a ≤ S4x3840.size a)
    (c2 : ∀ a, (![2, o] : Fin 2 → ℕ) a + S1x128.size a ≤ S4x3840.size a) (c3 : ∀ a, (![3, o] : Fin 2 → ℕ) a + S1x128.size a ≤ S4x3840.size a)
    (h : Vec Ideal S1x8x128 .f32) (L : List (View.Piece (Elt Ideal) S4x264x128 .f32)) (hH : ∀ r l, h (ix3 0 r l) = H (ix3 ⟨o / 128, hp⟩ r l))
    (i6 : ∀ a, (![0, o, 0] : Fin 3 → ℕ) a + S1x128x256.size a ≤ S1x3840x256.size a) (z : S1x128x256.Idx) :
    k0_pay24 (F := Ideal) (k0_pay23 (ldT v11 q 5 256 j2 j1 k0 (k0_pay27 (k0_pay17 (ldX v2 X2 i2) (ldW v8 X8 g i8))) (k0_pay19 h) L) (ldC v5 X5 0 o c0) (ldT v11 q 6 256 j2 j1 k1 (k0_pay27 (k0_pay17 (ldX v2 X2 i2) (ldW v8 X8 g i8))) (k0_pay19 h) L) (ldC v5 X5 1 o c1)
      (ldT v11 q 7 256 j2 j1 k2 (k0_pay27 (k0_pay17 (ldX v2 X2 i2) (ldW v8 X8 g i8))) (k0_pay19 h) L) (ldC v5 X5 2 o c2) (ldT v11 q 8 256 j2 j1 k3 (k0_pay27 (k0_pay17 (ldX v2 X2 i2) (ldW v8 X8 g i8))) (k0_pay19 h) L) (ldC v5 X5 3 o c3)) z
      = outV x W c H ((Rect.unit (s := S1x3840x256) ![0, o, 0] S1x128x256.size i6).emb z) :=
  out_store v5 v11 H h5 q (o / 128) o ho hp j2 j1 k0 k1 k2 k3 c0 c1 c2 c3 _ h L (fun n l t hn => right_lin v2 v8 i2 h2 h8 g i8 0 t l n (by omega)) hH i6 z

include h2 h8 in
/-- The store of the rows carried over, of the last 128 columns of a product. -/
theorem histRight (q p g : ℕ) (ho : g + 128 = 128 * p) (hp : p < 30) (i8 : ∀ a, (![0, g] : Fin 2 → ℕ) a + S2944x256.size a ≤ S2944x3840.size a)
    (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, 256, 0] : Fin 3 → ℕ) a + (![1, 8, 128] : Fin 3 → ℕ) a ≤ S4x264x128.size a)
    (P1 : Vec Ideal S1x8x128 .f32) (L : List (View.Piece (Elt Ideal) S4x264x128 .f32))
    (i : ∀ a, (![p, 0, 0] : Fin 3 → ℕ) a + S1x8x128.size a ≤ S30x8x128.size a) (z : S1x8x128.Idx) :
    k0_pay21 (F := Ideal) (ldT v11 q 256 8 j2 j1 j0 (k0_pay27 (k0_pay17 (ldX v2 X2 i2) (ldW v8 X8 g i8))) P1 L) z = histV x W ((Rect.unit (s := S30x8x128) ![p, 0, 0] S1x8x128.size i).emb z) :=
  hist_store v11 q p (g + 128) ho hp j2 j1 j0 _ P1 L (fun n l t hn => right_lin v2 v8 i2 h2 h8 g i8 0 t l n (by omega)) i z

include h2 h8 in
/-- The store of the tail of the last 128 columns of a product. -/
theorem tailRight (o : ℕ) (ho : o = 128 * (o / 128)) (hp : o / 128 < 30) (g : ℕ) (hg : o = g + 128) (i8 : ∀ a, (![0, g] : Fin 2 → ℕ) a + S2944x256.size a ≤ S2944x3840.size a)
    (i : ∀ a, (![0, 0, o] : Fin 3 → ℕ) a + S1x8x128.size a ≤ S1x8x3840.size a) (z : S1x8x128.Idx) :
    k0_pay29 (F := Ideal) (k0_pay17 (ldX v2 X2 i2) (ldW v8 X8 g i8)) z = tailV x W ((Rect.unit (s := S1x8x3840) ![0, 0, o] S1x8x128.size i).emb z) :=
  tail_store (o / 128) o ho hp _ _ (fun a r l => tailRight_at _ _ a r l) (fun n l t hn => right_lin v2 v8 i2 h2 h8 g i8 0 t l n (by omega)) i z

/-- The carried rows, loaded from what the buffer holds. -/
theorem carry_held (v10 : Memref sig .tc .vmem S30x8x128 .f32) {X10 : BufTy.Contents (Elt Ideal) v10.view.ty} (h10 : v10.view.read (Elt Ideal) X10 = H) (p : ℕ) (hp : p < 30)
    (i : ∀ a, (![p, 0, 0] : Fin 3 → ℕ) a + S1x8x128.size a ≤ S30x8x128.size a) (r : Fin 8) (l : Fin 128) :
    View.readAt (Elt Ideal) v10.view (Rect.unit (s := S30x8x128) ![p, 0, 0] S1x8x128.size i).toLoadRect X10 (ix3 0 r l) = H (ix3 ⟨p, hp⟩ r l) :=
  (readAt_ix3 v10.view X10 i 0 r l ⟨p, hp⟩ r l rfl (Nat.zero_add _).symm (Nat.zero_add _).symm).trans (congrFun h10 _)

/-- The zero rows. -/
theorem zero_eq : k0_pay15 (F := Ideal) = fun _ => (0 : EReal) := by
  funext z
  pointwise [k0_pay15]

/-- The carried rows, loaded after the whole buffer was set to zero and other strips stored. -/
theorem carry_zero (v10 : Memref sig .tc .vmem S30x8x128 .f32) (L : List (View.Piece (Elt Ideal) S30x8x128 .f32)) (p : ℕ) (hp : p < 30)
    (i : ∀ a, (![p, 0, 0] : Fin 3 → ℕ) a + S1x8x128.size a ≤ S30x8x128.size a)
    (hL : View.Piece.nth L p = some ⟨Rect.unit (s := S30x8x128) ![0, 0, 0] S30x8x128.size inb_S30x8x128_S30x8x128_0_0_0, k0_pay15 (F := Ideal)⟩)
    (hc : LoadRect.hitChk (L.map Sigma.fst) (Rect.unit (s := S30x8x128) ![p, 0, 0] S1x8x128.size i).toLoadRect p = true) (r : Fin 8) (l : Fin 128) :
    v10.view.readCov L (Rect.unit (s := S30x8x128) ![p, 0, 0] S1x8x128.size i).toLoadRect (ix3 0 r l) = (fun _ => (0 : EReal) : Vec Ideal S30x8x128 .f32) (ix3 ⟨p, hp⟩ r l) := by
  rw [zero_eq] at hL
  exact congrFun (View.readAt_writes_const_of_hit v10.view v10.view.junk L _ p _ _ hL hc) _

end Stores

end Cert.VIdeal.Block

end
end
-- ==== Proof.VIdealRunFirst.lean ====
/- The body of the v projection at the first point, which dequantises the weight and starts a batch, with what it leaves. -/
module
public import proofs.«01_k».proof.Proof.VIdealBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.VIdeal.Run
open Cert.VIdeal Cert.VIdeal.Gen Cert.VIdeal.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at the first point, which dequantises the weight and starts a batch: the pieces it leaves in the output, the tail, the weight's scratch and the rows carried over. -/
noncomputable def runFirst (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec F S1x256x2944 .bf16) (x1 : Vec F S2880x3840 .fp8e4m3) (x2 : Vec F S90x3840 .i8) (x3 : Vec F S4x3840 .f32) (fw : BufTy.Contents (Elt F) arg8.view.ty) (fs : BufTy.Contents (Elt F) arg9.view.ty) (fh : BufTy.Contents (Elt F) arg10.view.ty) (ft : BufTy.Contents (Elt F) arg11.view.ty) :
    Σ' (LO : List (View.Piece (Elt F) S1x3840x256 .bf16)), Σ' (LT : List (View.Piece (Elt F) S1x8x3840 .bf16)), Σ' (LW : List (View.Piece (Elt F) S2944x3840 .bf16)), { LH : List (View.Piece (Elt F) S30x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (arg8.view.loc (c : Thread nD τ) ↦[arg8.view.set]{fullShare} fw) ∗ (arg9.view.loc (c : Thread nD τ) ↦[arg9.view.set]{fullShare} fs) ∗ (arg10.view.loc (c : Thread nD τ) ↦[arg10.view.set]{fullShare} fh) ∗ (arg11.view.loc (c : Thread nD τ) ↦[arg11.view.set]{fullShare} ft)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LT) ∗ (arg8.view.loc (c : Thread nD τ) ↦[arg8.view.set]{fullShare} arg8.view.writes (Elt F) fw LW) ∗ (∃ d, owns (c : Thread nD τ) arg9 fullShare d) ∗ (arg10.view.loc (c : Thread nD τ) ↦[arg10.view.set]{fullShare} arg10.view.writes (Elt F) fh LH) ∗ (∃ d, owns (c : Thread nD τ) arg11 fullShare d)) -∗ K ⟨⟩))
          ⊢ wp frame (wpE (defs₀ (F := F)) Variants.none c none) E (cc0_proj_v i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_proj_v_eq_skeleton]; unfold cc0_proj_v_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, H6, H7, H8, H9, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexact H6
    isplitl [H7]
    · iexists _, _; isplitr; swap; · iexact H7
      ipureintro; rfl
    isplitl [H8]; · iexact H8
    iexists _, _; isplitr; swap; · iexact H9
    ipureintro; rfl
end Cert.VIdeal.Run
end
end
-- ==== Proof.VIdealWeight.lean ====
/- The scratch weight of the v projection after the first point: the dequantised weight, with zero rows behind it. -/
module

public import proofs.«01_k».proof.Proof.ProjWeight
public import proofs.«01_k».proof.Proof.VIdealRunFirst

@[expose] public section

set_option maxRecDepth 16384

noncomputable section

open Idealize.ShloMosaic Idealize.ShloMosaic.TcCoe Idealize.SL.Sem

namespace Cert.VIdeal.Weight

open Cert.VIdeal Cert.VIdeal.Gen Cert.VIdeal.Body Cert.VIdeal.Run Cert.ProjWeight

/-- Each store's value: the codes times one of the eight rows of scales loaded. -/
theorem pay2_at (A : Vec Ideal S8x3840 .f32) (B : Vec Ideal S32x3840 .fp8e4m3) (a : Fin 32) (b : Fin 3840) :
    k0_pay2 (F := Ideal) A B (ix2 a b) = (show EReal from B (ix2 a b)) * (show EReal from A (ix2 0 b)) := by
  pointwise [k0_pay2]
theorem pay3_at (A : Vec Ideal S8x3840 .f32) (B : Vec Ideal S32x3840 .fp8e4m3) (a : Fin 32) (b : Fin 3840) :
    k0_pay3 (F := Ideal) A B (ix2 a b) = (show EReal from B (ix2 a b)) * (show EReal from A (ix2 1 b)) := by
  pointwise [k0_pay3]
theorem pay4_at (A : Vec Ideal S8x3840 .f32) (B : Vec Ideal S32x3840 .fp8e4m3) (a : Fin 32) (b : Fin 3840) :
    k0_pay4 (F := Ideal) A B (ix2 a b) = (show EReal from B (ix2 a b)) * (show EReal from A (ix2 2 b)) := by
  pointwise [k0_pay4]
theorem pay5_at (A : Vec Ideal S8x3840 .f32) (B : Vec Ideal S32x3840 .fp8e4m3) (a : Fin 32) (b : Fin 3840) :
    k0_pay5 (F := Ideal) A B (ix2 a b) = (show EReal from B (ix2 a b)) * (show EReal from A (ix2 3 b)) := by
  pointwise [k0_pay5]
theorem pay6_at (A : Vec Ideal S8x3840 .f32) (B : Vec Ideal S32x3840 .fp8e4m3) (a : Fin 32) (b : Fin 3840) :
    k0_pay6 (F := Ideal) A B (ix2 a b) = (show EReal from B (ix2 a b)) * (show EReal from A (ix2 4 b)) := by
  pointwise [k0_pay6]
theorem pay7_at (A : Vec Ideal S8x3840 .f32) (B : Vec Ideal S32x3840 .fp8e4m3) (a : Fin 32) (b : Fin 3840) :
    k0_pay7 (F := Ideal) A B (ix2 a b) = (show EReal from B (ix2 a b)) * (show EReal from A (ix2 5 b)) := by
  pointwise [k0_pay7]
theorem pay8_at (A : Vec Ideal S8x3840 .f32) (B : Vec Ideal S32x3840 .fp8e4m3) (a : Fin 32) (b : Fin 3840) :
    k0_pay8 (F := Ideal) A B (ix2 a b) = (show EReal from B (ix2 a b)) * (show EReal from A (ix2 6 b)) := by
  pointwise [k0_pay8]
theorem pay12_at (A : Vec Ideal S8x3840 .f32) (B : Vec Ideal S32x3840 .fp8e4m3) (a : Fin 32) (b : Fin 3840) :
    k0_pay12 (F := Ideal) A B (ix2 a b) = (show EReal from B (ix2 a b)) * (show EReal from A (ix2 0 b)) := by
  pointwise [k0_pay12]
theorem pay13_at (A : Vec Ideal S8x3840 .f32) (B : Vec Ideal S32x3840 .fp8e4m3) (a : Fin 32) (b : Fin 3840) :
    k0_pay13 (F := Ideal) A B (ix2 a b) = (show EReal from B (ix2 a b)) * (show EReal from A (ix2 1 b)) := by
  pointwise [k0_pay13]
theorem pay11_at (A : Vec Ideal S8x3840 .f32) (B : Vec Ideal S32x3840 .fp8e4m3) (a : Fin 32) (b : Fin 3840) :
    k0_pay11 (F := Ideal) (k0_pay9 A B) (ix2 a b) = (show EReal from B (ix2 a b)) * (show EReal from A (ix2 7 b)) := by
  pointwise [k0_pay9, k0_pay11]

/-- The scale bytes as powers of two. -/
theorem pay10_at (v : Vec Ideal S90x3840 .i8) (g : Fin 90) (n : Fin 3840) :
    k0_pay10 (F := Ideal) v (ix2 g n) = Scale.power (v (ix2 g n)) := by
  pointwise [k0_pay10]
  exact Scale.ofBits_shli _

/-- The rows a trip of the loop works on. -/
theorem off1_eq : ∀ k : Fin k0_t1_loop.trips, k0_off1 k = ![8 * k.val, 0] := by decide +kernel

theorem off2_0 : ∀ k : Fin k0_t1_loop.trips, k0_off2 k 0#32 = ![32 * (8 * k.val + 0), 0] := by decide +kernel
theorem off2_1 : ∀ k : Fin k0_t1_loop.trips, k0_off2 k 1#32 = ![32 * (8 * k.val + 1), 0] := by decide +kernel
theorem off2_2 : ∀ k : Fin k0_t1_loop.trips, k0_off2 k 2#32 = ![32 * (8 * k.val + 2), 0] := by decide +kernel
theorem off2_3 : ∀ k : Fin k0_t1_loop.trips, k0_off2 k 3#32 = ![32 * (8 * k.val + 3), 0] := by decide +kernel
theorem off2_4 : ∀ k : Fin k0_t1_loop.trips, k0_off2 k 4#32 = ![32 * (8 * k.val + 4), 0] := by decide +kernel
theorem off2_5 : ∀ k : Fin k0_t1_loop.trips, k0_off2 k 5#32 = ![32 * (8 * k.val + 5), 0] := by decide +kernel
theorem off2_6 : ∀ k : Fin k0_t1_loop.trips, k0_off2 k 6#32 = ![32 * (8 * k.val + 6), 0] := by decide +kernel
theorem off2_7 : ∀ k : Fin k0_t1_loop.trips, k0_off2 k 7#32 = ![32 * (8 * k.val + 7), 0] := by decide +kernel
theorem off3_0 : ∀ k : Fin k0_t1_loop.trips, k0_off3 k 0#32 = ![32 * (8 * k.val + 0), 0] := by decide +kernel
theorem off3_1 : ∀ k : Fin k0_t1_loop.trips, k0_off3 k 1#32 = ![32 * (8 * k.val + 1), 0] := by decide +kernel
theorem off3_2 : ∀ k : Fin k0_t1_loop.trips, k0_off3 k 2#32 = ![32 * (8 * k.val + 2), 0] := by decide +kernel
theorem off3_3 : ∀ k : Fin k0_t1_loop.trips, k0_off3 k 3#32 = ![32 * (8 * k.val + 3), 0] := by decide +kernel
theorem off3_4 : ∀ k : Fin k0_t1_loop.trips, k0_off3 k 4#32 = ![32 * (8 * k.val + 4), 0] := by decide +kernel
theorem off3_5 : ∀ k : Fin k0_t1_loop.trips, k0_off3 k 5#32 = ![32 * (8 * k.val + 5), 0] := by decide +kernel
theorem off3_6 : ∀ k : Fin k0_t1_loop.trips, k0_off3 k 6#32 = ![32 * (8 * k.val + 6), 0] := by decide +kernel
theorem off3_7 : ∀ k : Fin k0_t1_loop.trips, k0_off3 k 7#32 = ![32 * (8 * k.val + 7), 0] := by decide +kernel

/-- A trip's stores are blocks of the dequantised weight. -/
theorem trip_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i)
    (X3 : BufTy.Contents (Elt Ideal) arg3.view.ty) (X9 : BufTy.Contents (Elt Ideal) arg9.view.ty)
    (w : Vec Ideal S2880x3840 .fp8e4m3) (s : Vec Ideal S90x3840 .i8)
    (h3 : arg3.view.read (Elt Ideal) X3 = w)
    (h9 : ∀ (g : Fin 96) (g' : Fin 90) (b : Fin 3840), g.val = g'.val → arg9.view.read (Elt Ideal) X9 (ix2 g b) = Scale.power (s (ix2 g' b)))
    (k : Fin k0_t1_loop.trips) :
    View.PiecesOf (weightV w s) (tripL_k0_t1 (F := Ideal) Variants.none c none i arg2 harg2 arg3 harg3 arg4 harg4 arg5 harg5 arg6 harg6 arg7 harg7 arg8 harg8 arg9 harg9 arg10 harg10 arg11 harg11 hc0 X3 X9 k) := by
  have hk : k.val < 11 := Nat.lt_of_lt_of_le k.isLt k0_t1_abs.2.1
  unfold tripL_k0_t1
  unfold trip_k0_t1
  frame_open
  dsimp only
  exact ⟨
      fun z => piece arg3.view arg9.view X3 X9 w s h3 h9 _ _ _ (k0_off2_inb i k hc0 7) (k0_off1_inb i k hc0) (k0_off3_inb i k hc0 7) (8 * k.val) 7 (by omega) (off2_7 k) (off1_eq k) (off3_7 k) _ (pay11_at _ _) z,
      fun z => piece arg3.view arg9.view X3 X9 w s h3 h9 _ _ _ (k0_off2_inb i k hc0 6) (k0_off1_inb i k hc0) (k0_off3_inb i k hc0 6) (8 * k.val) 6 (by omega) (off2_6 k) (off1_eq k) (off3_6 k) _ (pay8_at _ _) z,
      fun z => piece arg3.view arg9.view X3 X9 w s h3 h9 _ _ _ (k0_off2_inb i k hc0 5) (k0_off1_inb i k hc0) (k0_off3_inb i k hc0 5) (8 * k.val) 5 (by omega) (off2_5 k) (off1_eq k) (off3_5 k) _ (pay7_at _ _) z,
      fun z => piece arg3.view arg9.view X3 X9 w s h3 h9 _ _ _ (k0_off2_inb i k hc0 4) (k0_off1_inb i k hc0) (k0_off3_inb i k hc0 4) (8 * k.val) 4 (by omega) (off2_4 k) (off1_eq k) (off3_4 k) _ (pay6_at _ _) z,
      fun z => piece arg3.view arg9.view X3 X9 w s h3 h9 _ _ _ (k0_off2_inb i k hc0 3) (k0_off1_inb i k hc0) (k0_off3_inb i k hc0 3) (8 * k.val) 3 (by omega) (off2_3 k) (off1_eq k) (off3_3 k) _ (pay5_at _ _) z,
      fun z => piece arg3.view arg9.view X3 X9 w s h3 h9 _ _ _ (k0_off2_inb i k hc0 2) (k0_off1_inb i k hc0) (k0_off3_inb i k hc0 2) (8 * k.val) 2 (by omega) (off2_2 k) (off1_eq k) (off3_2 k) _ (pay4_at _ _) z,
      fun z => piece arg3.view arg9.view X3 X9 w s h3 h9 _ _ _ (k0_off2_inb i k hc0 1) (k0_off1_inb i k hc0) (k0_off3_inb i k hc0 1) (8 * k.val) 1 (by omega) (off2_1 k) (off1_eq k) (off3_1 k) _ (pay3_at _ _) z,
      fun z => piece arg3.view arg9.view X3 X9 w s h3 h9 _ _ _ (k0_off2_inb i k hc0 0) (k0_off1_inb i k hc0) (k0_off3_inb i k hc0 0) (8 * k.val) 0 (by omega) (off2_0 k) (off1_eq k) (off3_0 k) _ (pay2_at _ _) z,
      trivial⟩

/-- The loop's stores are blocks of the dequantised weight. -/
theorem loop_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i)
    (X3 : BufTy.Contents (Elt Ideal) arg3.view.ty) (X9 : BufTy.Contents (Elt Ideal) arg9.view.ty)
    (w : Vec Ideal S2880x3840 .fp8e4m3) (s : Vec Ideal S90x3840 .i8)
    (h3 : arg3.view.read (Elt Ideal) X3 = w)
    (h9 : ∀ (g : Fin 96) (g' : Fin 90) (b : Fin 3840), g.val = g'.val → arg9.view.read (Elt Ideal) X9 (ix2 g b) = Scale.power (s (ix2 g' b))) :
    ∀ n, n ≤ k0_t1_loop.trips →
      View.PiecesOf (weightV w s) (pb_k0_t1 (F := Ideal) Variants.none c none i arg2 harg2 arg3 harg3 arg4 harg4 arg5 harg5 arg6 harg6 arg7 harg7 arg8 harg8 arg9 harg9 arg10 harg10 arg11 harg11 hc0 X3 X9 n)
  | 0, _ => trivial
  | n + 1, hn => by
    rw [pb_k0_t1_succ Variants.none c none i arg2 harg2 arg3 harg3 arg4 harg4 arg5 harg5 arg6 harg6 arg7 harg7 arg8 harg8 arg9 harg9 arg10 harg10 arg11 harg11 hc0 X3 X9 ⟨n, hn⟩]
    exact piecesOf_append (trip_pieces c i arg2 harg2 arg3 harg3 arg4 harg4 arg5 harg5 arg6 harg6 arg7 harg7 arg8 harg8 arg9 harg9 arg10 harg10 arg11 harg11 hc0 X3 X9 w s h3 h9 ⟨n, hn⟩) (loop_pieces c i arg2 harg2 arg3 harg3 arg4 harg4 arg5 harg5 arg6 harg6 arg7 harg7 arg8 harg8 arg9 harg9 arg10 harg10 arg11 harg11 hc0 X3 X9 w s h3 h9 n (Nat.le_of_succ_le hn))

/-- The first rows of the scale scratch hold the scales once they are stored, whatever the rest holds. -/
theorem scales (arg4 : Memref sig .tc .vmem S90x3840 .i8) (harg4 : arg4.IsWhole) (arg9 : Memref sig .tc .vmem S96x3840 .f32)
    (x2 : Vec Ideal S90x3840 .i8) (f9 : BufTy.Contents (Elt Ideal) arg9.view.ty)
    (g : Fin 96) (g' : Fin 90) (b : Fin 3840) (h : g.val = g'.val) :
    arg9.view.read (Elt Ideal) (arg9.view.writes (Elt Ideal) f9 [⟨Rect.unit ![0, 0] S90x3840.size inb_S96x3840_S90x3840_0_0,
      k0_pay10 (F := Ideal) (View.readAt (Elt Ideal) arg4.view (Rect.unit ![0, 0] S90x3840.size inb_S90x3840_S90x3840_0_0).toLoadRect (harg4.unread x2))⟩]) (ix2 g b)
      = Scale.power (x2 (ix2 g' b)) := by
  have e : (Rect.unit (s := S96x3840) ![0, 0] S90x3840.size inb_S96x3840_S90x3840_0_0).emb (ix2 g' b) = ix2 g b :=
    emb_rows _ g' b g b (by show g.val = 0 + g'.val; omega) (by show b.val = 0 + b.val; omega)
  rw [← e, View.read_writes_cons_emb, pay10_at]
  rw [readAt_rows arg4.view _ _ g' b g' b (by show g'.val = 0 + g'.val; omega) (by show b.val = 0 + b.val; omega), harg4.read_unread]

/-- The first point's stores cover the scratch. -/
theorem first_cover (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec Ideal S1x256x2944 .bf16) (x1 : Vec Ideal S2880x3840 .fp8e4m3) (x2 : Vec Ideal S90x3840 .i8) (x3 : Vec Ideal S4x3840 .f32)
    (f8 : BufTy.Contents (Elt Ideal) arg8.view.ty) (f9 : BufTy.Contents (Elt Ideal) arg9.view.ty) (fh : BufTy.Contents (Elt Ideal) arg10.view.ty) (ft : BufTy.Contents (Elt Ideal) arg11.view.ty) (y : S2944x3840.Idx) :
    ∃ p ∈ (runFirst c i arg2 harg2 arg3 harg3 arg4 harg4 arg5 harg5 arg6 harg6 arg7 harg7 arg8 harg8 arg9 harg9 arg10 harg10 arg11 harg11 hc0 hc1 x0 x1 x2 x3 f8 f9 fh ft).2.2.1, y ∈ p.1.set :=
  View.cover_of_tiledBy (runFirst c i arg2 harg2 arg3 harg3 arg4 harg4 arg5 harg5 arg6 harg6 arg7 harg7 arg8 harg8 arg9 harg9 arg10 harg10 arg11 harg11 hc0 hc1 x0 x1 x2 x3 f8 f9 fh ft).2.2.1 ![32, 3840] (by sl_kernel_rfl) y

/-- The zero rows. -/
theorem pay14_at (x1 : Vec Ideal S2880x3840 .fp8e4m3) (x2 : Vec Ideal S90x3840 .i8) (z : S64x3840.Idx) :
    k0_pay14 (F := Ideal) z = weightV x1 x2 ((Rect.unit (s := S2944x3840) ![2880, 0] S64x3840.size inb_S2944x3840_S64x3840_2880_0).emb z) := by
  obtain ⟨a, b, rfl⟩ : ∃ (a : Fin 64) (b : Fin 3840), z = ix2 a b := ⟨z 0, z 1, eq_ix2 z⟩
  rw [emb_rows _ a b ⟨2880 + a.val, by omega⟩ b rfl (by show b.val = 0 + b.val; omega), weightV_pad _ _ _ _ (by show ¬ 2880 + a.val < 2880; omega)]
  pointwise [k0_pay14]

/-- The first point's stores are blocks of the dequantised weight. -/
theorem first_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec Ideal S1x256x2944 .bf16) (x1 : Vec Ideal S2880x3840 .fp8e4m3) (x2 : Vec Ideal S90x3840 .i8) (x3 : Vec Ideal S4x3840 .f32)
    (f8 : BufTy.Contents (Elt Ideal) arg8.view.ty) (f9 : BufTy.Contents (Elt Ideal) arg9.view.ty) (fh : BufTy.Contents (Elt Ideal) arg10.view.ty) (ft : BufTy.Contents (Elt Ideal) arg11.view.ty) :
    View.PiecesOf (weightV x1 x2) (runFirst c i arg2 harg2 arg3 harg3 arg4 harg4 arg5 harg5 arg6 harg6 arg7 harg7 arg8 harg8 arg9 harg9 arg10 harg10 arg11 harg11 hc0 hc1 x0 x1 x2 x3 f8 f9 fh ft).2.2.1 := by
  frame_open
  have h3 := harg3.read_unread (Val := Elt Ideal) x1
  have h9 := scales arg4 harg4 arg9 x2 f9
  exact ⟨pay14_at x1 x2,
    fun z => piece arg3.view arg9.view _ _ x1 x2 h3 h9 ![2848, 0] ![88, 0] ![2848, 0] inb_S2880x3840_S32x3840_2848_0 inb_S96x3840_S8x3840_88_0 inb_S2944x3840_S32x3840_2848_0 88 1 (by decide) (by decide) rfl (by decide) _ (pay13_at _ _) z,
    fun z => piece arg3.view arg9.view _ _ x1 x2 h3 h9 ![2816, 0] ![88, 0] ![2816, 0] inb_S2880x3840_S32x3840_2816_0 inb_S96x3840_S8x3840_88_0 inb_S2944x3840_S32x3840_2816_0 88 0 (by decide) (by decide) rfl (by decide) _ (pay12_at _ _) z,
    loop_pieces c i arg2 harg2 arg3 harg3 arg4 harg4 arg5 harg5 arg6 harg6 arg7 harg7 arg8 harg8 arg9 harg9 arg10 harg10 arg11 harg11 hc0 _ _ x1 x2 h3 h9 _ le_rfl⟩

/-- The scratch holds the dequantised weight after the first point. -/
theorem first_weight (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec Ideal S1x256x2944 .bf16) (x1 : Vec Ideal S2880x3840 .fp8e4m3) (x2 : Vec Ideal S90x3840 .i8) (x3 : Vec Ideal S4x3840 .f32)
    (f8 : BufTy.Contents (Elt Ideal) arg8.view.ty) (f9 : BufTy.Contents (Elt Ideal) arg9.view.ty) (fh : BufTy.Contents (Elt Ideal) arg10.view.ty) (ft : BufTy.Contents (Elt Ideal) arg11.view.ty) :
    arg8.view.read (Elt Ideal) (arg8.view.writes (Elt Ideal) f8 (runFirst c i arg2 harg2 arg3 harg3 arg4 harg4 arg5 harg5 arg6 harg6 arg7 harg7 arg8 harg8 arg9 harg9 arg10 harg10 arg11 harg11 hc0 hc1 x0 x1 x2 x3 f8 f9 fh ft).2.2.1) = weightV x1 x2 :=
  read_writes_of_piecesOf _ _ _ _ (first_pieces c i arg2 harg2 arg3 harg3 arg4 harg4 arg5 harg5 arg6 harg6 arg7 harg7 arg8 harg8 arg9 harg9 arg10 harg10 arg11 harg11 hc0 hc1 x0 x1 x2 x3 f8 f9 fh ft) (first_cover c i arg2 harg2 arg3 harg3 arg4 harg4 arg5 harg5 arg6 harg6 arg7 harg7 arg8 harg8 arg9 harg9 arg10 harg10 arg11 harg11 hc0 hc1 x0 x1 x2 x3 f8 f9 fh ft)

end Cert.VIdeal.Weight

end
end
-- ==== Proof.VIdealOutputFirst.lean ====
/- What the v projection's body leaves at the first point. -/
module

public import proofs.«01_k».proof.Proof.VIdealBlock
public import proofs.«01_k».proof.Proof.VIdealWeight

@[expose] public section

set_option maxRecDepth 16384
set_option maxHeartbeats 2000000

noncomputable section

open Idealize.ShloMosaic Idealize.ShloMosaic.TcCoe Idealize.SL.Sem

namespace Cert.VIdeal.Output

open Cert.VIdeal.Weight Cert.VIdeal Cert.VIdeal.Gen Cert.VIdeal.Body Cert.VIdeal.Run Cert.VIdeal.Block Cert.ProjWeight Cert.ProjConv

/-- The stores to the out at the first point. -/
theorem first_out_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec Ideal S1x256x2944 .bf16) (x1 : Vec Ideal S2880x3840 .fp8e4m3) (x2 : Vec Ideal S90x3840 .i8) (x3 : Vec Ideal S4x3840 .f32) (fw : BufTy.Contents (Elt Ideal) arg8.view.ty) (fs : BufTy.Contents (Elt Ideal) arg9.view.ty) (fh : BufTy.Contents (Elt Ideal) arg10.view.ty) (ft : BufTy.Contents (Elt Ideal) arg11.view.ty) :
    View.PiecesOf (outV x0 (weightV x1 x2) x3 (fun _ => (0 : EReal))) (runFirst c i arg2 harg2 arg3 harg3 arg4 harg4 arg5 harg5 arg6 harg6 arg7 harg7 arg8 harg8 arg9 harg9 arg10 harg10 arg11 harg11 hc0 hc1 x0 x1 x2 x3 fw fs fh ft).1 := by
  have h2 := harg2.read_unread (Val := Elt Ideal) x0
  have h5 := harg5.read_unread (Val := Elt Ideal) x3
  have h8 := first_weight c i arg2 harg2 arg3 harg3 arg4 harg4 arg5 harg5 arg6 harg6 arg7 harg7 arg8 harg8 arg9 harg9 arg10 harg10 arg11 harg11 hc0 hc1 x0 x1 x2 x3 fw fs fh ft
  frame_open
  iterate 15 refine ⟨outRight arg2 arg5 arg8 arg11 (fun _ => (0 : EReal)) _ h2 h5 h8 _ _ (by decide) (by decide) _ (by decide) _ _ _ _ _ _ _ _ _ _ _ _ _ (fun r l => carry_zero arg10 _ _ (by decide) _ rfl (by sl_kernel_rfl) r l) (by decide),
    outLeft arg2 arg5 arg8 arg11 (fun _ => (0 : EReal)) _ h2 h5 h8 _ _ (by decide) (by decide) _ _ _ _ _ _ _ _ _ _ _ _ _ (fun r l => carry_zero arg10 _ _ (by decide) _ rfl (by sl_kernel_rfl) r l) (by decide), ?_⟩
  exact trivial

/-- The stores to the tail at the first point. -/
theorem first_tail_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec Ideal S1x256x2944 .bf16) (x1 : Vec Ideal S2880x3840 .fp8e4m3) (x2 : Vec Ideal S90x3840 .i8) (x3 : Vec Ideal S4x3840 .f32) (fw : BufTy.Contents (Elt Ideal) arg8.view.ty) (fs : BufTy.Contents (Elt Ideal) arg9.view.ty) (fh : BufTy.Contents (Elt Ideal) arg10.view.ty) (ft : BufTy.Contents (Elt Ideal) arg11.view.ty) :
    View.PiecesOf (tailV x0 (weightV x1 x2)) (runFirst c i arg2 harg2 arg3 harg3 arg4 harg4 arg5 harg5 arg6 harg6 arg7 harg7 arg8 harg8 arg9 harg9 arg10 harg10 arg11 harg11 hc0 hc1 x0 x1 x2 x3 fw fs fh ft).2.1 := by
  have h2 := harg2.read_unread (Val := Elt Ideal) x0
  have h5 := harg5.read_unread (Val := Elt Ideal) x3
  have h8 := first_weight c i arg2 harg2 arg3 harg3 arg4 harg4 arg5 harg5 arg6 harg6 arg7 harg7 arg8 harg8 arg9 harg9 arg10 harg10 arg11 harg11 hc0 hc1 x0 x1 x2 x3 fw fs fh ft
  frame_open
  iterate 15 refine ⟨tailRight arg2 arg8 _ h2 h8 _ (by decide) (by decide) _ (by decide) _ (by decide),
    tailLeft arg2 arg8 _ h2 h8 _ (by decide) (by decide) _ (by decide), ?_⟩
  exact trivial

/-- The stores to the hist at the first point. -/
theorem first_hist_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec Ideal S1x256x2944 .bf16) (x1 : Vec Ideal S2880x3840 .fp8e4m3) (x2 : Vec Ideal S90x3840 .i8) (x3 : Vec Ideal S4x3840 .f32) (fw : BufTy.Contents (Elt Ideal) arg8.view.ty) (fs : BufTy.Contents (Elt Ideal) arg9.view.ty) (fh : BufTy.Contents (Elt Ideal) arg10.view.ty) (ft : BufTy.Contents (Elt Ideal) arg11.view.ty) :
    View.PiecesOf (histV x0 (weightV x1 x2)) ((runFirst c i arg2 harg2 arg3 harg3 arg4 harg4 arg5 harg5 arg6 harg6 arg7 harg7 arg8 harg8 arg9 harg9 arg10 harg10 arg11 harg11 hc0 hc1 x0 x1 x2 x3 fw fs fh ft).2.2.2.1.take 30) := by
  have h2 := harg2.read_unread (Val := Elt Ideal) x0
  have h5 := harg5.read_unread (Val := Elt Ideal) x3
  have h8 := first_weight c i arg2 harg2 arg3 harg3 arg4 harg4 arg5 harg5 arg6 harg6 arg7 harg7 arg8 harg8 arg9 harg9 arg10 harg10 arg11 harg11 hc0 hc1 x0 x1 x2 x3 fw fs fh ft
  frame_open
  iterate 15 refine piecesOf_take_cons ⟨histRight arg2 arg8 arg11 _ h2 h8 _ _ _ (by decide) (by decide) _ _ _ _ _ _ (by decide),
    piecesOf_take_cons ⟨histLeft arg2 arg8 arg11 _ h2 h8 _ _ _ (by decide) (by decide) _ _ _ _ _ _ (by decide), ?_⟩⟩
  exact trivial

/-- The point leaves the block of the convolution. -/
theorem first_out (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec Ideal S1x256x2944 .bf16) (x1 : Vec Ideal S2880x3840 .fp8e4m3) (x2 : Vec Ideal S90x3840 .i8) (x3 : Vec Ideal S4x3840 .f32) (fw : BufTy.Contents (Elt Ideal) arg8.view.ty) (fs : BufTy.Contents (Elt Ideal) arg9.view.ty) (fh : BufTy.Contents (Elt Ideal) arg10.view.ty) (ft : BufTy.Contents (Elt Ideal) arg11.view.ty)
    (f : BufTy.Contents (Elt Ideal) arg6.view.ty) :
    arg6.view.read (Elt Ideal) (arg6.view.writes (Elt Ideal) f (runFirst c i arg2 harg2 arg3 harg3 arg4 harg4 arg5 harg5 arg6 harg6 arg7 harg7 arg8 harg8 arg9 harg9 arg10 harg10 arg11 harg11 hc0 hc1 x0 x1 x2 x3 fw fs fh ft).1) = outV x0 (weightV x1 x2) x3 (fun _ => (0 : EReal)) :=
  read_writes_of_piecesOf _ _ _ _ (first_out_pieces c i arg2 harg2 arg3 harg3 arg4 harg4 arg5 harg5 arg6 harg6 arg7 harg7 arg8 harg8 arg9 harg9 arg10 harg10 arg11 harg11 hc0 hc1 x0 x1 x2 x3 fw fs fh ft)
    (fun y => View.cover_of_tiledBy (runFirst c i arg2 harg2 arg3 harg3 arg4 harg4 arg5 harg5 arg6 harg6 arg7 harg7 arg8 harg8 arg9 harg9 arg10 harg10 arg11 harg11 hc0 hc1 x0 x1 x2 x3 fw fs fh ft).1 ![1, 128, 256] (by sl_kernel_rfl) y)

/-- The point leaves the tail. -/
theorem first_tail (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec Ideal S1x256x2944 .bf16) (x1 : Vec Ideal S2880x3840 .fp8e4m3) (x2 : Vec Ideal S90x3840 .i8) (x3 : Vec Ideal S4x3840 .f32) (fw : BufTy.Contents (Elt Ideal) arg8.view.ty) (fs : BufTy.Contents (Elt Ideal) arg9.view.ty) (fh : BufTy.Contents (Elt Ideal) arg10.view.ty) (ft : BufTy.Contents (Elt Ideal) arg11.view.ty)
    (f : BufTy.Contents (Elt Ideal) arg7.view.ty) :
    arg7.view.read (Elt Ideal) (arg7.view.writes (Elt Ideal) f (runFirst c i arg2 harg2 arg3 harg3 arg4 harg4 arg5 harg5 arg6 harg6 arg7 harg7 arg8 harg8 arg9 harg9 arg10 harg10 arg11 harg11 hc0 hc1 x0 x1 x2 x3 fw fs fh ft).2.1) = tailV x0 (weightV x1 x2) :=
  read_writes_of_piecesOf _ _ _ _ (first_tail_pieces c i arg2 harg2 arg3 harg3 arg4 harg4 arg5 harg5 arg6 harg6 arg7 harg7 arg8 harg8 arg9 harg9 arg10 harg10 arg11 harg11 hc0 hc1 x0 x1 x2 x3 fw fs fh ft)
    (fun y => View.cover_of_tiledBy (runFirst c i arg2 harg2 arg3 harg3 arg4 harg4 arg5 harg5 arg6 harg6 arg7 harg7 arg8 harg8 arg9 harg9 arg10 harg10 arg11 harg11 hc0 hc1 x0 x1 x2 x3 fw fs fh ft).2.1 ![1, 8, 128] (by sl_kernel_rfl) y)

/-- The point leaves the rows carried over. -/
theorem first_hist (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : cond0_0 i) (hc1 : cond0_1 i)
    (x0 : Vec Ideal S1x256x2944 .bf16) (x1 : Vec Ideal S2880x3840 .fp8e4m3) (x2 : Vec Ideal S90x3840 .i8) (x3 : Vec Ideal S4x3840 .f32) (fw : BufTy.Contents (Elt Ideal) arg8.view.ty) (fs : BufTy.Contents (Elt Ideal) arg9.view.ty) (fh : BufTy.Contents (Elt Ideal) arg10.view.ty) (ft : BufTy.Contents (Elt Ideal) arg11.view.ty) :
    arg10.view.read (Elt Ideal) (arg10.view.writes (Elt Ideal) fh (runFirst c i arg2 harg2 arg3 harg3 arg4 harg4 arg5 harg5 arg6 harg6 arg7 harg7 arg8 harg8 arg9 harg9 arg10 harg10 arg11 harg11 hc0 hc1 x0 x1 x2 x3 fw fs fh ft).2.2.2.1) = histV x0 (weightV x1 x2) :=
  read_writes_of_top _ 30 _ _ _ (first_hist_pieces c i arg2 harg2 arg3 harg3 arg4 harg4 arg5 harg5 arg6 harg6 arg7 harg7 arg8 harg8 arg9 harg9 arg10 harg10 arg11 harg11 hc0 hc1 x0 x1 x2 x3 fw fs fh ft)
    (fun y => View.cover_of_tiledBy ((runFirst c i arg2 harg2 arg3 harg3 arg4 harg4 arg5 harg5 arg6 harg6 arg7 harg7 arg8 harg8 arg9 harg9 arg10 harg10 arg11 harg11 hc0 hc1 x0 x1 x2 x3 fw fs fh ft).2.2.2.1.take 30) ![1, 8, 128] (by sl_kernel_rfl) y)

end Cert.VIdeal.Output

end
end
-- ==== Proof.VIdealRunStart.lean ====
/- The body of the v projection at the first point of a later batch, which clears the rows carried over, with what it leaves. -/
module
public import proofs.«01_k».proof.Proof.VIdealBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.VIdeal.Run
open Cert.VIdeal Cert.VIdeal.Gen Cert.VIdeal.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at the first point of a later batch, which clears the rows carried over: the pieces it leaves in the output, the tail, and the rows carried over. -/
noncomputable def runStart (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : cond0_1 i)
    (x0 : Vec F S1x256x2944 .bf16) (x1 : Vec F S2880x3840 .fp8e4m3) (x2 : Vec F S90x3840 .i8) (x3 : Vec F S4x3840 .f32) (xw : Vec F S2944x3840 .bf16) (fs : BufTy.Contents (Elt F) arg9.view.ty) (fh : BufTy.Contents (Elt F) arg10.view.ty) (ft : BufTy.Contents (Elt F) arg11.view.ty) :
    Σ' (LO : List (View.Piece (Elt F) S1x3840x256 .bf16)), Σ' (LT : List (View.Piece (Elt F) S1x8x3840 .bf16)), { LH : List (View.Piece (Elt F) S30x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xw ∗ (arg9.view.loc (c : Thread nD τ) ↦[arg9.view.set]{fullShare} fs) ∗ (arg10.view.loc (c : Thread nD τ) ↦[arg10.view.set]{fullShare} fh) ∗ (arg11.view.loc (c : Thread nD τ) ↦[arg11.view.set]{fullShare} ft)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LT) ∗ owns (c : Thread nD τ) arg8 fullShare xw ∗ (∃ d, owns (c : Thread nD τ) arg9 fullShare d) ∗ (arg10.view.loc (c : Thread nD τ) ↦[arg10.view.set]{fullShare} arg10.view.writes (Elt F) fh LH) ∗ (∃ d, owns (c : Thread nD τ) arg11 fullShare d)) -∗ K ⟨⟩))
          ⊢ wp frame (wpE (defs₀ (F := F)) Variants.none c none) E (cc0_proj_v i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_proj_v_eq_skeleton]; unfold cc0_proj_v_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, H7, H8, H9, Hk⟩
    obtain rfl := harg2.eq_unread hf0; obtain rfl := harg3.eq_unread hf1; obtain rfl := harg4.eq_unread hf2; obtain rfl := harg5.eq_unread hf3; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _, _; isplitr; swap; · iexact H7
      ipureintro; rfl
    isplitl [H8]; · iexact H8
    iexists _, _; isplitr; swap; · iexact H9
    ipureintro; rfl
end Cert.VIdeal.Run
end
end
-- ==== Proof.VIdealOutputStart.lean ====
/- What the v projection's body leaves at a batch's first point. -/
module

public import proofs.«01_k».proof.Proof.VIdealBlock
public import proofs.«01_k».proof.Proof.VIdealRunStart

@[expose] public section

set_option maxRecDepth 16384
set_option maxHeartbeats 2000000

noncomputable section

open Idealize.ShloMosaic Idealize.ShloMosaic.TcCoe Idealize.SL.Sem

namespace Cert.VIdeal.Output

open Cert.VIdeal Cert.VIdeal.Gen Cert.VIdeal.Body Cert.VIdeal.Run Cert.VIdeal.Block Cert.ProjWeight Cert.ProjConv

/-- The stores to the out at a batch's first point. -/
theorem start_out_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (fh : BufTy.Contents (Elt Ideal) arg10.view.ty) (ft : BufTy.Contents (Elt Ideal) arg11.view.ty) :
    View.PiecesOf (outV x0 xw x3 (fun _ => (0 : EReal))) (runStart c i arg2 harg2 arg3 harg3 arg4 harg4 arg5 harg5 arg6 harg6 arg7 harg7 arg8 harg8 arg9 harg9 arg10 harg10 arg11 harg11 hc0 hc1 x0 x1 x2 x3 xw fs fh ft).1 := by
  have h2 := harg2.read_unread (Val := Elt Ideal) x0
  have h5 := harg5.read_unread (Val := Elt Ideal) x3
  have h8 := harg8.read_unread (Val := Elt Ideal) xw
  frame_open
  iterate 15 refine ⟨outRight arg2 arg5 arg8 arg11 (fun _ => (0 : EReal)) _ h2 h5 h8 _ _ (by decide) (by decide) _ (by decide) _ _ _ _ _ _ _ _ _ _ _ _ _ (fun r l => carry_zero arg10 _ _ (by decide) _ rfl (by sl_kernel_rfl) r l) (by decide),
    outLeft arg2 arg5 arg8 arg11 (fun _ => (0 : EReal)) _ h2 h5 h8 _ _ (by decide) (by decide) _ _ _ _ _ _ _ _ _ _ _ _ _ (fun r l => carry_zero arg10 _ _ (by decide) _ rfl (by sl_kernel_rfl) r l) (by decide), ?_⟩
  exact trivial

/-- The stores to the tail at a batch's first point. -/
theorem start_tail_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (fh : BufTy.Contents (Elt Ideal) arg10.view.ty) (ft : BufTy.Contents (Elt Ideal) arg11.view.ty) :
    View.PiecesOf (tailV x0 xw) (runStart c i arg2 harg2 arg3 harg3 arg4 harg4 arg5 harg5 arg6 harg6 arg7 harg7 arg8 harg8 arg9 harg9 arg10 harg10 arg11 harg11 hc0 hc1 x0 x1 x2 x3 xw fs fh ft).2.1 := by
  have h2 := harg2.read_unread (Val := Elt Ideal) x0
  have h5 := harg5.read_unread (Val := Elt Ideal) x3
  have h8 := harg8.read_unread (Val := Elt Ideal) xw
  frame_open
  iterate 15 refine ⟨tailRight arg2 arg8 _ h2 h8 _ (by decide) (by decide) _ (by decide) _ (by decide),
    tailLeft arg2 arg8 _ h2 h8 _ (by decide) (by decide) _ (by decide), ?_⟩
  exact trivial

/-- The stores to the hist at a batch's first point. -/
theorem start_hist_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (fh : BufTy.Contents (Elt Ideal) arg10.view.ty) (ft : BufTy.Contents (Elt Ideal) arg11.view.ty) :
    View.PiecesOf (histV x0 xw) ((runStart c i arg2 harg2 arg3 harg3 arg4 harg4 arg5 harg5 arg6 harg6 arg7 harg7 arg8 harg8 arg9 harg9 arg10 harg10 arg11 harg11 hc0 hc1 x0 x1 x2 x3 xw fs fh ft).2.2.1.take 30) := by
  have h2 := harg2.read_unread (Val := Elt Ideal) x0
  have h5 := harg5.read_unread (Val := Elt Ideal) x3
  have h8 := harg8.read_unread (Val := Elt Ideal) xw
  frame_open
  iterate 15 refine piecesOf_take_cons ⟨histRight arg2 arg8 arg11 _ h2 h8 _ _ _ (by decide) (by decide) _ _ _ _ _ _ (by decide),
    piecesOf_take_cons ⟨histLeft arg2 arg8 arg11 _ h2 h8 _ _ _ (by decide) (by decide) _ _ _ _ _ _ (by decide), ?_⟩⟩
  exact trivial

/-- The point leaves the block of the convolution. -/
theorem start_out (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (fh : BufTy.Contents (Elt Ideal) arg10.view.ty) (ft : BufTy.Contents (Elt Ideal) arg11.view.ty)
    (f : BufTy.Contents (Elt Ideal) arg6.view.ty) :
    arg6.view.read (Elt Ideal) (arg6.view.writes (Elt Ideal) f (runStart c i arg2 harg2 arg3 harg3 arg4 harg4 arg5 harg5 arg6 harg6 arg7 harg7 arg8 harg8 arg9 harg9 arg10 harg10 arg11 harg11 hc0 hc1 x0 x1 x2 x3 xw fs fh ft).1) = outV x0 xw x3 (fun _ => (0 : EReal)) :=
  read_writes_of_piecesOf _ _ _ _ (start_out_pieces c i arg2 harg2 arg3 harg3 arg4 harg4 arg5 harg5 arg6 harg6 arg7 harg7 arg8 harg8 arg9 harg9 arg10 harg10 arg11 harg11 hc0 hc1 x0 x1 x2 x3 xw fs fh ft)
    (fun y => View.cover_of_tiledBy (runStart c i arg2 harg2 arg3 harg3 arg4 harg4 arg5 harg5 arg6 harg6 arg7 harg7 arg8 harg8 arg9 harg9 arg10 harg10 arg11 harg11 hc0 hc1 x0 x1 x2 x3 xw fs fh ft).1 ![1, 128, 256] (by sl_kernel_rfl) y)

/-- The point leaves the tail. -/
theorem start_tail (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (fh : BufTy.Contents (Elt Ideal) arg10.view.ty) (ft : BufTy.Contents (Elt Ideal) arg11.view.ty)
    (f : BufTy.Contents (Elt Ideal) arg7.view.ty) :
    arg7.view.read (Elt Ideal) (arg7.view.writes (Elt Ideal) f (runStart c i arg2 harg2 arg3 harg3 arg4 harg4 arg5 harg5 arg6 harg6 arg7 harg7 arg8 harg8 arg9 harg9 arg10 harg10 arg11 harg11 hc0 hc1 x0 x1 x2 x3 xw fs fh ft).2.1) = tailV x0 xw :=
  read_writes_of_piecesOf _ _ _ _ (start_tail_pieces c i arg2 harg2 arg3 harg3 arg4 harg4 arg5 harg5 arg6 harg6 arg7 harg7 arg8 harg8 arg9 harg9 arg10 harg10 arg11 harg11 hc0 hc1 x0 x1 x2 x3 xw fs fh ft)
    (fun y => View.cover_of_tiledBy (runStart c i arg2 harg2 arg3 harg3 arg4 harg4 arg5 harg5 arg6 harg6 arg7 harg7 arg8 harg8 arg9 harg9 arg10 harg10 arg11 harg11 hc0 hc1 x0 x1 x2 x3 xw fs fh ft).2.1 ![1, 8, 128] (by sl_kernel_rfl) y)

/-- The point leaves the rows carried over. -/
theorem start_hist (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (fh : BufTy.Contents (Elt Ideal) arg10.view.ty) (ft : BufTy.Contents (Elt Ideal) arg11.view.ty) :
    arg10.view.read (Elt Ideal) (arg10.view.writes (Elt Ideal) fh (runStart c i arg2 harg2 arg3 harg3 arg4 harg4 arg5 harg5 arg6 harg6 arg7 harg7 arg8 harg8 arg9 harg9 arg10 harg10 arg11 harg11 hc0 hc1 x0 x1 x2 x3 xw fs fh ft).2.2.1) = histV x0 xw :=
  read_writes_of_top _ 30 _ _ _ (start_hist_pieces c i arg2 harg2 arg3 harg3 arg4 harg4 arg5 harg5 arg6 harg6 arg7 harg7 arg8 harg8 arg9 harg9 arg10 harg10 arg11 harg11 hc0 hc1 x0 x1 x2 x3 xw fs fh ft)
    (fun y => View.cover_of_tiledBy ((runStart c i arg2 harg2 arg3 harg3 arg4 harg4 arg5 harg5 arg6 harg6 arg7 harg7 arg8 harg8 arg9 harg9 arg10 harg10 arg11 harg11 hc0 hc1 x0 x1 x2 x3 xw fs fh ft).2.2.1.take 30) ![1, 8, 128] (by sl_kernel_rfl) y)

end Cert.VIdeal.Output

end
end
-- ==== Proof.VIdealRunRest.lean ====
/- The body of the v projection at any other point, with what it leaves. -/
module
public import proofs.«01_k».proof.Proof.VIdealBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.VIdeal.Run
open Cert.VIdeal Cert.VIdeal.Gen Cert.VIdeal.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at any other point: the pieces it leaves in the output, the tail, and the rows carried over. -/
noncomputable def runRest (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : ¬cond0_1 i)
    (x0 : Vec F S1x256x2944 .bf16) (x1 : Vec F S2880x3840 .fp8e4m3) (x2 : Vec F S90x3840 .i8) (x3 : Vec F S4x3840 .f32) (xw : Vec F S2944x3840 .bf16) (fs : BufTy.Contents (Elt F) arg9.view.ty) (xh : Vec F S30x8x128 .f32) (ft : BufTy.Contents (Elt F) arg11.view.ty) :
    Σ' (LO : List (View.Piece (Elt F) S1x3840x256 .bf16)), Σ' (LT : List (View.Piece (Elt F) S1x8x3840 .bf16)), { LH : List (View.Piece (Elt F) S30x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xw ∗ (arg9.view.loc (c : Thread nD τ) ↦[arg9.view.set]{fullShare} fs) ∗ owns (c : Thread nD τ) arg10 fullShare xh ∗ (arg11.view.loc (c : Thread nD τ) ↦[arg11.view.set]{fullShare} ft)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LT) ∗ owns (c : Thread nD τ) arg8 fullShare xw ∗ (∃ d, owns (c : Thread nD τ) arg9 fullShare d) ∗ (arg10.view.loc (c : Thread nD τ) ↦[arg10.view.set]{fullShare} arg10.view.writes (Elt F) (harg10.unread xh) LH) ∗ (∃ d, owns (c : Thread nD τ) arg11 fullShare d)) -∗ K ⟨⟩))
          ⊢ wp frame (wpE (defs₀ (F := F)) Variants.none c none) E (cc0_proj_v i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_proj_v_eq_skeleton]; unfold cc0_proj_v_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, H7, ⟨%f8, %hf8, H8⟩, H9, Hk⟩
    obtain rfl := harg2.eq_unread hf0; obtain rfl := harg3.eq_unread hf1; obtain rfl := harg4.eq_unread hf2; obtain rfl := harg5.eq_unread hf3; obtain rfl := harg8.eq_unread hf6; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]
    · iexists _; isplitr; · ipureintro; exact harg8.read_unread _
      iexact H6
    isplitl [H7]
    · iexists _, _; isplitr; swap; · iexact H7
      ipureintro; rfl
    isplitl [H8]; · iexact H8
    iexists _, _; isplitr; swap; · iexact H9
    ipureintro; rfl
end Cert.VIdeal.Run
end
end
-- ==== Proof.VIdealOutputRest.lean ====
/- What the v projection's body leaves at any other point. -/
module

public import proofs.«01_k».proof.Proof.VIdealBlock
public import proofs.«01_k».proof.Proof.VIdealRunRest

@[expose] public section

set_option maxRecDepth 16384
set_option maxHeartbeats 2000000

noncomputable section

open Idealize.ShloMosaic Idealize.ShloMosaic.TcCoe Idealize.SL.Sem

namespace Cert.VIdeal.Output

open Cert.VIdeal Cert.VIdeal.Gen Cert.VIdeal.Body Cert.VIdeal.Run Cert.VIdeal.Block Cert.ProjWeight Cert.ProjConv

/-- The stores to the out at any other point. -/
theorem rest_out_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : ¬cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (xh : Vec Ideal S30x8x128 .f32) (ft : BufTy.Contents (Elt Ideal) arg11.view.ty) :
    View.PiecesOf (outV x0 xw x3 xh) (runRest c i arg2 harg2 arg3 harg3 arg4 harg4 arg5 harg5 arg6 harg6 arg7 harg7 arg8 harg8 arg9 harg9 arg10 harg10 arg11 harg11 hc0 hc1 x0 x1 x2 x3 xw fs xh ft).1 := by
  have h2 := harg2.read_unread (Val := Elt Ideal) x0
  have h5 := harg5.read_unread (Val := Elt Ideal) x3
  have h8 := harg8.read_unread (Val := Elt Ideal) xw
  have h10 := harg10.read_unread (Val := Elt Ideal) xh
  frame_open
  iterate 15
    refine ⟨outRight arg2 arg5 arg8 arg11 xh _ h2 h5 h8 _ _ (by decide) (by decide) _ (by decide) _ _ _ _ _ _ _ _ _ _ _ _ _ (fun r l => ?_) (by decide),
      outLeft arg2 arg5 arg8 arg11 xh _ h2 h5 h8 _ _ (by decide) (by decide) _ _ _ _ _ _ _ _ _ _ _ _ _ (fun r l => ?_) (by decide), ?_⟩
    · exact carry_held xh arg10 h10 _ (by decide) _ r l
    · exact carry_held xh arg10 h10 _ (by decide) _ r l
  exact trivial

/-- The stores to the tail at any other point. -/
theorem rest_tail_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : ¬cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (xh : Vec Ideal S30x8x128 .f32) (ft : BufTy.Contents (Elt Ideal) arg11.view.ty) :
    View.PiecesOf (tailV x0 xw) (runRest c i arg2 harg2 arg3 harg3 arg4 harg4 arg5 harg5 arg6 harg6 arg7 harg7 arg8 harg8 arg9 harg9 arg10 harg10 arg11 harg11 hc0 hc1 x0 x1 x2 x3 xw fs xh ft).2.1 := by
  have h2 := harg2.read_unread (Val := Elt Ideal) x0
  have h5 := harg5.read_unread (Val := Elt Ideal) x3
  have h8 := harg8.read_unread (Val := Elt Ideal) xw
  have h10 := harg10.read_unread (Val := Elt Ideal) xh
  frame_open
  iterate 15 refine ⟨tailRight arg2 arg8 _ h2 h8 _ (by decide) (by decide) _ (by decide) _ (by decide),
    tailLeft arg2 arg8 _ h2 h8 _ (by decide) (by decide) _ (by decide), ?_⟩
  exact trivial

/-- The stores to the hist at any other point. -/
theorem rest_hist_pieces (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : ¬cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (xh : Vec Ideal S30x8x128 .f32) (ft : BufTy.Contents (Elt Ideal) arg11.view.ty) :
    View.PiecesOf (histV x0 xw) ((runRest c i arg2 harg2 arg3 harg3 arg4 harg4 arg5 harg5 arg6 harg6 arg7 harg7 arg8 harg8 arg9 harg9 arg10 harg10 arg11 harg11 hc0 hc1 x0 x1 x2 x3 xw fs xh ft).2.2.1.take 30) := by
  have h2 := harg2.read_unread (Val := Elt Ideal) x0
  have h5 := harg5.read_unread (Val := Elt Ideal) x3
  have h8 := harg8.read_unread (Val := Elt Ideal) xw
  have h10 := harg10.read_unread (Val := Elt Ideal) xh
  frame_open
  iterate 15 refine piecesOf_take_cons ⟨histRight arg2 arg8 arg11 _ h2 h8 _ _ _ (by decide) (by decide) _ _ _ _ _ _ (by decide),
    piecesOf_take_cons ⟨histLeft arg2 arg8 arg11 _ h2 h8 _ _ _ (by decide) (by decide) _ _ _ _ _ _ (by decide), ?_⟩⟩
  exact trivial

/-- The point leaves the block of the convolution. -/
theorem rest_out (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : ¬cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (xh : Vec Ideal S30x8x128 .f32) (ft : BufTy.Contents (Elt Ideal) arg11.view.ty)
    (f : BufTy.Contents (Elt Ideal) arg6.view.ty) :
    arg6.view.read (Elt Ideal) (arg6.view.writes (Elt Ideal) f (runRest c i arg2 harg2 arg3 harg3 arg4 harg4 arg5 harg5 arg6 harg6 arg7 harg7 arg8 harg8 arg9 harg9 arg10 harg10 arg11 harg11 hc0 hc1 x0 x1 x2 x3 xw fs xh ft).1) = outV x0 xw x3 xh :=
  read_writes_of_piecesOf _ _ _ _ (rest_out_pieces c i arg2 harg2 arg3 harg3 arg4 harg4 arg5 harg5 arg6 harg6 arg7 harg7 arg8 harg8 arg9 harg9 arg10 harg10 arg11 harg11 hc0 hc1 x0 x1 x2 x3 xw fs xh ft)
    (fun y => View.cover_of_tiledBy (runRest c i arg2 harg2 arg3 harg3 arg4 harg4 arg5 harg5 arg6 harg6 arg7 harg7 arg8 harg8 arg9 harg9 arg10 harg10 arg11 harg11 hc0 hc1 x0 x1 x2 x3 xw fs xh ft).1 ![1, 128, 256] (by sl_kernel_rfl) y)

/-- The point leaves the tail. -/
theorem rest_tail (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : ¬cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (xh : Vec Ideal S30x8x128 .f32) (ft : BufTy.Contents (Elt Ideal) arg11.view.ty)
    (f : BufTy.Contents (Elt Ideal) arg7.view.ty) :
    arg7.view.read (Elt Ideal) (arg7.view.writes (Elt Ideal) f (runRest c i arg2 harg2 arg3 harg3 arg4 harg4 arg5 harg5 arg6 harg6 arg7 harg7 arg8 harg8 arg9 harg9 arg10 harg10 arg11 harg11 hc0 hc1 x0 x1 x2 x3 xw fs xh ft).2.1) = tailV x0 xw :=
  read_writes_of_piecesOf _ _ _ _ (rest_tail_pieces c i arg2 harg2 arg3 harg3 arg4 harg4 arg5 harg5 arg6 harg6 arg7 harg7 arg8 harg8 arg9 harg9 arg10 harg10 arg11 harg11 hc0 hc1 x0 x1 x2 x3 xw fs xh ft)
    (fun y => View.cover_of_tiledBy (runRest c i arg2 harg2 arg3 harg3 arg4 harg4 arg5 harg5 arg6 harg6 arg7 harg7 arg8 harg8 arg9 harg9 arg10 harg10 arg11 harg11 hc0 hc1 x0 x1 x2 x3 xw fs xh ft).2.1 ![1, 8, 128] (by sl_kernel_rfl) y)

/-- The point leaves the rows carried over. -/
theorem rest_hist (c : Dev nD) (i : grid0.Coords) (arg2 : Memref sig .tc .vmem S1x256x2944 .bf16) (harg2 : arg2.IsWhole) (arg3 : Memref sig .tc .vmem S2880x3840 .fp8e4m3) (harg3 : arg3.IsWhole) (arg4 : Memref sig .tc .vmem S90x3840 .i8) (harg4 : arg4.IsWhole) (arg5 : Memref sig .tc .vmem S4x3840 .f32) (harg5 : arg5.IsWhole) (arg6 : Memref sig .tc .vmem S1x3840x256 .bf16) (harg6 : arg6.IsWhole) (arg7 : Memref sig .tc .vmem S1x8x3840 .bf16) (harg7 : arg7.IsWhole) (arg8 : Memref sig .tc .vmem S2944x3840 .bf16) (harg8 : arg8.IsWhole) (arg9 : Memref sig .tc .vmem S96x3840 .f32) (harg9 : arg9.IsWhole) (arg10 : Memref sig .tc .vmem S30x8x128 .f32) (harg10 : arg10.IsWhole) (arg11 : Memref sig .tc .vmem S4x264x128 .f32) (harg11 : arg11.IsWhole) (hc0 : ¬cond0_0 i) (hc1 : ¬cond0_1 i)
    (x0 : Vec Ideal S1x256x2944 .bf16) (x1 : Vec Ideal S2880x3840 .fp8e4m3) (x2 : Vec Ideal S90x3840 .i8) (x3 : Vec Ideal S4x3840 .f32) (xw : Vec Ideal S2944x3840 .bf16) (fs : BufTy.Contents (Elt Ideal) arg9.view.ty) (xh : Vec Ideal S30x8x128 .f32) (ft : BufTy.Contents (Elt Ideal) arg11.view.ty) :
    arg10.view.read (Elt Ideal) (arg10.view.writes (Elt Ideal) (harg10.unread xh) (runRest c i arg2 harg2 arg3 harg3 arg4 harg4 arg5 harg5 arg6 harg6 arg7 harg7 arg8 harg8 arg9 harg9 arg10 harg10 arg11 harg11 hc0 hc1 x0 x1 x2 x3 xw fs xh ft).2.2.1) = histV x0 xw :=
  read_writes_of_top _ 30 _ _ _ (rest_hist_pieces c i arg2 harg2 arg3 harg3 arg4 harg4 arg5 harg5 arg6 harg6 arg7 harg7 arg8 harg8 arg9 harg9 arg10 harg10 arg11 harg11 hc0 hc1 x0 x1 x2 x3 xw fs xh ft)
    (fun y => View.cover_of_tiledBy ((runRest c i arg2 harg2 arg3 harg3 arg4 harg4 arg5 harg5 arg6 harg6 arg7 harg7 arg8 harg8 arg9 harg9 arg10 harg10 arg11 harg11 hc0 hc1 x0 x1 x2 x3 xw fs xh ft).2.2.1.take 30) ![1, 8, 128] (by sl_kernel_rfl) y)

end Cert.VIdeal.Output

end
end
-- ==== Proof.VIdealFrame.lean ====
/- The v projection's run over the extended reals: after the first point its scratch holds the dequantised weight, before every
   point but a batch's first the rows carried over, every point leaves the block of the convolution and the tail, and the run
   ends with every argument as it was. -/
module

public import proofs.«01_k».proof.Proof.VIdealOutputFirst
public import proofs.«01_k».proof.Proof.VIdealOutputStart
public import proofs.«01_k».proof.Proof.VIdealOutputRest
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.VIdeal.FrameRun

open Cert.VIdeal Cert.VIdeal.Gen Cert.VIdeal.Body Cert.VIdeal.Run Cert.VIdeal.Weight Cert.VIdeal.Output Cert.ProjWeight Cert.ProjConv

local notation "𝕄" => MT nD τ sig Unit (Elt Ideal) ℕ (UR sig nD τ) ℕ

variable (m : (ℓ : Loc nD τ sig) → Buf (Elt Ideal) ℓ) (ρ : Dev nD → PrngReg)

/-- Which block each window holds at a point. -/
theorem idx : ∀ t : Fin cfg0.N, win0_0.index t = ![t.val / 12, t.val % 12, 0]
    ∧ win0_1.index t = ![0, 0]
    ∧ win0_2.index t = ![0, 0]
    ∧ win0_3.index t = ![0, 0]
    ∧ win0_4.index t = ![t.val / 12, 0, t.val % 12]
    ∧ win0_5.index t = ![t.val / 12, 0, 0] :=
  (by decide +kernel : ∀ t : Fin grid0.N, _)

/-- The weight and scale windows hold the same block at every point. -/
theorem iblk_const_1 (c : Dev nD) (t t' : Fin cfg0.N) : iblk m c 1 t = iblk m c 1 t' := by
  funext j
  blk_ext [iblk, idx t, idx t']
theorem iblk_const_2 (c : Dev nD) (t t' : Fin cfg0.N) : iblk m c 2 t = iblk m c 2 t' := by
  funext j
  blk_ext [iblk, idx t, idx t']

/-- The dequantised weight, from the blocks a point stages. -/
abbrev weightAt (c : Dev nD) (t : Fin cfg0.N) : Vec Ideal S2944x3840 .bf16 := weightV (iblk m c 1 t) (iblk m c 2 t)

theorem weightAt_const (c : Dev nD) (t t' : Fin cfg0.N) : weightAt m c t = weightAt m c t' := by
  unfold weightAt; rw [iblk_const_1 m c t t', iblk_const_2 m c t t']

/-- The rows a point carries over. -/
abbrev histAt (c : Dev nD) (t : Fin cfg0.N) : Vec Ideal S30x8x128 .f32 := histV (iblk m c 0 t) (weightAt m c t)

/-- The point before. -/
def prev (t : Fin cfg0.N) : Fin cfg0.N := ⟨t.val - 1, Nat.lt_of_le_of_lt (Nat.sub_le _ _) t.isLt⟩

/-- The rows a point finds: nothing at a batch's first point, afterwards those of the point before. -/
def carried (c : Dev nD) (t : Fin cfg0.N) : Vec Ideal S30x8x128 .f32 := if t.val % 12 = 0 then fun _ => 0 else histAt m c (prev t)

/-- What a point leaves in the output, -/
abbrev outAt (c : Dev nD) (t : Fin cfg0.N) : Vec Ideal S1x3840x256 .bf16 := outV (iblk m c 0 t) (weightAt m c t) (iblk m c 3 t) (carried m c t)

/-- and in the tail. -/
abbrev tailAt (c : Dev nD) (t : Fin cfg0.N) : Vec Ideal S1x8x3840 .bf16 := tailV (iblk m c 0 t) (weightAt m c t)

/-- The scratches after a point: the weight, the rows carried over, the rest at anything. -/
def held (c : Dev nD) (W : Vec Ideal S2944x3840 .bf16) (H : Vec Ideal S30x8x128 .f32) : sProp 𝕄 :=
  iprop(iprop(owns (c : Thread nD τ) scM0_0 fullShare W ∗ (∃ d, owns (c : Thread nD τ) scM0_1 fullShare d)
    ∗ owns (c : Thread nD τ) scM0_2 fullShare H ∗ (∃ d, owns (c : Thread nD τ) scM0_3 fullShare d)) ∗ (∃ r, prngReg c r))

/-- The region invariant before a position: before the first point every scratch at anything. -/
def PhiS (c : Dev nD) : (n : ℕ) → n ≤ cfg0.N → sProp 𝕄
  | 0, _ => Pipeline.ΦA spec0 c
  | n + 1, hn => held c (weightAt m c ⟨n, hn⟩) (histAt m c ⟨n, hn⟩)

theorem PhiS_zero (c : Dev nD) (n : ℕ) (h : n ≤ cfg0.N) (hz : n = 0) : PhiS m c n h = Pipeline.ΦA spec0 c := by
  subst hz; rfl

theorem PhiS_succ (c : Dev nD) (t : Fin cfg0.N) : PhiS m c (t.val + 1) t.isLt = held c (weightAt m c t) (histAt m c t) := rfl

/-- Before a point that is not the first the scratch holds the weight as that point's blocks say it, and the rows of the point before. -/
theorem PhiS_pos (c : Dev nD) (t : Fin cfg0.N) (h : t.val ≤ cfg0.N) (hz : t.val ≠ 0) :
    PhiS m c t.val h = held c (weightAt m c t) (histAt m c (prev t)) := by
  obtain ⟨n, ht⟩ := t
  cases n with
  | zero => exact absurd rfl hz
  | succ n => rw [weightAt_const m c ⟨n + 1, ht⟩ ⟨n, h⟩]; rfl

/-- The class's invariant with the scratch at its contents. -/
theorem PhiA0_open (c : Dev nD) :
    (Pipeline.ΦA spec0 c : sProp 𝕄)
      = iprop(iprop((∃ d, ∃ f, ⌜scM0_0.view.read (Elt Ideal) f = d⌝ ∗ (scM0_0.view.loc (c : Thread nD τ) ↦[scM0_0.view.set]{fullShare} f))
        ∗ (∃ d, ∃ f, ⌜scM0_1.view.read (Elt Ideal) f = d⌝ ∗ (scM0_1.view.loc (c : Thread nD τ) ↦[scM0_1.view.set]{fullShare} f))
        ∗ (∃ d, ∃ f, ⌜scM0_2.view.read (Elt Ideal) f = d⌝ ∗ (scM0_2.view.loc (c : Thread nD τ) ↦[scM0_2.view.set]{fullShare} f))
        ∗ (∃ d, ∃ f, ⌜scM0_3.view.read (Elt Ideal) f = d⌝ ∗ (scM0_3.view.loc (c : Thread nD τ) ↦[scM0_3.view.set]{fullShare} f))) ∗ (∃ r, prngReg c r)) := by
  rw [PhiA0_eq]; rfl

/-- The scratches after a point, all but the weight at their contents. -/
theorem held_open (c : Dev nD) (W : Vec Ideal S2944x3840 .bf16) (H : Vec Ideal S30x8x128 .f32) :
    (held c W H : sProp 𝕄)
      = iprop(iprop(owns (c : Thread nD τ) scM0_0 fullShare W
        ∗ (∃ d, ∃ f, ⌜scM0_1.view.read (Elt Ideal) f = d⌝ ∗ (scM0_1.view.loc (c : Thread nD τ) ↦[scM0_1.view.set]{fullShare} f))
        ∗ (∃ f, ⌜scM0_2.view.read (Elt Ideal) f = H⌝ ∗ (scM0_2.view.loc (c : Thread nD τ) ↦[scM0_2.view.set]{fullShare} f))
        ∗ (∃ d, ∃ f, ⌜scM0_3.view.read (Elt Ideal) f = d⌝ ∗ (scM0_3.view.loc (c : Thread nD τ) ↦[scM0_3.view.set]{fullShare} f))) ∗ (∃ r, prngReg c r)) := rfl

/-- The same with the rows carried over left as they are. -/
theorem held_open_rest (c : Dev nD) (W : Vec Ideal S2944x3840 .bf16) (H : Vec Ideal S30x8x128 .f32) :
    (held c W H : sProp 𝕄)
      = iprop(iprop(owns (c : Thread nD τ) scM0_0 fullShare W
        ∗ (∃ d, ∃ f, ⌜scM0_1.view.read (Elt Ideal) f = d⌝ ∗ (scM0_1.view.loc (c : Thread nD τ) ↦[scM0_1.view.set]{fullShare} f))
        ∗ owns (c : Thread nD τ) scM0_2 fullShare H
        ∗ (∃ d, ∃ f, ⌜scM0_3.view.read (Elt Ideal) f = d⌝ ∗ (scM0_3.view.loc (c : Thread nD τ) ↦[scM0_3.view.set]{fullShare} f))) ∗ (∃ r, prngReg c r)) := rfl

/-- The proof data of the pipeline: each input's buffer at its block, the outputs' at the convolution and the tail. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨5, _⟩ => tailAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]
theorem after0_5 (c : Dev nD) (t : Fin cfg0.N) : (dats m 0 c).after 5 t = tailAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at the first point. -/
theorem body_first (c : Dev nD) (t : Fin cfg0.N) (hz : t.val = 0) (h0 : t.val % 84 = 0) (h1 : t.val % 12 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  rw [PhiS_castSucc m c t, PhiS_zero m c _ _ hz, PhiA0_open]
  rw [show outAt m c t = outV (iblk m c 0 t) (weightAt m c t) (iblk m c 3 t) (fun _ => (0 : EReal)) from congrArg (outV (iblk m c 0 t) (weightAt m c t) (iblk m c 3 t)) (if_pos h1 : carried m c t = (fun _ => (0 : EReal)))]
  iintro ⟨⟨⟨⟨%e0, %g0, -, HS0⟩, ⟨%e1, %g1, -, HS1⟩, ⟨%e2, %g2, -, HS2⟩, ⟨%e3, %g3, -, HS3⟩⟩, Hg⟩, Ho, ⟨%d0, H0⟩, ⟨%d1, H1⟩, ⟨%d2, H2⟩, ⟨%d3, H3⟩, ⟨%d4, H4⟩, ⟨%d5, H5⟩⟩
  iapply ((runFirst c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) g0 g1 g2 g3).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, ⟨%p4, H4⟩, ⟨%p5, H5⟩, HS0, HS1, HS2, HS3⟩
  isplitl [HS0 HS1 HS2 HS3 Hg]
  · unfold held
    isplitl [HS0 HS1 HS2 HS3]
    · isplitl [HS0]
      · unfold owns; iexists _; isplitr
        swap; · iexact HS0
        ipureintro; exact first_weight c _ _ _ _ _ _ _ _ _ _ _ _ _ _ _ _ _ _ _ _ _ _ _ _ _ _ _ _ _ _ _
      isplitl [HS1]; · iexact HS1
      isplitl [HS2]
      · unfold owns; iexists _; isplitr
        swap; · iexact HS2
        ipureintro; exact first_hist c _ _ _ _ _ _ _ _ _ _ _ _ _ _ _ _ _ _ _ _ _ _ _ _ _ _ _ _ _ _ _
      iexact HS3
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact first_out c _ _ _ _ _ _ _ _ _ _ _ _ _ _ _ _ _ _ _ _ _ _ _ _ _ _ _ _ _ _ _ _
  unfold owns; iexists _; isplitr
  swap; · iexact H5
  ipureintro; exact first_tail c _ _ _ _ _ _ _ _ _ _ _ _ _ _ _ _ _ _ _ _ _ _ _ _ _ _ _ _ _ _ _ _

set_option maxHeartbeats 1600000 in
/-- The body at a later batch's first point. -/
theorem body_start (c : Dev nD) (t : Fin cfg0.N) (hz : t.val ≠ 0) (h0 : ¬ t.val % 84 = 0) (h1 : t.val % 12 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  rw [PhiS_castSucc m c t, PhiS_pos m c t _ hz, held_open]
  rw [show outAt m c t = outV (iblk m c 0 t) (weightAt m c t) (iblk m c 3 t) (fun _ => (0 : EReal)) from congrArg (outV (iblk m c 0 t) (weightAt m c t) (iblk m c 3 t)) (if_pos h1 : carried m c t = (fun _ => (0 : EReal)))]
  iintro ⟨⟨⟨HS0, ⟨%e1, %g1, -, HS1⟩, ⟨%g2, -, HS2⟩, ⟨%e3, %g3, -, HS3⟩⟩, Hg⟩, Ho, ⟨%d0, H0⟩, ⟨%d1, H1⟩, ⟨%d2, H2⟩, ⟨%d3, H3⟩, ⟨%d4, H4⟩, ⟨%d5, H5⟩⟩
  iapply ((runStart c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (weightAt m c t) g1 g2 g3).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, ⟨%p4, H4⟩, ⟨%p5, H5⟩, HS0, HS1, HS2, HS3⟩
  isplitl [HS0 HS1 HS2 HS3 Hg]
  · unfold held
    isplitl [HS0 HS1 HS2 HS3]
    · isplitl [HS0]; · iexact HS0
      isplitl [HS1]; · iexact HS1
      isplitl [HS2]
      · unfold owns; iexists _; isplitr
        swap; · iexact HS2
        ipureintro; exact start_hist c _ _ _ _ _ _ _ _ _ _ _ _ _ _ _ _ _ _ _ _ _ _ _ _ _ _ _ _ _ _ _
      iexact HS3
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact start_out c _ _ _ _ _ _ _ _ _ _ _ _ _ _ _ _ _ _ _ _ _ _ _ _ _ _ _ _ _ _ _ _
  unfold owns; iexists _; isplitr
  swap; · iexact H5
  ipureintro; exact start_tail c _ _ _ _ _ _ _ _ _ _ _ _ _ _ _ _ _ _ _ _ _ _ _ _ _ _ _ _ _ _ _ _

set_option maxHeartbeats 1600000 in
/-- The body at any other point. -/
theorem body_rest (c : Dev nD) (t : Fin cfg0.N) (hz : t.val ≠ 0) (h0 : ¬ t.val % 84 = 0) (h1 : ¬ t.val % 12 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  rw [PhiS_castSucc m c t, PhiS_pos m c t _ hz, held_open_rest]
  rw [show outAt m c t = outV (iblk m c 0 t) (weightAt m c t) (iblk m c 3 t) (histAt m c (prev t)) from congrArg (outV (iblk m c 0 t) (weightAt m c t) (iblk m c 3 t)) (if_neg h1 : carried m c t = (histAt m c (prev t)))]
  iintro ⟨⟨⟨HS0, ⟨%e1, %g1, -, HS1⟩, HS2, ⟨%e3, %g3, -, HS3⟩⟩, Hg⟩, Ho, ⟨%d0, H0⟩, ⟨%d1, H1⟩, ⟨%d2, H2⟩, ⟨%d3, H3⟩, ⟨%d4, H4⟩, ⟨%d5, H5⟩⟩
  iapply ((runRest c (grid0.coords t) _ (hs0_0 t) _ (hs0_1 t) _ (hs0_2 t) _ (hs0_3 t) _ (hs0_4 t) _ (hs0_5 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (weightAt m c t) g1 (histAt m c (prev t)) g3).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, ⟨%p4, H4⟩, ⟨%p5, H5⟩, HS0, HS1, HS2, HS3⟩
  isplitl [HS0 HS1 HS2 HS3 Hg]
  · unfold held
    isplitl [HS0 HS1 HS2 HS3]
    · isplitl [HS0]; · iexact HS0
      isplitl [HS1]; · iexact HS1
      isplitl [HS2]
      · unfold owns; iexists _; isplitr
        swap; · iexact HS2
        ipureintro; exact rest_hist c _ _ _ _ _ _ _ _ _ _ _ _ _ _ _ _ _ _ _ _ _ _ _ _ _ _ _ _ _ _ _
      iexact HS3
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact rest_out c _ _ _ _ _ _ _ _ _ _ _ _ _ _ _ _ _ _ _ _ _ _ _ _ _ _ _ _ _ _ _ _
  unfold owns; iexists _; isplitr
  swap; · iexact H5
  ipureintro; exact rest_tail c _ _ _ _ _ _ _ _ _ _ _ _ _ _ _ _ _ _ _ _ _ _ _ _ _ _ _ _ _ _ _ _

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 84 := lt_of_lt_of_eq t.isLt (show cfg0.N = 84 from N_0)
  by_cases hz : t.val = 0
  · exact body_first m c t hz (by omega) (by omega)
  · by_cases h1 : t.val % 12 = 0
    · exact body_start m c t hz (by omega) h1
    · exact body_rest m c t hz (by omega) h1

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The same after the last point. -/
theorem hout (c : Dev nD) : (dats m 0 c).Φ (Fin.last cfg0.N) ⊢ Pipeline.ΦA spec0 c := by
  rw [show (dats m 0 c).Φ (Fin.last cfg0.N) = held c (weightAt m c ⟨83, by rw [show cfg0.N = 84 from N_0]; decide⟩) (histAt m c ⟨83, by rw [show cfg0.N = 84 from N_0]; decide⟩) from rfl, PhiA0_eq]
  unfold held
  iintro ⟨⟨HS0, HS1, HS2, HS3⟩, Hg⟩
  isplitl [HS0 HS1 HS2 HS3]
  · isplitl [HS0]; · iexists _; iexact HS0
    isplitl [HS1]; · iexact HS1
    isplitl [HS2]; · iexists _; iexact HS2
    iexact HS3
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_VIdeal`'s statement (Defs.lean). -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-- The run with the output arrays named and the arguments unchanged. -/
theorem run_blocks : θ_run defs (onTc (τ := τ) (main (F := Ideal))) ⟨m, fun _ => 0, ρ⟩ (fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c => ⟨h.1.1 c, h.1.2 c, h.2 c⟩)
    (θ_run_and (θ_run_and ((θ_run defs _ _).mono (fun r (h : Pipeline.FramePost cfgs (dats m) 0 (V m) r) c => (h c).1 4) (run_main m ρ))
      ((θ_run defs _ _).mono (fun r (h : Pipeline.FramePost cfgs (dats m) 0 (V m) r) c => (h c).1 5) (run_main m ρ))) (unchanged m ρ))

end Cert.VIdeal.FrameRun

end
end
-- ==== Proof.VReferenceValue.lean ====
/- What the v projection's reference leaves in its two arrays. -/
module

public import proofs.«01_k».proof.Proof.ConvSilu
public import proofs.«01_k».proof.Proof.OutReferencePure
public import proofs.«01_k».proof.Proof.Gen.VReferenceIdeal.Value
public import Idealize.ShloMosaic.Lib.Pipeline.ValueKit

@[expose] public section

set_option maxRecDepth 16384

noncomputable section

open Idealize.ShloMosaic Idealize.ShloMosaic.TcCoe Idealize.SL.Sem

namespace Cert.VReferenceIdeal.VReferenceValue

open Cert.VReferenceIdeal Cert.VReferenceIdeal.Gen Cert.ConvSilu

/-- The dequantised weight at an index. -/
theorem pay2_at (w : Vec Ideal S3840x2880 .fp8e4m3) (s : Vec Ideal S3840x90 .i8) (n : Fin 3840) (k : Fin 2880) :
    k0_pay2 (F := Ideal) w s (ix2 n k) = (show EReal from w (ix2 n k)) * Scale.power (s (ix2 n ⟨k.val / 32, by omega⟩)) := by
  pointwise [k0_pay2]
  rw [← Scale.select_exp2]
  exact OutReferenceIdeal.Pure.select_mul _ _ _

/-- The projection of a batch at an index. -/
theorem lin_at (d : Vec Ideal S3840x2880 .bf16) (X : Vec Ideal S1x3072x2944 .bf16) (t : Fin 3072) (n : Fin 3840) :
    k0_pay10 (F := Ideal) d X (ix2 t n) = ∑ k : Fin 2880, (show EReal from X (ix3 0 t ⟨k.val, by omega⟩)) * (show EReal from d (ix2 n k)) := by
  pointwise [k0_pay10]

/-- The projection with three zero rows before it. -/
theorem pad_at (d : Vec Ideal S3840x2880 .bf16) (X : Vec Ideal S1x3072x2944 .bf16) (r : Fin 3075) (n : Fin 3840) :
    k0_pay11 (F := Ideal) d X (ix2 r n) = padded (fun t : Fin 3072 => (show EReal from k0_pay10 (F := Ideal) d X (ix2 t n))) r.val := by
  by_cases h : r.val < 3
  · rw [padded_lt _ _ h]
    pointwise [k0_pay11]
    exact dif_pos h
  · have hr := r.isLt
    rw [padded_ge _ _ ⟨r.val - 3, by omega⟩ (by show r.val = r.val - 3 + 3; omega)]
    pointwise [k0_pay11]
    exact dif_neg h

/-- The convolution of a batch at an index. -/
theorem conv_at (c : Vec Ideal S3840x4 .f32) (d : Vec Ideal S3840x2880 .bf16) (X : Vec Ideal S1x3072x2944 .bf16) (a : Fin 1) (n : Fin 3840) (t : Fin 3072) :
    k0_pay13 (F := Ideal) c (k0_pay11 d X) (k0_pay12 d c X) (ix3 a n t)
      = conv (padded (fun t : Fin 3072 => (show EReal from k0_pay10 (F := Ideal) d X (ix2 t n)))) (fun w => (show EReal from c (ix2 n w))) t.val := by
  pointwise [k0_pay13, k0_pay12]
  rw [pad_at, pad_at, pad_at, pad_at]
  unfold conv silu
  simp only [Nat.add_comm]

/-- The tail of a batch at an index. -/
theorem tail_at (d : Vec Ideal S3840x2880 .bf16) (X : Vec Ideal S1x3072x2944 .bf16) (a : Fin 1) (r : Fin 8) (n : Fin 3840) :
    k0_pay14 (F := Ideal) (k0_pay10 d X) (ix3 a r n) = k0_pay10 (F := Ideal) d X (ix2 ⟨3064 + r.val, by omega⟩ n) := by
  pointwise [k0_pay14]

/-- The projection at an index, from the arguments. -/
def lin (x : Vec Ideal S7x3072x2944 .bf16) (w : Vec Ideal S3840x2880 .fp8e4m3) (s : Vec Ideal S3840x90 .i8) (b : Fin 7) (n : Fin 3840) (t : Fin 3072) : EReal :=
  ∑ k : Fin 2880, (show EReal from x (ix3 b t ⟨k.val, by omega⟩)) * ((show EReal from w (ix2 n k)) * Scale.power (s (ix2 n ⟨k.val / 32, by omega⟩)))

/-- The batch's projection, its activations loaded from the array. -/
theorem lin_ld (x : Vec Ideal S7x3072x2944 .bf16) (w : Vec Ideal S3840x2880 .fp8e4m3) (s : Vec Ideal S3840x90 .i8) (o : ℕ)
    (inb : ∀ a, (![o, 0, 0] : Fin 3 → ℕ) a + S1x3072x2944.size a ≤ S7x3072x2944.size a) (b : Fin 7) (hb : b.val = o) (n : Fin 3840) (t : Fin 3072) :
    k0_pay10 (F := Ideal) (k0_pay2 w s) (View.ld x (Rect.unit (s := S7x3072x2944) ![o, 0, 0] S1x3072x2944.size inb)) (ix2 t n) = lin x w s b n t := by
  rw [lin_at]
  unfold lin
  refine Finset.sum_congr rfl fun k _ => ?_
  rw [pay2_at]
  congr 1
  show x _ = x _
  congr 1
  funext a
  refine Fin.ext ?_
  match a with
  | ⟨0, _⟩ => show o + 1 * 0 = b.val; omega
  | ⟨1, _⟩ => show 0 + 1 * t.val = t.val; omega
  | ⟨2, _⟩ => show 0 + 1 * k.val = k.val; omega

/-- A load of the whole weight is the weight. -/
theorem ld_w (w : Vec Ideal S3840x2880 .fp8e4m3) : View.ld w r0_0 = w := View.ld_unit_zero Value.hz1 _ w

/-- A load of all scales is the scales. -/
theorem ld_s (s : Vec Ideal S3840x90 .i8) : View.ld s r0_1 = s := View.ld_unit_zero Value.hz2 _ s

/-- The weight loaded whole and dequantised. -/
theorem weight_ld (w : Vec Ideal S3840x2880 .fp8e4m3) (s : Vec Ideal S3840x90 .i8) : k0_pay2 (F := Ideal) (View.ld w r0_0) (View.ld s r0_1) = k0_pay2 w s := by
  rw [ld_w, ld_s]

/-- A batch's block of the first array. -/
theorem batch_out (x : Vec Ideal S7x3072x2944 .bf16) (w : Vec Ideal S3840x2880 .fp8e4m3) (s : Vec Ideal S3840x90 .i8) (c : Vec Ideal S3840x4 .f32)
    (d : Vec Ideal S3840x2880 .bf16) (hd : d = k0_pay2 (F := Ideal) w s) (o : ℕ)
    (inb : ∀ a, (![o, 0, 0] : Fin 3 → ℕ) a + S1x3072x2944.size a ≤ S7x3072x2944.size a) (b : Fin 7) (a : Fin 1) (n n' : Fin 3840) (t t' : Fin 3072)
    (hb : b.val = o + a.val) (hn : n'.val = n.val) (ht : t'.val = t.val) :
    k0_pay13 (F := Ideal) c (k0_pay11 d (View.ld x (Rect.unit (s := S7x3072x2944) ![o, 0, 0] S1x3072x2944.size inb)))
      (k0_pay12 d c (View.ld x (Rect.unit (s := S7x3072x2944) ![o, 0, 0] S1x3072x2944.size inb))) (ix3 a n t)
      = conv (padded (lin x w s b n')) (fun i => (show EReal from c (ix2 n' i))) t'.val := by
  obtain rfl : n' = n := Fin.ext hn
  obtain rfl : t' = t := Fin.ext ht
  subst hd
  rw [conv_at]
  have ha := a.isLt
  congr 2
  funext t
  exact lin_ld x w s o inb b (by omega) n' t

/-- A batch's block of the second array. -/
theorem batch_tail (x : Vec Ideal S7x3072x2944 .bf16) (w : Vec Ideal S3840x2880 .fp8e4m3) (s : Vec Ideal S3840x90 .i8)
    (d : Vec Ideal S3840x2880 .bf16) (hd : d = k0_pay2 (F := Ideal) w s) (o : ℕ)
    (inb : ∀ a, (![o, 0, 0] : Fin 3 → ℕ) a + S1x3072x2944.size a ≤ S7x3072x2944.size a) (b : Fin 7) (a : Fin 1) (r r' : Fin 8) (n n' : Fin 3840)
    (hb : b.val = o + a.val) (hr : r'.val = r.val) (hn : n'.val = n.val) :
    k0_pay14 (F := Ideal) (k0_pay10 d (View.ld x (Rect.unit (s := S7x3072x2944) ![o, 0, 0] S1x3072x2944.size inb))) (ix3 a r n)
      = lin x w s b n' ⟨3064 + r'.val, by omega⟩ := by
  obtain rfl : n' = n := Fin.ext hn
  obtain rfl : r' = r := Fin.ext hr
  subst hd
  have ha := a.isLt
  rw [tail_at]
  exact lin_ld x w s o inb b (by omega) n' _

/-- The first array at an index: one batch stored after the other. -/
theorem G4_at (x : Vec Ideal S7x3072x2944 .bf16) (w : Vec Ideal S3840x2880 .fp8e4m3) (s : Vec Ideal S3840x90 .i8) (c : Vec Ideal S3840x4 .f32)
    (b : Fin 7) (n : Fin 3840) (t : Fin 3072) :
    Value.G4 (F := Ideal) x w s c (ix3 b n t) = conv (padded (lin x w s b n)) (fun i => (show EReal from c (ix2 n i))) t.val := by
  unfold Value.G4
  canon_tiles z h
  · rw [eq_ix3 z]; exact batch_out x w s c _ (weight_ld w s) 6 inb_S7x3072x2944_S1x3072x2944_6_0_0 b _ _ _ _ _ (h0) h1 h2
  · rw [eq_ix3 z]; exact batch_out x w s c _ (weight_ld w s) 5 inb_S7x3072x2944_S1x3072x2944_5_0_0 b _ _ _ _ _ (h0) h1 h2
  · rw [eq_ix3 z]; exact batch_out x w s c _ (weight_ld w s) 4 inb_S7x3072x2944_S1x3072x2944_4_0_0 b _ _ _ _ _ (h0) h1 h2
  · rw [eq_ix3 z]; exact batch_out x w s c _ (weight_ld w s) 3 inb_S7x3072x2944_S1x3072x2944_3_0_0 b _ _ _ _ _ (h0) h1 h2
  · rw [eq_ix3 z]; exact batch_out x w s c _ (weight_ld w s) 2 inb_S7x3072x2944_S1x3072x2944_2_0_0 b _ _ _ _ _ (h0) h1 h2
  · rw [eq_ix3 z]; exact batch_out x w s c _ (weight_ld w s) 1 inb_S7x3072x2944_S1x3072x2944_1_0_0 b _ _ _ _ _ (h0) h1 h2
  · rw [eq_ix3 z]; exact batch_out x w s c _ rfl 0 inb_S7x3072x2944_S1x3072x2944_0_0_0 b _ _ _ _ _ (h0.trans (Nat.zero_add _).symm) h1 h2

/-- The second array at an index. -/
theorem G5_at (x : Vec Ideal S7x3072x2944 .bf16) (w : Vec Ideal S3840x2880 .fp8e4m3) (s : Vec Ideal S3840x90 .i8) (c : Vec Ideal S3840x4 .f32)
    (b : Fin 7) (r : Fin 8) (n : Fin 3840) :
    Value.G5 (F := Ideal) x w s c (ix3 b r n) = lin x w s b n ⟨3064 + r.val, by omega⟩ := by
  unfold Value.G5
  canon_tiles z h
  · rw [eq_ix3 z]; exact batch_tail x w s _ (weight_ld w s) 6 inb_S7x3072x2944_S1x3072x2944_6_0_0 b _ _ _ _ _ (h0) h1 h2
  · rw [eq_ix3 z]; exact batch_tail x w s _ (weight_ld w s) 5 inb_S7x3072x2944_S1x3072x2944_5_0_0 b _ _ _ _ _ (h0) h1 h2
  · rw [eq_ix3 z]; exact batch_tail x w s _ (weight_ld w s) 4 inb_S7x3072x2944_S1x3072x2944_4_0_0 b _ _ _ _ _ (h0) h1 h2
  · rw [eq_ix3 z]; exact batch_tail x w s _ (weight_ld w s) 3 inb_S7x3072x2944_S1x3072x2944_3_0_0 b _ _ _ _ _ (h0) h1 h2
  · rw [eq_ix3 z]; exact batch_tail x w s _ (weight_ld w s) 2 inb_S7x3072x2944_S1x3072x2944_2_0_0 b _ _ _ _ _ (h0) h1 h2
  · rw [eq_ix3 z]; exact batch_tail x w s _ (weight_ld w s) 1 inb_S7x3072x2944_S1x3072x2944_1_0_0 b _ _ _ _ _ (h0) h1 h2
  · rw [eq_ix3 z]; exact batch_tail x w s _ rfl 0 inb_S7x3072x2944_S1x3072x2944_0_0_0 b _ _ _ _ _ (h0.trans (Nat.zero_add _).symm) h1 h2

end Cert.VReferenceIdeal.VReferenceValue

end
end
-- ==== Proof.VIdealValue.lean ====
/- What the v projection leaves in its two arrays: the convolution of the whole sequence, although every point sees 256 tokens
   and the eight before them, and the last eight rows. -/
module

public import proofs.«01_k».proof.Proof.VIdealFrame
public import proofs.«01_k».proof.Proof.VReferenceValue

@[expose] public section

set_option maxRecDepth 16384

noncomputable section

open Idealize.ShloMosaic Idealize.ShloMosaic.TcCoe Idealize.SL.Sem
open Idealize.ShloMosaic.Pipeline (Dat)

namespace Cert.VIdeal.VValue

open Cert.VIdeal Cert.VIdeal.Gen Cert.VIdeal.FrameRun Cert.ProjWeight Cert.ProjConv Cert.ConvSilu
open Cert.VReferenceIdeal.VReferenceValue (lin)

variable (m : (ℓ : Loc nD τ sig) → Buf (Elt Ideal) ℓ)

/-- The first result. -/
def VOUT (x : Vec Ideal S7x3072x2944 .bf16) (w : Vec Ideal S3840x2880 .fp8e4m3) (s : Vec Ideal S3840x90 .i8) (c : Vec Ideal S3840x4 .f32) : Vec Ideal S7x3840x3072 .bf16 :=
  fun i => conv (padded (lin x w s (i 0) (i 1))) (fun k => (show EReal from c (ix2 (i 1) k))) (i 2).val

/-- The second result. -/
def VTAIL (x : Vec Ideal S7x3072x2944 .bf16) (w : Vec Ideal S3840x2880 .fp8e4m3) (s : Vec Ideal S3840x90 .i8) : Vec Ideal S7x8x3840 .bf16 :=
  fun i => lin x w s (i 0) (i 2) ⟨3064 + (i 1).val, by have h : (i 1).val < 8 := (i 1).isLt; omega⟩

/-- The projection of the arguments. -/
abbrev linA (c : Dev nD) : Fin 7 → Fin 3840 → Fin 3072 → EReal :=
  lin (m ((c : Thread nD τ).loc main_arg0)) (m ((c : Thread nD τ).loc main_arg1)) (m ((c : Thread nD τ).loc main_arg2))

/-- A point's product is the projection of its batch at its tokens. -/
theorem lin_block (c : Dev nD) (t : Fin cfg0.N) (n : Fin 3840) (r : Fin 256) (b : Fin 7) (T : Fin 3072) (hb : b.val = t.val / 12) (hT : T.val = 256 * (t.val % 12) + r.val) :
    ProjConv.lin (iblk m c 0 t) (weightAt m c t) n r = linA m c b n T := by
  refine (sum_rows (iblk m c 1 t) (iblk m c 2 t) (fun k => (show EReal from iblk m c 0 t (ix3 0 r k))) n).trans ?_
  refine Fin.sum_fin_congr fun k => ?_
  have e0 : iblk m c 0 t (ix3 0 r ⟨k.val, by omega⟩) = m ((c : Thread nD τ).loc main_arg0) (ix3 b T ⟨k.val, by omega⟩) := by
    blk_ext [iblk, V, idx t]
  have e1 : iblk m c 1 t (ix2 k n) = m ((c : Thread nD τ).loc main_arg1) (ix2 n k) := by
    blk_point [iblk, V, idx t]
  have e2 : iblk m c 2 t (ix2 ⟨k.val / 32, by omega⟩ n) = m ((c : Thread nD τ).loc main_arg2) (ix2 n ⟨k.val / 32, by omega⟩) := by
    blk_point [iblk, V, idx t]
  dsimp only
  rw [e0, e1, e2]

/-- The rows a point convolves are rows of the whole sequence, three zero rows before it. -/
theorem rows_eq (c : Dev nD) (t : Fin cfg0.N) (n : Fin 3840) (b : Fin 7) (hb : b.val = t.val / 12) (r R : ℕ) (h5 : 5 ≤ r) (hr : r < 264) (hR : R + 5 = 256 * (t.val % 12) + r) :
    rows (iblk m c 0 t) (weightAt m c t) (carried m c t) n r = padded (linA m c b n) R := by
  have hn := n.isLt
  have hm : t.val % 12 < 12 := Nat.mod_lt _ (by decide)
  unfold rows
  by_cases h8 : r < 8
  · rw [col_lt _ _ r ⟨r, h8⟩ rfl]
    unfold carried
    by_cases h0 : t.val % 12 = 0
    · rw [if_pos h0, padded_lt _ _ (by omega)]
    · rw [if_neg h0, padded_ge _ _ ⟨R - 3, by omega⟩ (by show R = R - 3 + 3; omega)]
      have hp : (prev t).val = t.val - 1 := rfl
      rw [← lin_block m c (prev t) n ⟨248 + r, by omega⟩ b ⟨R - 3, by omega⟩ (by rw [hp]; omega) (by rw [hp]; show R - 3 = 256 * ((t.val - 1) % 12) + (248 + r); omega)]
      unfold histAt histV
      exact congrArg (fun k => ProjConv.lin (iblk m c 0 (prev t)) (weightAt m c (prev t)) k ⟨248 + r, by omega⟩)
        (Fin.ext (by show 128 * (n.val / 128) + n.val % 128 = n.val; omega))
  · rw [col_ge _ _ r ⟨r - 8, by omega⟩ (by show r = 8 + (r - 8); omega), padded_ge _ _ ⟨R - 3, by omega⟩ (by show R = R - 3 + 3; omega)]
    exact lin_block m c t n ⟨r - 8, by omega⟩ b ⟨R - 3, by omega⟩ hb (by show R - 3 = 256 * (t.val % 12) + (r - 8); omega)

/-- The block of the convolution at an index. -/
theorem outAt_at (c : Dev nD) (t : Fin cfg0.N) (a : Fin 1) (n : Fin 3840) (r : Fin 256) (b : Fin 7) (T : Fin 3072) (hb : b.val = t.val / 12) (hT : T.val = 256 * (t.val % 12) + r.val) :
    outAt m c t (ix3 a n r) = VOUT (m ((c : Thread nD τ).loc main_arg0)) (m ((c : Thread nD τ).loc main_arg1)) (m ((c : Thread nD τ).loc main_arg2)) (m ((c : Thread nD τ).loc main_arg3)) (ix3 b n T) := by
  have e3 : ∀ k : Fin 4, iblk m c 3 t (ix2 k n) = m ((c : Thread nD τ).loc main_arg3) (ix2 n k) := by
    intro k
    blk_point [iblk, V, idx t]
  have hr := r.isLt
  show conv (rows (iblk m c 0 t) (weightAt m c t) (carried m c t) n) (fun i => (show EReal from iblk m c 3 t (ix2 i n))) (5 + r.val)
    = conv (padded (linA m c b n)) (fun i => (show EReal from m ((c : Thread nD τ).loc main_arg3) (ix2 n i))) T.val
  simp only [e3]
  unfold conv
  rw [rows_eq m c t n b hb (5 + r.val) T.val (by omega) (by omega) (by omega),
    rows_eq m c t n b hb (5 + r.val + 1) (T.val + 1) (by omega) (by omega) (by omega),
    rows_eq m c t n b hb (5 + r.val + 2) (T.val + 2) (by omega) (by omega) (by omega),
    rows_eq m c t n b hb (5 + r.val + 3) (T.val + 3) (by omega) (by omega) (by omega)]

/-- The tail of a batch's last point at an index. -/
theorem tailAt_at (c : Dev nD) (t : Fin cfg0.N) (h : t.val % 12 = 11) (a : Fin 1) (r : Fin 8) (n : Fin 3840) (b : Fin 7) (hb : b.val = t.val / 12) :
    tailAt m c t (ix3 a r n) = VTAIL (m ((c : Thread nD τ).loc main_arg0)) (m ((c : Thread nD τ).loc main_arg1)) (m ((c : Thread nD τ).loc main_arg2)) (ix3 b r n) :=
  lin_block m c t n ⟨248 + r.val, by omega⟩ b ⟨3064 + r.val, by omega⟩ hb (by show 3064 + r.val = 256 * (t.val % 12) + (248 + r.val); omega)

/-- The points whose tail goes out are the batches' last. -/
theorem flush_last : ∀ t : Fin cfg0.N, (cfg0.win 5).flush t = true → t.val % 12 = 11 := by decide +kernel

/-- The first array is the convolution of the whole sequence. -/
theorem final_out (c : Dev nD) : (dats m 0 c).arrAt 4 cfg0.N
    = VOUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have ht : t.val < 84 := t.isLt
  blk_simp
  rw [after0_4]
  idx_vars y
  have e : (win0_4.blk t).view.emb (ix3 y0 y1 y2) = ix3 ⟨t.val / 12, by omega⟩ y1 ⟨256 * (t.val % 12) + y2.val, by omega⟩ := by
    blk_ext [idx t]
  rw [e]
  exact outAt_at m c t y0 y1 y2 _ _ rfl rfl

/-- The second array is its last eight rows. -/
theorem final_tail (c : Dev nD) : (dats m 0 c).arrAt 5 cfg0.N
    = VTAIL (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 84 := t.isLt
  blk_simp
  rw [after0_5]
  idx_vars y
  have e : (win0_5.blk t).view.emb (ix3 y0 y1 y2) = ix3 ⟨t.val / 12, by omega⟩ y1 y2 := by
    blk_ext [idx t]
  rw [e]
  exact tailAt_at m c t (flush_last t hf) y0 y1 y2 _ rfl

end Cert.VIdeal.VValue

end
end
-- ==== Proof.VClaim.lean ====
/- The v projection and its reference end with the same arrays. -/
module

public import proofs.«01_k».proof.Defs
public import proofs.«01_k».proof.Proof.VIdealValue
public import Idealize.ShloMosaic.Adequacy
public import Idealize.ShloMosaic.Init

@[expose] public section

set_option maxRecDepth 16384

noncomputable section

open Idealize.ShloMosaic Idealize.ShloMosaic.TcCoe Idealize.SL.Sem

namespace Cert.VClaim

/-- The reference's first array is the kernel's, -/
theorem reference_out (x : Vec Ideal ⟨3, ![7, 3072, 2944]⟩ .bf16) (w : Vec Ideal ⟨2, ![3840, 2880]⟩ .fp8e4m3) (s : Vec Ideal ⟨2, ![3840, 90]⟩ .i8) (k : Vec Ideal ⟨2, ![3840, 4]⟩ .f32) :
    VReferenceIdeal.Value.G4 (F := Ideal) x w s k = VIdeal.VValue.VOUT x w s k := by
  funext i
  idx_vars i
  exact VReferenceIdeal.VReferenceValue.G4_at x w s k _ _ _

/-- and so is the second. -/
theorem reference_tail (x : Vec Ideal ⟨3, ![7, 3072, 2944]⟩ .bf16) (w : Vec Ideal ⟨2, ![3840, 2880]⟩ .fp8e4m3) (s : Vec Ideal ⟨2, ![3840, 90]⟩ .i8) (k : Vec Ideal ⟨2, ![3840, 4]⟩ .f32) :
    VReferenceIdeal.Value.G5 (F := Ideal) x w s k = VIdeal.VValue.VTAIL x w s := by
  funext i
  idx_vars i
  exact VReferenceIdeal.VReferenceValue.G5_at x w s k _ _ _

/-- The algebraic claim. -/
theorem algebraic : algebraic_VIdeal_VReferenceIdeal (hVIdeal := VIdeal.Gen.facts) (hVReferenceIdeal := VReferenceIdeal.Gen.facts) := by
  intro m g m' g' _ hagree
  refine ⟨fun c => VIdeal.VValue.VOUT (m ((c.tc : Thread VIdeal.nD VIdeal.τ).loc VIdeal.main_arg0)) (m ((c.tc : Thread VIdeal.nD VIdeal.τ).loc VIdeal.main_arg1))
      (m ((c.tc : Thread VIdeal.nD VIdeal.τ).loc VIdeal.main_arg2)) (m ((c.tc : Thread VIdeal.nD VIdeal.τ).loc VIdeal.main_arg3)),
    fun c => VIdeal.VValue.VTAIL (m ((c.tc : Thread VIdeal.nD VIdeal.τ).loc VIdeal.main_arg0)) (m ((c.tc : Thread VIdeal.nD VIdeal.τ).loc VIdeal.main_arg1))
      (m ((c.tc : Thread VIdeal.nD VIdeal.τ).loc VIdeal.main_arg2)), ?_, ?_⟩
  · exact (θ_run _ _ _).mono (fun r h c => ⟨(h c).1.trans (VIdeal.VValue.final_out m c), (h c).2.1.trans (VIdeal.VValue.final_tail m c), (h c).2.2⟩) (VIdeal.FrameRun.run_blocks m g)
  · refine (θ_run _ _ _).mono (fun r h c => ⟨(h c).1.trans ?_, (h c).2.1.trans ?_, (h c).2.2⟩) (VReferenceIdeal.Value.run (F := Ideal) m' g')
    · rw [reference_out, (hagree c).1, (hagree c).2.1, (hagree c).2.2.1, (hagree c).2.2.2]
    · rw [reference_tail, (hagree c).1, (hagree c).2.1, (hagree c).2.2.1]

end Cert.VClaim

end
end
-- ==== Proof.QkBody.lean ====
/- What the runs of the q and k projection share: its conditions and its buffers, and the frame read off a run. -/
module
public import proofs.«01_k».proof.Proof.Gen.Qk.Frame
public import proofs.«01_k».proof.Proof.Gen.Qk.Loops
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Qk.Body
open Cert.Qk Cert.Qk.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- The frame claim's post from a frame run whose arrays are the region-entry contents. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-- The body's first condition, which holds at the first point only. -/
abbrev cond0_0 (i : grid0.Coords) : Prop := k0_cond1 i = 1#1
theorem hcond0_0 : ∀ t : Fin cfg0.N, cond0_0 (grid0.coords t) ↔ t.val % 84 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 84 = 0)

/-- The body's second condition, which holds at the first point of each batch. -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 12 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_1, e0, e1]
    word_cmp
   : ∀ t : Fin grid0.N, cond0_1 (grid0.coords t) ↔ t.val % 12 = 0)

/-- Each window's current staging memref at point `t`, spelled as the pipeline passes it (`bodyAt0`), and its wholeness. -/
abbrev ms0_0 (t : Fin cfg0.N) : Memref sig .tc .vmem S1x256x2944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x1920 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2880x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S90x1920 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S90x1920 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x3840 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3840x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x3840 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2944x3840 .bf16 := Memref.whole cc0_scratch0
abbrev scM0_1 : Memref sig .tc .vmem S96x1920 .f32 := Memref.whole cc0_scratch1
abbrev scM0_2 : Memref sig .tc .vmem S30x8x128 .f32 := Memref.whole cc0_scratch2
abbrev scM0_3 : Memref sig .tc .vmem S4x264x128 .f32 := Memref.whole cc0_scratch3

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl
end Cert.Qk.Body
end
end
-- ==== Proof.QkRunFirst.lean ====
/- The body of the q and k projection at the first point, which dequantises the weight and starts a batch. -/
module
public import proofs.«01_k».proof.Proof.QkBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Qk.Run
open Cert.Qk Cert.Qk.Gen Cert.Qk.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at the first point, which dequantises the weight and starts a batch: the inputs' buffers stay as they are, every other buffer is left at something. -/
theorem runFirst (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec F S1x256x2944 .bf16) (x1 : Vec F S2880x1920 .fp8e4m3) (x2 : Vec F S2880x1920 .fp8e4m3) (x3 : Vec F S90x1920 .i8) (x4 : Vec F S90x1920 .i8) (x5 : Vec F S4x3840 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_proj_qk i arg2 harg2 arg3 harg3 arg4 harg4 arg5 harg5 arg6 harg6 arg7 harg7 arg8 harg8 arg9 harg9 arg10 harg10 arg11 harg11 arg12 harg12 arg13 harg13) K := by
  intro E K
  simp only [cc0_proj_qk_eq_skeleton]; unfold cc0_proj_qk_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl
end Cert.Qk.Run
end
end
-- ==== Proof.QkRunStart.lean ====
/- The body of the q and k projection at the first point of a later batch, which clears the rows carried over. -/
module
public import proofs.«01_k».proof.Proof.QkBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Qk.Run
open Cert.Qk Cert.Qk.Gen Cert.Qk.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at the first point of a later batch, which clears the rows carried over: the inputs' buffers stay as they are, every other buffer is left at something. -/
theorem runStart (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : cond0_1 i)
    (x0 : Vec F S1x256x2944 .bf16) (x1 : Vec F S2880x1920 .fp8e4m3) (x2 : Vec F S2880x1920 .fp8e4m3) (x3 : Vec F S90x1920 .i8) (x4 : Vec F S90x1920 .i8) (x5 : Vec F S4x3840 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_proj_qk i arg2 harg2 arg3 harg3 arg4 harg4 arg5 harg5 arg6 harg6 arg7 harg7 arg8 harg8 arg9 harg9 arg10 harg10 arg11 harg11 arg12 harg12 arg13 harg13) K := by
  intro E K
  simp only [cc0_proj_qk_eq_skeleton]; unfold cc0_proj_qk_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl
end Cert.Qk.Run
end
end
-- ==== Proof.QkRunRest.lean ====
/- The body of the q and k projection at any other point. -/
module
public import proofs.«01_k».proof.Proof.QkBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Qk.Run
open Cert.Qk Cert.Qk.Gen Cert.Qk.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at any other point: the inputs' buffers stay as they are, every other buffer is left at something. -/
theorem runRest (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : ¬cond0_1 i)
    (x0 : Vec F S1x256x2944 .bf16) (x1 : Vec F S2880x1920 .fp8e4m3) (x2 : Vec F S2880x1920 .fp8e4m3) (x3 : Vec F S90x1920 .i8) (x4 : Vec F S90x1920 .i8) (x5 : Vec F S4x3840 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_proj_qk i arg2 harg2 arg3 harg3 arg4 harg4 arg5 harg5 arg6 harg6 arg7 harg7 arg8 harg8 arg9 harg9 arg10 harg10 arg11 harg11 arg12 harg12 arg13 harg13) K := by
  intro E K
  simp only [cc0_proj_qk_eq_skeleton]; unfold cc0_proj_qk_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl
end Cert.Qk.Run
end
end
-- ==== Proof.QkFrame.lean ====
/- The frame of the q and k projection: its run ends with every argument as it was. What it leaves in its outputs is not named here. -/
module
public import proofs.«01_k».proof.Proof.QkRunFirst
public import proofs.«01_k».proof.Proof.QkRunStart
public import proofs.«01_k».proof.Proof.QkRunRest
public import Idealize.ShloMosaic.Lib.Claim
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.Qk.FrameRun
open Cert.Qk Cert.Qk.Gen Cert.Qk.Body Cert.Qk.Run
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- Nothing reads what the kernel leaves in its outputs, so nothing of it is named. -/
def forgets0 : Fin 8 → Bool := fun w => w.val == 6 || w.val == 7

/-- The proof data: the arrays as the region finds them, each input's buffer at its block, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 1600000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 84 := lt_of_lt_of_eq t.isLt (show cfg0.N = 84 from N_0)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h0 : t.val % 84 = 0
  · have h1 : t.val % 12 = 0 := by omega
    iapply ((runFirst c (grid0.coords t) _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    isplitl [HS3]; · iexact HS3
    iintro ⟨H0, H1, H2, H3, H4, H5, H6, H7, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · by_cases h1 : t.val % 12 = 0
    · iapply ((runStart c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iapply ((runRest c (grid0.coords t) _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_run m ρ (fun c => (dats m 0 c).toRForget forgets0) (A_eq m) (run_main m ρ)

/-- THE FRAME: `Cert.quiescent_Qk`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))
end Cert.Qk.FrameRun
end
end
-- ==== Proof.QkIdealBody.lean ====
/- What the runs of the q and k projection share: its conditions and its buffers. -/
module
public import proofs.«01_k».proof.Proof.Gen.QkIdeal.Frame
public import proofs.«01_k».proof.Proof.Gen.QkIdeal.Loops
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.QkIdeal.Body
open Cert.QkIdeal Cert.QkIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
/-- The body's first condition, which holds at the first point only. -/
abbrev cond0_0 (i : grid0.Coords) : Prop := k0_cond1 i = 1#1
theorem hcond0_0 : ∀ t : Fin cfg0.N, cond0_0 (grid0.coords t) ↔ t.val % 84 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 84 = 0)

/-- The body's second condition, which holds at the first point of each batch. -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 12 = 0 :=
  (fun t => by
    have ht : t.val < 84 := Nat.lt_of_lt_of_eq t.isLt N_0
    have e0 : (grid0.coords t 0).val = t.val / 12 % 7 := Pipeline.Grid.coords_val t 0 (by decide) rfl
    have e1 : (grid0.coords t 1).val = t.val / 1 % 12 := Pipeline.Grid.coords_val t 1 (by decide) rfl
    simp only [cond0_1, e0, e1]
    word_cmp
   : ∀ t : Fin grid0.N, cond0_1 (grid0.coords t) ↔ t.val % 12 = 0)

/-- Each window's current staging memref at point `t`, spelled as the pipeline passes it (`bodyAt0`), and its wholeness. -/
abbrev ms0_0 (t : Fin cfg0.N) : Memref sig .tc .vmem S1x256x2944 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2880x1920 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2880x1920 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S90x1920 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S90x1920 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x3840 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x3840x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8x3840 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2944x3840 .bf16 := Memref.whole cc0_scratch0
abbrev scM0_1 : Memref sig .tc .vmem S96x1920 .f32 := Memref.whole cc0_scratch1
abbrev scM0_2 : Memref sig .tc .vmem S30x8x128 .f32 := Memref.whole cc0_scratch2
abbrev scM0_3 : Memref sig .tc .vmem S4x264x128 .f32 := Memref.whole cc0_scratch3

/-- The frame kit's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl
end Cert.QkIdeal.Body
end
end
-- ==== Proof.QkIdealBlock.lean ====
/- The stores of the q/k projection's body, 128 columns at a time: each is a block of the convolution, of the tail or of the
   rows carried over, whichever half of a product of 256 columns it is of. -/
module

public import proofs.«01_k».proof.Proof.ProjConv
public import proofs.«01_k».proof.Proof.QkIdealBody

@[expose] public section

set_option maxRecDepth 16384

noncomputable section

open Idealize.ShloMosaic Idealize.ShloMosaic.TcCoe Idealize.SL.Sem

namespace Cert.QkIdeal.Block

open Cert.QkIdeal Cert.QkIdeal.Gen Cert.ProjWeight Cert.ProjConv Cert.ConvSilu

/-- The first 128 columns of a product of 256, as they go into a strip. -/
theorem left_at (X : Vec Ideal S1x256x2944 .bf16) (w : Vec Ideal S2944x256 .bf16) (a : Fin 1) (t : Fin 256) (l : Fin 128) :
    k0_pay32 (F := Ideal) X w (ix3 a t l) = ∑ k : Fin 2944, (show EReal from X (ix3 0 t k)) * (show EReal from w (ix2 k ⟨l.val, Nat.lt_trans l.isLt (by decide)⟩)) := by
  pointwise [k0_pay32, k0_pay30, k0_pay29, k0_pay28]

/-- The last 128 columns. -/
theorem right_at (X : Vec Ideal S1x256x2944 .bf16) (w : Vec Ideal S2944x256 .bf16) (a : Fin 1) (t : Fin 256) (l : Fin 128) :
    k0_pay39 (F := Ideal) (k0_pay29 X w) (ix3 a t l) = ∑ k : Fin 2944, (show EReal from X (ix3 0 t k)) * (show EReal from w (ix2 k ⟨128 + l.val, Nat.add_lt_add_left l.isLt 128⟩)) := by
  pointwise [k0_pay39, k0_pay37, k0_pay29, k0_pay28]

/-- The carried rows, as they go into a strip and come back. -/
theorem carry_at (h : Vec Ideal S1x8x128 .f32) (a : Fin 1) (r : Fin 8) (l : Fin 128) : k0_pay31 (F := Ideal) h (ix3 a r l) = h (ix3 0 r l) := by
  pointwise [k0_pay31]
  rw [Subsingleton.elim a 0]

/-- The last rows of the first 128 columns. -/
theorem tailLeft_at (X : Vec Ideal S1x256x2944 .bf16) (w : Vec Ideal S2944x256 .bf16) (a : Fin 1) (r : Fin 8) (l : Fin 128) :
    k0_pay34 (F := Ideal) (k0_pay30 X w) (ix3 a r l) = k0_pay32 (F := Ideal) X w (ix3 0 ⟨248 + r.val, Nat.add_lt_add_left r.isLt 248⟩ l) := by
  pointwise [k0_pay34, k0_pay32]

/-- The last rows of the last 128 columns. -/
theorem tailRight_at (X : Vec Ideal S1x256x2944 .bf16) (w : Vec Ideal S2944x256 .bf16) (a : Fin 1) (r : Fin 8) (l : Fin 128) :
    k0_pay41 (F := Ideal) (k0_pay29 X w) (ix3 a r l) = k0_pay39 (F := Ideal) (k0_pay29 X w) (ix3 0 ⟨248 + r.val, Nat.add_lt_add_left r.isLt 248⟩ l) := by
  pointwise [k0_pay41, k0_pay39]

/-- The four taps and silu. -/
theorem taps_at (t0 : Vec Ideal S1x256x128 .f32) (c0 : Vec Ideal S1x128 .f32) (t1 : Vec Ideal S1x256x128 .f32) (c1 : Vec Ideal S1x128 .f32)
    (t2 : Vec Ideal S1x256x128 .f32) (c2 : Vec Ideal S1x128 .f32) (t3 : Vec Ideal S1x256x128 .f32) (c3 : Vec Ideal S1x128 .f32) (a : Fin 1) (n : Fin 128) (t : Fin 256) :
    k0_pay36 (F := Ideal) (k0_pay35 t0 c0 t1 c1 t2 c2 t3 c3) (ix3 a n t)
      = silu ((((show EReal from t0 (ix3 0 t n)) * (show EReal from c0 (ix2 0 n)) + (show EReal from t1 (ix3 0 t n)) * (show EReal from c1 (ix2 0 n)))
        + (show EReal from t2 (ix3 0 t n)) * (show EReal from c2 (ix2 0 n))) + (show EReal from t3 (ix3 0 t n)) * (show EReal from c3 (ix2 0 n))) := by
  pointwise [k0_pay36, k0_pay35]
  rfl

section Stores

variable (v2 : Memref sig .tc .vmem S1x256x2944 .bf16) (v5 : Memref sig .tc .vmem S4x3840 .f32) (v8 : Memref sig .tc .vmem S2944x3840 .bf16)
  (v11 : Memref sig .tc .vmem S4x264x128 .f32)
  (X2 : BufTy.Contents (Elt Ideal) v2.view.ty) (X5 : BufTy.Contents (Elt Ideal) v5.view.ty) (X8 : BufTy.Contents (Elt Ideal) v8.view.ty)
  (x : Vec Ideal S1x256x2944 .bf16) (c : Vec Ideal S4x3840 .f32) (W : Vec Ideal S2944x3840 .bf16) (H : Vec Ideal S30x8x128 .f32)
  (i2 : ∀ a, (![0, 0, 0] : Fin 3 → ℕ) a + S1x256x2944.size a ≤ S1x256x2944.size a)

/-- The activations' block as a point loads it, -/
abbrev ldX := View.readAt (Elt Ideal) v2.view (Rect.unit ![0, 0, 0] S1x256x2944.size i2).toLoadRect X2
/-- 256 columns of the weight, -/
abbrev ldW (o : ℕ) (i8 : ∀ a, (![0, o] : Fin 2 → ℕ) a + S2944x256.size a ≤ S2944x3840.size a) :=
  View.readAt (Elt Ideal) v8.view (Rect.unit (s := S2944x3840) ![0, o] S2944x256.size i8).toLoadRect X8
/-- and 128 columns of one row of taps. -/
abbrev ldC (i o : ℕ) (i5 : ∀ a, (![i, o] : Fin 2 → ℕ) a + S1x128.size a ≤ S4x3840.size a) :=
  View.readAt (Elt Ideal) v5.view (Rect.unit (s := S4x3840) ![i, o] S1x128.size i5).toLoadRect X5
/-- A strip after its two stores, read from row `r`. -/
abbrev ldT (q r m : ℕ) (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, r, 0] : Fin 3 → ℕ) a + (![1, m, 128] : Fin 3 → ℕ) a ≤ S4x264x128.size a) (P2 : Vec Ideal S1x256x128 .f32) (P1 : Vec Ideal S1x8x128 .f32)
    (L : List (View.Piece (Elt Ideal) S4x264x128 .f32)) :=
  v11.view.readCov (⟨Rect.unit (s := S4x264x128) ![q, 8, 0] S1x256x128.size j2, P2⟩ :: ⟨Rect.unit (s := S4x264x128) ![q, 0, 0] S1x8x128.size j1, P1⟩ :: L)
    (Rect.unit (s := S4x264x128) ![q, r, 0] ![1, m, 128] j0).toLoadRect

variable {X2 X5 X8 x c W} (h2 : v2.view.read (Elt Ideal) X2 = x) (h5 : v5.view.read (Elt Ideal) X5 = c) (h8 : v8.view.read (Elt Ideal) X8 = W)

include h2 in
theorem ldX_at (t : Fin 256) (k : Fin 2944) : ldX v2 X2 i2 (ix3 0 t k) = x (ix3 0 t k) :=
  (readAt_ix3 v2.view X2 i2 0 t k 0 t k rfl (Nat.zero_add _).symm (Nat.zero_add _).symm).trans (congrFun h2 _)
include h8 in
theorem ldW_at (o : ℕ) (i8 : ∀ a, (![0, o] : Fin 2 → ℕ) a + S2944x256.size a ≤ S2944x3840.size a) (k : Fin 2944) (l : Fin 256) (n : Fin 3840) (hn : n.val = o + l.val) :
    ldW v8 X8 o i8 (ix2 k l) = W (ix2 k n) :=
  (readAt_rows v8.view X8 i8 k l k n (Nat.zero_add _).symm hn).trans (congrFun h8 _)
include h5 in
theorem ldC_at (o : ℕ) (i : Fin 4) (i5 : ∀ a, (![i.val, o] : Fin 2 → ℕ) a + S1x128.size a ≤ S4x3840.size a) (l : Fin 128) (n : Fin 3840) (hn : n.val = o + l.val) :
    ldC v5 X5 i.val o i5 (ix2 0 l) = c (ix2 i n) :=
  (readAt_rows v5.view X5 i5 0 l i n rfl hn).trans (congrFun h5 _)

include h2 h8 in
/-- The first 128 columns of a product are the projection. -/
theorem left_lin (o : ℕ) (i8 : ∀ a, (![0, o] : Fin 2 → ℕ) a + S2944x256.size a ≤ S2944x3840.size a) (a : Fin 1) (t : Fin 256) (l : Fin 128) (n : Fin 3840) (hn : n.val = o + l.val) :
    k0_pay32 (F := Ideal) (ldX v2 X2 i2) (ldW v8 X8 o i8) (ix3 a t l) = lin x W n t := by
  rw [left_at]
  refine Finset.sum_congr rfl fun k _ => ?_
  rw [ldX_at v2 i2 h2 t k, ldW_at v8 h8 o i8 k ⟨l.val, by omega⟩ n hn]

include h2 h8 in
/-- The last 128 columns of a product are the projection. -/
theorem right_lin (o : ℕ) (i8 : ∀ a, (![0, o] : Fin 2 → ℕ) a + S2944x256.size a ≤ S2944x3840.size a) (a : Fin 1) (t : Fin 256) (l : Fin 128) (n : Fin 3840) (hn : n.val = o + (128 + l.val)) :
    k0_pay39 (F := Ideal) (k0_pay29 (ldX v2 X2 i2) (ldW v8 X8 o i8)) (ix3 a t l) = lin x W n t := by
  rw [right_at]
  refine Finset.sum_congr rfl fun k _ => ?_
  rw [ldX_at v2 i2 h2 t k, ldW_at v8 h8 o i8 k ⟨128 + l.val, by omega⟩ n hn]

/-- The rows a strip is read back as. -/
theorem strip_rows (q r m p : ℕ) (hp : p < 30) (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, r, 0] : Fin 3 → ℕ) a + (![1, m, 128] : Fin 3 → ℕ) a ≤ S4x264x128.size a) (P2 : Vec Ideal S1x256x128 .f32) (h : Vec Ideal S1x8x128 .f32)
    (L : List (View.Piece (Elt Ideal) S4x264x128 .f32)) (t : Fin m) (l : Fin 128) (n : Fin 3840) (hn : n.val = 128 * p + l.val)
    (hP2 : ∀ t, P2 (ix3 0 t l) = lin x W n t) (hH : ∀ r, h (ix3 0 r l) = H (ix3 ⟨p, hp⟩ r l)) :
    ldT v11 q r m j2 j1 j0 P2 (k0_pay31 (F := Ideal) h) L (ix3 0 t l) = rows x W H n (r + t.val) := by
  have hl := l.isLt
  refine (strip_at v11.view q r m j2 j1 j0 P2 (k0_pay31 (F := Ideal) h) L 0 t l).trans ?_
  unfold rows
  have e1 : (⟨n.val / 128, by omega⟩ : Fin 30) = ⟨p, hp⟩ := Fin.ext (by show n.val / 128 = p; omega)
  have e2 : (⟨n.val % 128, by omega⟩ : Fin 128) = l := Fin.ext (by show n.val % 128 = l.val; omega)
  rw [e1, e2]
  congr 1
  · funext r
    exact (carry_at h 0 r l).trans (hH r)
  · funext t
    exact hP2 t

include h5 in
/-- A store of 128 convolved columns is a block of the convolution, the strip holding the projection after the carried rows. -/
theorem out_store (q p o : ℕ) (ho : o = 128 * p) (hp : p < 30) (j2 : ∀ a, (![q, 8, 0] : Fin 3 → ℕ) a + S1x256x128.size a ≤ S4x264x128.size a) (j1 : ∀ a, (![q, 0, 0] : Fin 3 → ℕ) a + S1x8x128.size a ≤ S4x264x128.size a)
    (k0 : ∀ a, (![q, 5, 0] : Fin 3 → ℕ) a + (![1, 256, 128] : Fin 3 → ℕ) a ≤ S4x264x128.size a) (k1 : ∀ a, (![q, 6, 0] : Fin 3 → ℕ) a + (![1, 256, 128] : Fin 3 → ℕ) a ≤ S4x264x128.size a)
    (k2 : ∀ a, (![q, 7, 0] : Fin 3 → ℕ) a + (![1, 256, 128] : Fin 3 → ℕ) a ≤ S4x264x128.size a) (k3 : ∀ a, (![q, 8, 0] : Fin 3 → ℕ) a + (![1, 256, 128] : Fin 3 → ℕ) a ≤ S4x264x128.size a)
    (c0 : ∀ a, (![0, o] : Fin 2 → ℕ) a + S1x128.size a ≤ S4x3840.size a) (c1 : ∀ a, (![1, o] : Fin 2 → ℕ) a + S1x128.size a ≤ S4x3840.size a)
    (c2 : ∀ a, (![2, o] : Fin 2 → ℕ) a + S1x128.size a ≤ S4x3840.size a) (c3 : ∀ a, (![3, o] : Fin 2 → ℕ) a + S1x128.size a ≤ S4x3840.size a)
    (P2 : Vec Ideal S1x256x128 .f32) (h : Vec Ideal S1x8x128 .f32) (L : List (View.Piece (Elt Ideal) S4x264x128 .f32))
    (hP2 : ∀ (n : Fin 3840) (l : Fin 128) (t : Fin 256), n.val = o + l.val → P2 (ix3 0 t l) = lin x W n t) (hH : ∀ r l, h (ix3 0 r l) = H (ix3 ⟨p, hp⟩ r l))
    (i6 : ∀ a, (![0, o, 0] : Fin 3 → ℕ) a + S1x128x256.size a ≤ S1x3840x256.size a) (z : S1x128x256.Idx) :
    k0_pay36 (F := Ideal) (k0_pay35 (ldT v11 q 5 256 j2 j1 k0 P2 (k0_pay31 h) L) (ldC v5 X5 0 o c0) (ldT v11 q 6 256 j2 j1 k1 P2 (k0_pay31 h) L) (ldC v5 X5 1 o c1)
      (ldT v11 q 7 256 j2 j1 k2 P2 (k0_pay31 h) L) (ldC v5 X5 2 o c2) (ldT v11 q 8 256 j2 j1 k3 P2 (k0_pay31 h) L) (ldC v5 X5 3 o c3)) z
      = outV x W c H ((Rect.unit (s := S1x3840x256) ![0, o, 0] S1x128x256.size i6).emb z) := by
  obtain ⟨a, l, t, rfl⟩ : ∃ (a : Fin 1) (l : Fin 128) (t : Fin 256), z = ix3 a l t := ⟨z 0, z 1, z 2, eq_ix3 z⟩
  have hl := l.isLt
  have hn : 128 * p + l.val < 3840 := by omega
  subst ho
  rw [emb_ix3 i6 a l t 0 ⟨128 * p + l.val, hn⟩ t (by show 0 = 0 + a.val; omega) rfl (Nat.zero_add _).symm, taps_at,
    strip_rows v11 H q 5 256 p hp j2 j1 k0 P2 h L t l ⟨128 * p + l.val, hn⟩ rfl (fun t => hP2 _ l t rfl) (fun r => hH r l),
    strip_rows v11 H q 6 256 p hp j2 j1 k1 P2 h L t l ⟨128 * p + l.val, hn⟩ rfl (fun t => hP2 _ l t rfl) (fun r => hH r l),
    strip_rows v11 H q 7 256 p hp j2 j1 k2 P2 h L t l ⟨128 * p + l.val, hn⟩ rfl (fun t => hP2 _ l t rfl) (fun r => hH r l),
    strip_rows v11 H q 8 256 p hp j2 j1 k3 P2 h L t l ⟨128 * p + l.val, hn⟩ rfl (fun t => hP2 _ l t rfl) (fun r => hH r l),
    show ldC v5 X5 0 (128 * p) c0 (ix2 0 l) = _ from ldC_at v5 h5 (128 * p) 0 c0 l ⟨128 * p + l.val, hn⟩ rfl,
    show ldC v5 X5 1 (128 * p) c1 (ix2 0 l) = _ from ldC_at v5 h5 (128 * p) 1 c1 l ⟨128 * p + l.val, hn⟩ rfl,
    show ldC v5 X5 2 (128 * p) c2 (ix2 0 l) = _ from ldC_at v5 h5 (128 * p) 2 c2 l ⟨128 * p + l.val, hn⟩ rfl,
    show ldC v5 X5 3 (128 * p) c3 (ix2 0 l) = _ from ldC_at v5 h5 (128 * p) 3 c3 l ⟨128 * p + l.val, hn⟩ rfl]
  show _ = conv (rows x W H ⟨128 * p + l.val, hn⟩) (fun i => (show EReal from c (ix2 i ⟨128 * p + l.val, hn⟩))) (5 + t.val)
  unfold conv
  rw [show 5 + t.val + 1 = 6 + t.val by omega, show 5 + t.val + 2 = 7 + t.val by omega, show 5 + t.val + 3 = 8 + t.val by omega]

/-- The rows carried over are the last rows of the projection. -/
theorem hist_store (q p o : ℕ) (ho : o = 128 * p) (hp : p < 30) (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, 256, 0] : Fin 3 → ℕ) a + (![1, 8, 128] : Fin 3 → ℕ) a ≤ S4x264x128.size a)
    (P2 : Vec Ideal S1x256x128 .f32) (P1 : Vec Ideal S1x8x128 .f32) (L : List (View.Piece (Elt Ideal) S4x264x128 .f32))
    (hP2 : ∀ (n : Fin 3840) (l : Fin 128) (t : Fin 256), n.val = o + l.val → P2 (ix3 0 t l) = lin x W n t)
    (i : ∀ a, (![p, 0, 0] : Fin 3 → ℕ) a + S1x8x128.size a ≤ S30x8x128.size a) (z : S1x8x128.Idx) :
    k0_pay33 (F := Ideal) (ldT v11 q 256 8 j2 j1 j0 P2 P1 L) z = histV x W ((Rect.unit (s := S30x8x128) ![p, 0, 0] S1x8x128.size i).emb z) := by
  obtain ⟨a, r, l, rfl⟩ : ∃ (a : Fin 1) (r : Fin 8) (l : Fin 128), z = ix3 a r l := ⟨z 0, z 1, z 2, eq_ix3 z⟩
  have hl := l.isLt
  have hr := r.isLt
  have hn : 128 * p + l.val < 3840 := by omega
  subst ho
  rw [emb_ix3 i a r l ⟨p, hp⟩ r l (by show p = p + a.val; omega) (Nat.zero_add _).symm (Nat.zero_add _).symm]
  refine ((carry_at _ a r l).trans (strip_at v11.view q 256 8 j2 j1 j0 P2 P1 L 0 r l)).trans ?_
  rw [col_ge _ _ _ ⟨248 + r.val, by omega⟩ (by show 256 + r.val = 8 + (248 + r.val); omega)]
  exact hP2 ⟨128 * p + l.val, hn⟩ l _ rfl

/-- A store of the last rows of 128 columns is a block of the tail. -/
theorem tail_store (p o : ℕ) (ho : o = 128 * p) (hp : p < 30) (P : Vec Ideal S1x8x128 .bf16) (P2 : Vec Ideal S1x256x128 .f32)
    (hP : ∀ (a : Fin 1) (r : Fin 8) (l : Fin 128), P (ix3 a r l) = P2 (ix3 0 ⟨248 + r.val, Nat.add_lt_add_left r.isLt 248⟩ l))
    (hP2 : ∀ (n : Fin 3840) (l : Fin 128) (t : Fin 256), n.val = o + l.val → P2 (ix3 0 t l) = lin x W n t)
    (i : ∀ a, (![0, 0, o] : Fin 3 → ℕ) a + S1x8x128.size a ≤ S1x8x3840.size a) (z : S1x8x128.Idx) :
    P z = tailV x W ((Rect.unit (s := S1x8x3840) ![0, 0, o] S1x8x128.size i).emb z) := by
  obtain ⟨a, r, l, rfl⟩ : ∃ (a : Fin 1) (r : Fin 8) (l : Fin 128), z = ix3 a r l := ⟨z 0, z 1, z 2, eq_ix3 z⟩
  have hl := l.isLt
  have hn : 128 * p + l.val < 3840 := by omega
  subst ho
  rw [emb_ix3 i a r l 0 r ⟨128 * p + l.val, hn⟩ (by show 0 = 0 + a.val; omega) (Nat.zero_add _).symm rfl, hP]
  exact hP2 ⟨128 * p + l.val, hn⟩ l _ rfl

include h2 h5 h8 in
/-- The store of the convolution of the first 128 columns of a product. -/
theorem outLeft (q o : ℕ) (ho : o = 128 * (o / 128)) (hp : o / 128 < 30) (i8 : ∀ a, (![0, o] : Fin 2 → ℕ) a + S2944x256.size a ≤ S2944x3840.size a)
    (j2 : ∀ a, (![q, 8, 0] : Fin 3 → ℕ) a + S1x256x128.size a ≤ S4x264x128.size a) (j1 : ∀ a, (![q, 0, 0] : Fin 3 → ℕ) a + S1x8x128.size a ≤ S4x264x128.size a)
    (k0 : ∀ a, (![q, 5, 0] : Fin 3 → ℕ) a + (![1, 256, 128] : Fin 3 → ℕ) a ≤ S4x264x128.size a) (k1 : ∀ a, (![q, 6, 0] : Fin 3 → ℕ) a + (![1, 256, 128] : Fin 3 → ℕ) a ≤ S4x264x128.size a)
    (k2 : ∀ a, (![q, 7, 0] : Fin 3 → ℕ) a + (![1, 256, 128] : Fin 3 → ℕ) a ≤ S4x264x128.size a) (k3 : ∀ a, (![q, 8, 0] : Fin 3 → ℕ) a + (![1, 256, 128] : Fin 3 → ℕ) a ≤ S4x264x128.size a)
    (c0 : ∀ a, (![0, o] : Fin 2 → ℕ) a + S1x128.size a ≤ S4x3840.size a) (c1 : ∀ a, (![1, o] : Fin 2 → ℕ) a + S1x128.size a ≤ S4x3840.size a)
    (c2 : ∀ a, (![2, o] : Fin 2 → ℕ) a + S1x128.size a ≤ S4x3840.size a) (c3 : ∀ a, (![3, o] : Fin 2 → ℕ) a + S1x128.size a ≤ S4x3840.size a)
    (h : Vec Ideal S1x8x128 .f32) (L : List (View.Piece (Elt Ideal) S4x264x128 .f32)) (hH : ∀ r l, h (ix3 0 r l) = H (ix3 ⟨o / 128, hp⟩ r l))
    (i6 : ∀ a, (![0, o, 0] : Fin 3 → ℕ) a + S1x128x256.size a ≤ S1x3840x256.size a) (z : S1x128x256.Idx) :
    k0_pay36 (F := Ideal) (k0_pay35 (ldT v11 q 5 256 j2 j1 k0 (k0_pay32 (ldX v2 X2 i2) (ldW v8 X8 o i8)) (k0_pay31 h) L) (ldC v5 X5 0 o c0) (ldT v11 q 6 256 j2 j1 k1 (k0_pay32 (ldX v2 X2 i2) (ldW v8 X8 o i8)) (k0_pay31 h) L) (ldC v5 X5 1 o c1)
      (ldT v11 q 7 256 j2 j1 k2 (k0_pay32 (ldX v2 X2 i2) (ldW v8 X8 o i8)) (k0_pay31 h) L) (ldC v5 X5 2 o c2) (ldT v11 q 8 256 j2 j1 k3 (k0_pay32 (ldX v2 X2 i2) (ldW v8 X8 o i8)) (k0_pay31 h) L) (ldC v5 X5 3 o c3)) z
      = outV x W c H ((Rect.unit (s := S1x3840x256) ![0, o, 0] S1x128x256.size i6).emb z) :=
  out_store v5 v11 H h5 q (o / 128) o ho hp j2 j1 k0 k1 k2 k3 c0 c1 c2 c3 _ h L (fun n l t hn => left_lin v2 v8 i2 h2 h8 o i8 0 t l n hn) hH i6 z

include h2 h8 in
/-- The store of the rows carried over, of the first 128 columns of a product. -/
theorem histLeft (q p o : ℕ) (ho : o = 128 * p) (hp : p < 30) (i8 : ∀ a, (![0, o] : Fin 2 → ℕ) a + S2944x256.size a ≤ S2944x3840.size a)
    (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, 256, 0] : Fin 3 → ℕ) a + (![1, 8, 128] : Fin 3 → ℕ) a ≤ S4x264x128.size a)
    (P1 : Vec Ideal S1x8x128 .f32) (L : List (View.Piece (Elt Ideal) S4x264x128 .f32))
    (i : ∀ a, (![p, 0, 0] : Fin 3 → ℕ) a + S1x8x128.size a ≤ S30x8x128.size a) (z : S1x8x128.Idx) :
    k0_pay33 (F := Ideal) (ldT v11 q 256 8 j2 j1 j0 (k0_pay32 (ldX v2 X2 i2) (ldW v8 X8 o i8)) P1 L) z = histV x W ((Rect.unit (s := S30x8x128) ![p, 0, 0] S1x8x128.size i).emb z) :=
  hist_store v11 q p o ho hp j2 j1 j0 _ P1 L (fun n l t hn => left_lin v2 v8 i2 h2 h8 o i8 0 t l n hn) i z

include h2 h8 in
/-- The store of the tail of the first 128 columns of a product. -/
theorem tailLeft (o : ℕ) (ho : o = 128 * (o / 128)) (hp : o / 128 < 30) (i8 : ∀ a, (![0, o] : Fin 2 → ℕ) a + S2944x256.size a ≤ S2944x3840.size a)
    (i : ∀ a, (![0, 0, o] : Fin 3 → ℕ) a + S1x8x128.size a ≤ S1x8x3840.size a) (z : S1x8x128.Idx) :
    k0_pay34 (F := Ideal) (k0_pay30 (ldX v2 X2 i2) (ldW v8 X8 o i8)) z = tailV x W ((Rect.unit (s := S1x8x3840) ![0, 0, o] S1x8x128.size i).emb z) :=
  tail_store (o / 128) o ho hp _ _ (fun a r l => tailLeft_at _ _ a r l) (fun n l t hn => left_lin v2 v8 i2 h2 h8 o i8 0 t l n hn) i z

include h2 h5 h8 in
/-- The store of the convolution of the last 128 columns of a product. -/
theorem outRight (q o : ℕ) (ho : o = 128 * (o / 128)) (hp : o / 128 < 30) (g : ℕ) (hg : o = g + 128) (i8 : ∀ a, (![0, g] : Fin 2 → ℕ) a + S2944x256.size a ≤ S2944x3840.size a)
    (j2 : ∀ a, (![q, 8, 0] : Fin 3 → ℕ) a + S1x256x128.size a ≤ S4x264x128.size a) (j1 : ∀ a, (![q, 0, 0] : Fin 3 → ℕ) a + S1x8x128.size a ≤ S4x264x128.size a)
    (k0 : ∀ a, (![q, 5, 0] : Fin 3 → ℕ) a + (![1, 256, 128] : Fin 3 → ℕ) a ≤ S4x264x128.size a) (k1 : ∀ a, (![q, 6, 0] : Fin 3 → ℕ) a + (![1, 256, 128] : Fin 3 → ℕ) a ≤ S4x264x128.size a)
    (k2 : ∀ a, (![q, 7, 0] : Fin 3 → ℕ) a + (![1, 256, 128] : Fin 3 → ℕ) a ≤ S4x264x128.size a) (k3 : ∀ a, (![q, 8, 0] : Fin 3 → ℕ) a + (![1, 256, 128] : Fin 3 → ℕ) a ≤ S4x264x128.size a)
    (c0 : ∀ a, (![0, o] : Fin 2 → ℕ) a + S1x128.size a ≤ S4x3840.size a) (c1 : ∀ a, (![1, o] : Fin 2 → ℕ) a + S1x128.size a ≤ S4x3840.size a)
    (c2 : ∀ a, (![2, o] : Fin 2 → ℕ) a + S1x128.size a ≤ S4x3840.size a) (c3 : ∀ a, (![3, o] : Fin 2 → ℕ) a + S1x128.size a ≤ S4x3840.size a)
    (h : Vec Ideal S1x8x128 .f32) (L : List (View.Piece (Elt Ideal) S4x264x128 .f32)) (hH : ∀ r l, h (ix3 0 r l) = H (ix3 ⟨o / 128, hp⟩ r l))
    (i6 : ∀ a, (![0, o, 0] : Fin 3 → ℕ) a + S1x128x256.size a ≤ S1x3840x256.size a) (z : S1x128x256.Idx) :
    k0_pay36 (F := Ideal) (k0_pay35 (ldT v11 q 5 256 j2 j1 k0 (k0_pay39 (k0_pay29 (ldX v2 X2 i2) (ldW v8 X8 g i8))) (k0_pay31 h) L) (ldC v5 X5 0 o c0) (ldT v11 q 6 256 j2 j1 k1 (k0_pay39 (k0_pay29 (ldX v2 X2 i2) (ldW v8 X8 g i8))) (k0_pay31 h) L) (ldC v5 X5 1 o c1)
      (ldT v11 q 7 256 j2 j1 k2 (k0_pay39 (k0_pay29 (ldX v2 X2 i2) (ldW v8 X8 g i8))) (k0_pay31 h) L) (ldC v5 X5 2 o c2) (ldT v11 q 8 256 j2 j1 k3 (k0_pay39 (k0_pay29 (ldX v2 X2 i2) (ldW v8 X8 g i8))) (k0_pay31 h) L) (ldC v5 X5 3 o c3)) z
      = outV x W c H ((Rect.unit (s := S1x3840x256) ![0, o, 0] S1x128x256.size i6).emb z) :=
  out_store v5 v11 H h5 q (o / 128) o ho hp j2 j1 k0 k1 k2 k3 c0 c1 c2 c3 _ h L (fun n l t hn => right_lin v2 v8 i2 h2 h8 g i8 0 t l n (by omega)) hH i6 z

include h2 h8 in
/-- The store of the rows carried over, of the last 128 columns of a product. -/
theorem histRight (q p g : ℕ) (ho : g + 128 = 128 * p) (hp : p < 30) (i8 : ∀ a, (![0, g] : Fin 2 → ℕ) a + S2944x256.size a ≤ S2944x3840.size a)
    (j2 : ∀ a, (![q, 8, 0] : Fin 3 → ℕ) a + S1x256x128.size a ≤ S4x264x128.size a) (j1 : ∀ a, (![q, 0, 0] : Fin 3 → ℕ) a + S1x8x128.size a ≤ S4x264x128.size a)
    (j0 : ∀ a, (![q, 256, 0] : Fin 3 → ℕ) a + (![1, 8, 128] : Fin 3 → ℕ) a ≤ S4x264x128.size a)
    (P1 : Vec Ideal S1x8x128 .f32) (L : List (View.Piece (Elt Ideal) S4x264x128 .f32))
    (i : ∀ a, (![p, 0, 0] : Fin 3 → ℕ) a + S1x8x128.size a ≤ S30x8x128.size a) (z : S1x8x128.Idx) :
    k0_pay33 (F := Ideal) (ldT v11 q 256 8 j2 j1 j0 (k0_pay39 (k0_pay29 (ldX v2 X2 i2) (ldW v8 X8 g i8))) P1 L) z = histV x W ((Rect.unit (s := S30x8x128) ![p, 0, 0] S1x8x128.size i).emb z) :=
  hist_store v11 q p (g + 128) ho hp j2 j1 j0 _ P1 L (fun n l t hn => right_lin v2 v8 i2 h2 h8 g i8 0 t l n (by omega)) i z

include h2 h8 in
/-- The store of the tail of the last 128 columns of a product. -/
theorem tailRight (o : ℕ) (ho : o = 128 * (o / 128)) (hp : o / 128 < 30) (g : ℕ) (hg : o = g + 128) (i8 : ∀ a, (![0, g] : Fin 2 → ℕ) a + S2944x256.size a ≤ S2944x3840.size a)
    (i : ∀ a, (![0, 0, o] : Fin 3 → ℕ) a + S1x8x128.size a ≤ S1x8x3840.size a) (z : S1x8x128.Idx) :
    k0_pay41 (F := Ideal) (k0_pay29 (ldX v2 X2 i2) (ldW v8 X8 g i8)) z = tailV x W ((Rect.unit (s := S1x8x3840) ![0, 0, o] S1x8x128.size i).emb z) :=
  tail_store (o / 128) o ho hp _ _ (fun a r l => tailRight_at _ _ a r l) (fun n l t hn => right_lin v2 v8 i2 h2 h8 g i8 0 t l n (by omega)) i z

/-- The carried rows, loaded from what the buffer holds. -/
theorem carry_held (v10 : Memref sig .tc .vmem S30x8x128 .f32) {X10 : BufTy.Contents (Elt Ideal) v10.view.ty} (h10 : v10.view.read (Elt Ideal) X10 = H) (p : ℕ) (hp : p < 30)
    (i : ∀ a, (![p, 0, 0] : Fin 3 → ℕ) a + S1x8x128.size a ≤ S30x8x128.size a) (r : Fin 8) (l : Fin 128) :
    View.readAt (Elt Ideal) v10.view (Rect.unit (s := S30x8x128) ![p, 0, 0] S1x8x128.size i).toLoadRect X10 (ix3 0 r l) = H (ix3 ⟨p, hp⟩ r l) :=
  (readAt_ix3 v10.view X10 i 0 r l ⟨p, hp⟩ r l rfl (Nat.zero_add _).symm (Nat.zero_add _).symm).trans (congrFun h10 _)

/-- The zero rows. -/
theorem zero_eq : k0_pay27 (F := Ideal) = fun _ => (0 : EReal) := by
  funext z
  pointwise [k0_pay27]

/-- The carried rows, loaded after the whole buffer was set to zero and other strips stored. -/
theorem carry_zero (v10 : Memref sig .tc .vmem S30x8x128 .f32) (L : List (View.Piece (Elt Ideal) S30x8x128 .f32)) (p : ℕ) (hp : p < 30)
    (i : ∀ a, (![p, 0, 0] : Fin 3 → ℕ) a + S1x8x128.size a ≤ S30x8x128.size a)
    (hL : View.Piece.nth L p = some ⟨Rect.unit (s := S30x8x128) ![0, 0, 0] S30x8x128.size inb_S30x8x128_S30x8x128_0_0_0, k0_pay27 (F := Ideal)⟩)
    (hc : LoadRect.hitChk (L.map Sigma.fst) (Rect.unit (s := S30x8x128) ![p, 0, 0] S1x8x128.size i).toLoadRect p = true) (r : Fin 8) (l : Fin 128) :
    v10.view.readCov L (Rect.unit (s := S30x8x128) ![p, 0, 0] S1x8x128.size i).toLoadRect (ix3 0 r l) = (fun _ => (0 : EReal) : Vec Ideal S30x8x128 .f32) (ix3 ⟨p, hp⟩ r l) := by
  rw [zero_eq] at hL
  exact congrFun (View.readAt_writes_const_of_hit v10.view v10.view.junk L _ p _ _ hL hc) _

end Stores

end Cert.QkIdeal.Block

end
end
-- ==== Proof.QkIdealRunFirst.lean ====
/- The body of the q and k projection at the first point, which dequantises the weight and starts a batch, with what it leaves. -/
module
public import proofs.«01_k».proof.Proof.QkIdealBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.QkIdeal.Run
open Cert.QkIdeal Cert.QkIdeal.Gen Cert.QkIdeal.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at the first point, which dequantises the weight and starts a batch: the pieces it leaves in the output, the tail, the weight's scratch and the rows carried over. -/
noncomputable def runFirst (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec F S1x256x2944 .bf16) (x1 : Vec F S2880x1920 .fp8e4m3) (x2 : Vec F S2880x1920 .fp8e4m3) (x3 : Vec F S90x1920 .i8) (x4 : Vec F S90x1920 .i8) (x5 : Vec F S4x3840 .f32) (fw : BufTy.Contents (Elt F) arg10.view.ty) (fs : BufTy.Contents (Elt F) arg11.view.ty) (fh : BufTy.Contents (Elt F) arg12.view.ty) (ft : BufTy.Contents (Elt F) arg13.view.ty) :
    Σ' (LO : List (View.Piece (Elt F) S1x3840x256 .bf16)), Σ' (LT : List (View.Piece (Elt F) S1x8x3840 .bf16)), Σ' (LW : List (View.Piece (Elt F) S2944x3840 .bf16)), { LH : List (View.Piece (Elt F) S30x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (arg10.view.loc (c : Thread nD τ) ↦[arg10.view.set]{fullShare} fw) ∗ (arg11.view.loc (c : Thread nD τ) ↦[arg11.view.set]{fullShare} fs) ∗ (arg12.view.loc (c : Thread nD τ) ↦[arg12.view.set]{fullShare} fh) ∗ (arg13.view.loc (c : Thread nD τ) ↦[arg13.view.set]{fullShare} ft)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LT) ∗ (arg10.view.loc (c : Thread nD τ) ↦[arg10.view.set]{fullShare} arg10.view.writes (Elt F) fw LW) ∗ (∃ d, owns (c : Thread nD τ) arg11 fullShare d) ∗ (arg12.view.loc (c : Thread nD τ) ↦[arg12.view.set]{fullShare} arg12.view.writes (Elt F) fh LH) ∗ (∃ d, owns (c : Thread nD τ) arg13 fullShare d)) -∗ K ⟨⟩))
          ⊢ wp frame (wpE (defs₀ (F := F)) Variants.none c none) E (cc0_proj_qk i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_proj_qk_eq_skeleton]; unfold cc0_proj_qk_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, H8, H9, H10, H11, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexact H8
    isplitl [H9]
    · iexists _, _; isplitr; swap; · iexact H9
      ipureintro; rfl
    isplitl [H10]; · iexact H10
    iexists _, _; isplitr; swap; · iexact H11
    ipureintro; rfl
end Cert.QkIdeal.Run
end
end
-- ==== Proof.QkIdealWeight.lean ====
/- The scratch weight of the q/k projection after the first point: the two dequantised weights side by side, with zero rows behind it. -/
module

public import proofs.«01_k».proof.Proof.ProjWeight
public import proofs.«01_k».proof.Proof.QkIdealRunFirst

@[expose] public section

set_option maxRecDepth 16384

noncomputable section

open Idealize.ShloMosaic Idealize.ShloMosaic.TcCoe Idealize.SL.Sem

namespace Cert.QkIdeal.Weight

open Cert.QkIdeal Cert.QkIdeal.Gen Cert.QkIdeal.Body Cert.QkIdeal.Run Cert.ProjWeight

/-- The two dequantised weights side by side. -/
def weightV2 (wq wk : Vec Ideal S2880x1920 .fp8e4m3) (sq sk : Vec Ideal S90x1920 .i8) : Vec Ideal S2944x3840 .bf16 :=
  fun j => if h : (j 1).val < 1920 then weightV wq sq (ix2 (j 0) ⟨(j 1).val, h⟩)
    else weightV wk sk (ix2 (j 0) ⟨(j 1).val - 1920, by have h1 : (j 1).val < 3840 := (j 1).isLt; omega⟩)

theorem weightV2_q (wq wk : Vec Ideal S2880x1920 .fp8e4m3) (sq sk : Vec Ideal S90x1920 .i8) (a : Fin 2944) (b : Fin 1920) (b' : Fin 3840) (h : b'.val = 0 + b.val) :
    weightV2 wq wk sq sk (ix2 a b') = weightV wq sq (ix2 a b) := by
  rw [show b = ⟨b'.val, by omega⟩ from Fin.ext (by show b.val = b'.val; omega)]
  exact dif_pos _

theorem weightV2_k (wq wk : Vec Ideal S2880x1920 .fp8e4m3) (sq sk : Vec Ideal S90x1920 .i8) (a : Fin 2944) (b : Fin 1920) (b' : Fin 3840) (h : b'.val = 1920 + b.val) :
    weightV2 wq wk sq sk (ix2 a b') = weightV wk sk (ix2 a b) := by
  rw [show b = ⟨b'.val - 1920, by omega⟩ from Fin.ext (by show b.val = b'.val - 1920; omega)]
  exact dif_neg (by show ¬ b'.val < 1920; omega)

/-- A store of 32 rows into one half of the columns. -/
theorem half {sig : RefSig} {κ κ' : Kind} {sp sp' : Space} (v3 : View sig κ sp S2880x1920 .fp8e4m3) (v7 : View sig κ' sp' S96x1920 .f32)
    (X3 : v3.ty.Contents (Elt Ideal)) (X7 : v7.ty.Contents (Elt Ideal)) (w : Vec Ideal S2880x1920 .fp8e4m3) (s : Vec Ideal S90x1920 .i8) (W : Vec Ideal S2944x3840 .bf16) (p : ℕ)
    (hW : ∀ (a : Fin 2944) (b : Fin 1920) (b' : Fin 3840), b'.val = p + b.val → W (ix2 a b') = weightV w s (ix2 a b)) (hp : p + 1920 ≤ 3840)
    (h3 : v3.read (Elt Ideal) X3 = w)
    (h7 : ∀ (g : Fin 96) (g' : Fin 90) (b : Fin 1920), g.val = g'.val → v7.read (Elt Ideal) X7 (ix2 g b) = Scale.power (s (ix2 g' b)))
    (o3 o7 o6 : Fin 2 → ℕ)
    (i3 : ∀ a, o3 a + (![32, 1920] : Fin 2 → ℕ) a ≤ S2880x1920.size a) (i7 : ∀ a, o7 a + (![8, 1920] : Fin 2 → ℕ) a ≤ S96x1920.size a)
    (i6 : ∀ a, o6 a + (![32, 1920] : Fin 2 → ℕ) a ≤ S2944x3840.size a)
    (q : ℕ) (r : Fin 8) (hq : q + r.val < 90) (e3 : o3 = ![32 * (q + r.val), 0]) (e7 : o7 = ![q, 0]) (e6 : o6 = ![32 * (q + r.val), p])
    (P : Vec Ideal S32x1920 .bf16)
    (hP : ∀ (a : Fin 32) (b : Fin 1920), P (ix2 a b) = (show EReal from v3.readAt (Elt Ideal) (Rect.unit (s := S2880x1920) o3 ![32, 1920] i3).toLoadRect X3 (ix2 a b))
      * (show EReal from v7.readAt (Elt Ideal) (Rect.unit (s := S96x1920) o7 ![8, 1920] i7).toLoadRect X7 (ix2 r b)))
    (z : S32x1920.Idx) : P z = W ((Rect.unit (s := S2944x3840) o6 ![32, 1920] i6).emb z) := by
  have hr := r.isLt
  have i6' : ∀ a, (![32 * (q + r.val), 0] : Fin 2 → ℕ) a + (![32, 1920] : Fin 2 → ℕ) a ≤ (⟨2, ![2944, 1920]⟩ : Shape).size a := by
    intro a
    match a with
    | ⟨0, _⟩ => show 32 * (q + r.val) + 32 ≤ 2944; omega
    | ⟨1, _⟩ => exact le_refl 1920
  rw [piece v3 v7 X3 X7 w s h3 h7 o3 o7 ![32 * (q + r.val), 0] i3 i7 i6' q r hq e3 e7 rfl P hP z]
  subst e6
  obtain ⟨a, b, rfl⟩ : ∃ (a : Fin 32) (b : Fin 1920), z = ix2 a b := ⟨z 0, z 1, eq_ix2 z⟩
  have ha := a.isLt
  have hb := b.isLt
  rw [emb_rows i6' a b ⟨32 * (q + r.val) + a.val, by omega⟩ b rfl (by show b.val = 0 + b.val; omega),
    emb_rows i6 a b ⟨32 * (q + r.val) + a.val, by omega⟩ ⟨p + b.val, by omega⟩ rfl rfl]
  exact (hW _ b _ rfl).symm

/-- Each store's value: the codes times one of the eight rows of scales loaded. -/
theorem pay2_at (A : Vec Ideal S8x1920 .f32) (B : Vec Ideal S32x1920 .fp8e4m3) (a : Fin 32) (b : Fin 1920) :
    k0_pay2 (F := Ideal) A B (ix2 a b) = (show EReal from B (ix2 a b)) * (show EReal from A (ix2 0 b)) := by
  pointwise [k0_pay2]
theorem pay3_at (A : Vec Ideal S8x1920 .f32) (B : Vec Ideal S32x1920 .fp8e4m3) (a : Fin 32) (b : Fin 1920) :
    k0_pay3 (F := Ideal) A B (ix2 a b) = (show EReal from B (ix2 a b)) * (show EReal from A (ix2 1 b)) := by
  pointwise [k0_pay3]
theorem pay4_at (A : Vec Ideal S8x1920 .f32) (B : Vec Ideal S32x1920 .fp8e4m3) (a : Fin 32) (b : Fin 1920) :
    k0_pay4 (F := Ideal) A B (ix2 a b) = (show EReal from B (ix2 a b)) * (show EReal from A (ix2 2 b)) := by
  pointwise [k0_pay4]
theorem pay5_at (A : Vec Ideal S8x1920 .f32) (B : Vec Ideal S32x1920 .fp8e4m3) (a : Fin 32) (b : Fin 1920) :
    k0_pay5 (F := Ideal) A B (ix2 a b) = (show EReal from B (ix2 a b)) * (show EReal from A (ix2 3 b)) := by
  pointwise [k0_pay5]
theorem pay6_at (A : Vec Ideal S8x1920 .f32) (B : Vec Ideal S32x1920 .fp8e4m3) (a : Fin 32) (b : Fin 1920) :
    k0_pay6 (F := Ideal) A B (ix2 a b) = (show EReal from B (ix2 a b)) * (show EReal from A (ix2 4 b)) := by
  pointwise [k0_pay6]
theorem pay7_at (A : Vec Ideal S8x1920 .f32) (B : Vec Ideal S32x1920 .fp8e4m3) (a : Fin 32) (b : Fin 1920) :
    k0_pay7 (F := Ideal) A B (ix2 a b) = (show EReal from B (ix2 a b)) * (show EReal from A (ix2 5 b)) := by
  pointwise [k0_pay7]
theorem pay8_at (A : Vec Ideal S8x1920 .f32) (B : Vec Ideal S32x1920 .fp8e4m3) (a : Fin 32) (b : Fin 1920) :
    k0_pay8 (F := Ideal) A B (ix2 a b) = (show EReal from B (ix2 a b)) * (show EReal from A (ix2 6 b)) := by
  pointwise [k0_pay8]
theorem pay20_at (A : Vec Ideal S8x1920 .f32) (B : Vec Ideal S32x1920 .fp8e4m3) (a : Fin 32) (b : Fin 1920) :
    k0_pay20 (F := Ideal) A B (ix2 a b) = (show EReal from B (ix2 a b)) * (show EReal from A (ix2 0 b)) := by
  pointwise [k0_pay20]
theorem pay21_at (A : Vec Ideal S8x1920 .f32) (B : Vec Ideal S32x1920 .fp8e4m3) (a : Fin 32) (b : Fin 1920) :
    k0_pay21 (F := Ideal) A B (ix2 a b) = (show EReal from B (ix2 a b)) * (show EReal from A (ix2 1 b)) := by
  pointwise [k0_pay21]
theorem pay19_at (A : Vec Ideal S8x1920 .f32) (B : Vec Ideal S32x1920 .fp8e4m3) (a : Fin 32) (b : Fin 1920) :
    k0_pay19 (F := Ideal) (k0_pay9 A B) (ix2 a b) = (show EReal from B (ix2 a b)) * (show EReal from A (ix2 7 b)) := by
  pointwise [k0_pay9, k0_pay19]

/-- The scale bytes as powers of two. -/
theorem pay18_at (v : Vec Ideal S90x1920 .i8) (g : Fin 90) (n : Fin 1920) :
    k0_pay18 (F := Ideal) v (ix2 g n) = Scale.power (v (ix2 g n)) := by
  pointwise [k0_pay18]
  exact Scale.ofBits_shli _

/-- The rows a trip of each loop works on. -/
theorem off1_eq : ∀ k : Fin k0_t1_loop.trips, k0_off1 k = ![8 * k.val, 0] := by decide +kernel
theorem off2_0 : ∀ k : Fin k0_t1_loop.trips, k0_off2 k 0#32 = ![32 * (8 * k.val + 0), 0] := by decide +kernel
theorem off2_1 : ∀ k : Fin k0_t1_loop.trips, k0_off2 k 1#32 = ![32 * (8 * k.val + 1), 0] := by decide +kernel
theorem off2_2 : ∀ k : Fin k0_t1_loop.trips, k0_off2 k 2#32 = ![32 * (8 * k.val + 2), 0] := by decide +kernel
theorem off2_3 : ∀ k : Fin k0_t1_loop.trips, k0_off2 k 3#32 = ![32 * (8 * k.val + 3), 0] := by decide +kernel
theorem off2_4 : ∀ k : Fin k0_t1_loop.trips, k0_off2 k 4#32 = ![32 * (8 * k.val + 4), 0] := by decide +kernel
theorem off2_5 : ∀ k : Fin k0_t1_loop.trips, k0_off2 k 5#32 = ![32 * (8 * k.val + 5), 0] := by decide +kernel
theorem off2_6 : ∀ k : Fin k0_t1_loop.trips, k0_off2 k 6#32 = ![32 * (8 * k.val + 6), 0] := by decide +kernel
theorem off2_7 : ∀ k : Fin k0_t1_loop.trips, k0_off2 k 7#32 = ![32 * (8 * k.val + 7), 0] := by decide +kernel
theorem off3_0 : ∀ k : Fin k0_t1_loop.trips, k0_off3 k 0#32 = ![32 * (8 * k.val + 0), 0] := by decide +kernel
theorem off3_1 : ∀ k : Fin k0_t1_loop.trips, k0_off3 k 1#32 = ![32 * (8 * k.val + 1), 0] := by decide +kernel
theorem off3_2 : ∀ k : Fin k0_t1_loop.trips, k0_off3 k 2#32 = ![32 * (8 * k.val + 2), 0] := by decide +kernel
theorem off3_3 : ∀ k : Fin k0_t1_loop.trips, k0_off3 k 3#32 = ![32 * (8 * k.val + 3), 0] := by decide +kernel
theorem off3_4 : ∀ k : Fin k0_t1_loop.trips, k0_off3 k 4#32 = ![32 * (8 * k.val + 4), 0] := by decide +kernel
theorem off3_5 : ∀ k : Fin k0_t1_loop.trips, k0_off3 k 5#32 = ![32 * (8 * k.val + 5), 0] := by decide +kernel
theorem off3_6 : ∀ k : Fin k0_t1_loop.trips, k0_off3 k 6#32 = ![32 * (8 * k.val + 6), 0] := by decide +kernel
theorem off3_7 : ∀ k : Fin k0_t1_loop.trips, k0_off3 k 7#32 = ![32 * (8 * k.val + 7), 0] := by decide +kernel
theorem off4_eq : ∀ k : Fin k0_t2_loop.trips, k0_off4 k = ![8 * k.val, 0] := by decide +kernel
theorem off5_0 : ∀ k : Fin k0_t2_loop.trips, k0_off5 k 0#32 = ![32 * (8 * k.val + 0), 0] := by decide +kernel
theorem off5_1 : ∀ k : Fin k0_t2_loop.trips, k0_off5 k 1#32 = ![32 * (8 * k.val + 1), 0] := by decide +kernel
theorem off5_2 : ∀ k : Fin k0_t2_loop.trips, k0_off5 k 2#32 = ![32 * (8 * k.val + 2), 0] := by decide +kernel
theorem off5_3 : ∀ k : Fin k0_t2_loop.trips, k0_off5 k 3#32 = ![32 * (8 * k.val + 3), 0] := by decide +kernel
theorem off5_4 : ∀ k : Fin k0_t2_loop.trips, k0_off5 k 4#32 = ![32 * (8 * k.val + 4), 0] := by decide +kernel
theorem off5_5 : ∀ k : Fin k0_t2_loop.trips, k0_off5 k 5#32 = ![32 * (8 * k.val + 5), 0] := by decide +kernel
theorem off5_6 : ∀ k : Fin k0_t2_loop.trips, k0_off5 k 6#32 = ![32 * (8 * k.val + 6), 0] := by decide +kernel
theorem off5_7 : ∀ k : Fin k0_t2_loop.trips, k0_off5 k 7#32 = ![32 * (8 * k.val + 7), 0] := by decide +kernel
theorem off6_0 : ∀ k : Fin k0_t2_loop.trips, k0_off6 k 0#32 = ![32 * (8 * k.val + 0), 1920] := by decide +kernel
theorem off6_1 : ∀ k : Fin k0_t2_loop.trips, k0_off6 k 1#32 = ![32 * (8 * k.val + 1), 1920] := by decide +kernel
theorem off6_2 : ∀ k : Fin k0_t2_loop.trips, k0_off6 k 2#32 = ![32 * (8 * k.val + 2), 1920] := by decide +kernel
theorem off6_3 : ∀ k : Fin k0_t2_loop.trips, k0_off6 k 3#32 = ![32 * (8 * k.val + 3), 1920] := by decide +kernel
theorem off6_4 : ∀ k : Fin k0_t2_loop.trips, k0_off6 k 4#32 = ![32 * (8 * k.val + 4), 1920] := by decide +kernel
theorem off6_5 : ∀ k : Fin k0_t2_loop.trips, k0_off6 k 5#32 = ![32 * (8 * k.val + 5), 1920] := by decide +kernel
theorem off6_6 : ∀ k : Fin k0_t2_loop.trips, k0_off6 k 6#32 = ![32 * (8 * k.val + 6), 1920] := by decide +kernel
theorem off6_7 : ∀ k : Fin k0_t2_loop.trips, k0_off6 k 7#32 = ![32 * (8 * k.val + 7), 1920] := by decide +kernel

/-- A trip's stores are blocks of the q half. -/
theorem trip_pieces_q (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i)
    (X3 : BufTy.Contents (Elt Ideal) arg3.view.ty) (X9 : BufTy.Contents (Elt Ideal) arg11.view.ty)
    (wq wk : Vec Ideal S2880x1920 .fp8e4m3) (sq sk : Vec Ideal S90x1920 .i8)
    (h3 : arg3.view.read (Elt Ideal) X3 = wq)
    (h9 : ∀ (g : Fin 96) (g' : Fin 90) (b : Fin 1920), g.val = g'.val → arg11.view.read (Elt Ideal) X9 (ix2 g b) = Scale.power (sq (ix2 g' b)))
    (k : Fin k0_t1_loop.trips) :
    View.PiecesOf (weightV2 wq wk sq sk) (tripL_k0_t1 (F := Ideal) Variants.none c none i arg2 harg2 arg3 harg3 arg4 harg4 arg5 harg5 arg6 harg6 arg7 harg7 arg8 harg8 arg9 harg9 arg10 harg10 arg11 harg11 arg12 harg12 arg13 harg13 hc0 X3 X9 k) := by
  have hk : k.val < 11 := Nat.lt_of_lt_of_le k.isLt k0_t1_abs.2.1
  unfold tripL_k0_t1
  unfold trip_k0_t1
  frame_open
  dsimp only
  exact ⟨
      fun z => half arg3.view arg11.view X3 X9 wq sq _ 0 (weightV2_q wq wk sq sk) (by decide) h3 h9 _ _ _ (k0_off2_inb i k hc0 7) (k0_off1_inb i k hc0) (k0_off3_inb i k hc0 7) (8 * k.val) 7 (by omega) (off2_7 k) (off1_eq k) (off3_7 k) _ (pay19_at _ _) z,
      fun z => half arg3.view arg11.view X3 X9 wq sq _ 0 (weightV2_q wq wk sq sk) (by decide) h3 h9 _ _ _ (k0_off2_inb i k hc0 6) (k0_off1_inb i k hc0) (k0_off3_inb i k hc0 6) (8 * k.val) 6 (by omega) (off2_6 k) (off1_eq k) (off3_6 k) _ (pay8_at _ _) z,
      fun z => half arg3.view arg11.view X3 X9 wq sq _ 0 (weightV2_q wq wk sq sk) (by decide) h3 h9 _ _ _ (k0_off2_inb i k hc0 5) (k0_off1_inb i k hc0) (k0_off3_inb i k hc0 5) (8 * k.val) 5 (by omega) (off2_5 k) (off1_eq k) (off3_5 k) _ (pay7_at _ _) z,
      fun z => half arg3.view arg11.view X3 X9 wq sq _ 0 (weightV2_q wq wk sq sk) (by decide) h3 h9 _ _ _ (k0_off2_inb i k hc0 4) (k0_off1_inb i k hc0) (k0_off3_inb i k hc0 4) (8 * k.val) 4 (by omega) (off2_4 k) (off1_eq k) (off3_4 k) _ (pay6_at _ _) z,
      fun z => half arg3.view arg11.view X3 X9 wq sq _ 0 (weightV2_q wq wk sq sk) (by decide) h3 h9 _ _ _ (k0_off2_inb i k hc0 3) (k0_off1_inb i k hc0) (k0_off3_inb i k hc0 3) (8 * k.val) 3 (by omega) (off2_3 k) (off1_eq k) (off3_3 k) _ (pay5_at _ _) z,
      fun z => half arg3.view arg11.view X3 X9 wq sq _ 0 (weightV2_q wq wk sq sk) (by decide) h3 h9 _ _ _ (k0_off2_inb i k hc0 2) (k0_off1_inb i k hc0) (k0_off3_inb i k hc0 2) (8 * k.val) 2 (by omega) (off2_2 k) (off1_eq k) (off3_2 k) _ (pay4_at _ _) z,
      fun z => half arg3.view arg11.view X3 X9 wq sq _ 0 (weightV2_q wq wk sq sk) (by decide) h3 h9 _ _ _ (k0_off2_inb i k hc0 1) (k0_off1_inb i k hc0) (k0_off3_inb i k hc0 1) (8 * k.val) 1 (by omega) (off2_1 k) (off1_eq k) (off3_1 k) _ (pay3_at _ _) z,
      fun z => half arg3.view arg11.view X3 X9 wq sq _ 0 (weightV2_q wq wk sq sk) (by decide) h3 h9 _ _ _ (k0_off2_inb i k hc0 0) (k0_off1_inb i k hc0) (k0_off3_inb i k hc0 0) (8 * k.val) 0 (by omega) (off2_0 k) (off1_eq k) (off3_0 k) _ (pay2_at _ _) z,
      trivial⟩

/-- The loop's stores are blocks of the q half. -/
theorem loop_pieces_q (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i)
    (X3 : BufTy.Contents (Elt Ideal) arg3.view.ty) (X9 : BufTy.Contents (Elt Ideal) arg11.view.ty)
    (wq wk : Vec Ideal S2880x1920 .fp8e4m3) (sq sk : Vec Ideal S90x1920 .i8)
    (h3 : arg3.view.read (Elt Ideal) X3 = wq)
    (h9 : ∀ (g : Fin 96) (g' : Fin 90) (b : Fin 1920), g.val = g'.val → arg11.view.read (Elt Ideal) X9 (ix2 g b) = Scale.power (sq (ix2 g' b))) :
    ∀ n, n ≤ k0_t1_loop.trips →
      View.PiecesOf (weightV2 wq wk sq sk) (pb_k0_t1 (F := Ideal) Variants.none c none i arg2 harg2 arg3 harg3 arg4 harg4 arg5 harg5 arg6 harg6 arg7 harg7 arg8 harg8 arg9 harg9 arg10 harg10 arg11 harg11 arg12 harg12 arg13 harg13 hc0 X3 X9 n)
  | 0, _ => trivial
  | n + 1, hn => by
    rw [pb_k0_t1_succ Variants.none c none i arg2 harg2 arg3 harg3 arg4 harg4 arg5 harg5 arg6 harg6 arg7 harg7 arg8 harg8 arg9 harg9 arg10 harg10 arg11 harg11 arg12 harg12 arg13 harg13 hc0 X3 X9 ⟨n, hn⟩]
    exact piecesOf_append (trip_pieces_q c i arg2 harg2 arg3 harg3 arg4 harg4 arg5 harg5 arg6 harg6 arg7 harg7 arg8 harg8 arg9 harg9 arg10 harg10 arg11 harg11 arg12 harg12 arg13 harg13 hc0 X3 X9 wq wk sq sk h3 h9 ⟨n, hn⟩) (loop_pieces_q c i arg2 harg2 arg3 harg3 arg4 harg4 arg5 harg5 arg6 harg6 arg7 harg7 arg8 harg8 arg9 harg9 arg10 harg10 arg11 harg11 arg12 harg12 arg13 harg13 hc0 X3 X9 wq wk sq sk h3 h9 n (Nat.le_of_succ_le hn))

/-- A trip's stores are blocks of the k half. -/
theorem trip_pieces_k (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i)
    (X3 : BufTy.Contents (Elt Ideal) arg4.view.ty) (X9 : BufTy.Contents (Elt Ideal) arg11.view.ty)
    (wq wk : Vec Ideal S2880x1920 .fp8e4m3) (sq sk : Vec Ideal S90x1920 .i8)
    (h3 : arg4.view.read (Elt Ideal) X3 = wk)
    (h9 : ∀ (g : Fin 96) (g' : Fin 90) (b : Fin 1920), g.val = g'.val → arg11.view.read (Elt Ideal) X9 (ix2 g b) = Scale.power (sk (ix2 g' b)))
    (k : Fin k0_t2_loop.trips) :
    View.PiecesOf (weightV2 wq wk sq sk) (tripL_k0_t2 (F := Ideal) Variants.none c none i arg2 harg2 arg3 harg3 arg4 harg4 arg5 harg5 arg6 harg6 arg7 harg7 arg8 harg8 arg9 harg9 arg10 harg10 arg11 harg11 arg12 harg12 arg13 harg13 hc0 X3 X9 k) := by
  have hk : k.val < 11 := Nat.lt_of_lt_of_le k.isLt k0_t2_abs.2.1
  unfold tripL_k0_t2
  unfold trip_k0_t2
  frame_open
  dsimp only
  exact ⟨
      fun z => half arg4.view arg11.view X3 X9 wk sk _ 1920 (weightV2_k wq wk sq sk) (by decide) h3 h9 _ _ _ (k0_off5_inb i k hc0 7) (k0_off4_inb i k hc0) (k0_off6_inb i k hc0 7) (8 * k.val) 7 (by omega) (off5_7 k) (off4_eq k) (off6_7 k) _ (pay19_at _ _) z,
      fun z => half arg4.view arg11.view X3 X9 wk sk _ 1920 (weightV2_k wq wk sq sk) (by decide) h3 h9 _ _ _ (k0_off5_inb i k hc0 6) (k0_off4_inb i k hc0) (k0_off6_inb i k hc0 6) (8 * k.val) 6 (by omega) (off5_6 k) (off4_eq k) (off6_6 k) _ (pay8_at _ _) z,
      fun z => half arg4.view arg11.view X3 X9 wk sk _ 1920 (weightV2_k wq wk sq sk) (by decide) h3 h9 _ _ _ (k0_off5_inb i k hc0 5) (k0_off4_inb i k hc0) (k0_off6_inb i k hc0 5) (8 * k.val) 5 (by omega) (off5_5 k) (off4_eq k) (off6_5 k) _ (pay7_at _ _) z,
      fun z => half arg4.view arg11.view X3 X9 wk sk _ 1920 (weightV2_k wq wk sq sk) (by decide) h3 h9 _ _ _ (k0_off5_inb i k hc0 4) (k0_off4_inb i k hc0) (k0_off6_inb i k hc0 4) (8 * k.val) 4 (by omega) (off5_4 k) (off4_eq k) (off6_4 k) _ (pay6_at _ _) z,
      fun z => half arg4.view arg11.view X3 X9 wk sk _ 1920 (weightV2_k wq wk sq sk) (by decide) h3 h9 _ _ _ (k0_off5_inb i k hc0 3) (k0_off4_inb i k hc0) (k0_off6_inb i k hc0 3) (8 * k.val) 3 (by omega) (off5_3 k) (off4_eq k) (off6_3 k) _ (pay5_at _ _) z,
      fun z => half arg4.view arg11.view X3 X9 wk sk _ 1920 (weightV2_k wq wk sq sk) (by decide) h3 h9 _ _ _ (k0_off5_inb i k hc0 2) (k0_off4_inb i k hc0) (k0_off6_inb i k hc0 2) (8 * k.val) 2 (by omega) (off5_2 k) (off4_eq k) (off6_2 k) _ (pay4_at _ _) z,
      fun z => half arg4.view arg11.view X3 X9 wk sk _ 1920 (weightV2_k wq wk sq sk) (by decide) h3 h9 _ _ _ (k0_off5_inb i k hc0 1) (k0_off4_inb i k hc0) (k0_off6_inb i k hc0 1) (8 * k.val) 1 (by omega) (off5_1 k) (off4_eq k) (off6_1 k) _ (pay3_at _ _) z,
      fun z => half arg4.view arg11.view X3 X9 wk sk _ 1920 (weightV2_k wq wk sq sk) (by decide) h3 h9 _ _ _ (k0_off5_inb i k hc0 0) (k0_off4_inb i k hc0) (k0_off6_inb i k hc0 0) (8 * k.val) 0 (by omega) (off5_0 k) (off4_eq k) (off6_0 k) _ (pay2_at _ _) z,
      trivial⟩

/-- The loop's stores are blocks of the k half. -/
theorem loop_pieces_k (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i)
    (X3 : BufTy.Contents (Elt Ideal) arg4.view.ty) (X9 : BufTy.Contents (Elt Ideal) arg11.view.ty)
    (wq wk : Vec Ideal S2880x1920 .fp8e4m3) (sq sk : Vec Ideal S90x1920 .i8)
    (h3 : arg4.view.read (Elt Ideal) X3 = wk)
    (h9 : ∀ (g : Fin 96) (g' : Fin 90) (b : Fin 1920), g.val = g'.val → arg11.view.read (Elt Ideal) X9 (ix2 g b) = Scale.power (sk (ix2 g' b))) :
    ∀ n, n ≤ k0_t2_loop.trips →
      View.PiecesOf (weightV2 wq wk sq sk) (pb_k0_t2 (F := Ideal) Variants.none c none i arg2 harg2 arg3 harg3 arg4 harg4 arg5 harg5 arg6 harg6 arg7 harg7 arg8 harg8 arg9 harg9 arg10 harg10 arg11 harg11 arg12 harg12 arg13 harg13 hc0 X3 X9 n)
  | 0, _ => trivial
  | n + 1, hn => by
    rw [pb_k0_t2_succ Variants.none c none i arg2 harg2 arg3 harg3 arg4 harg4 arg5 harg5 arg6 harg6 arg7 harg7 arg8 harg8 arg9 harg9 arg10 harg10 arg11 harg11 arg12 harg12 arg13 harg13 hc0 X3 X9 ⟨n, hn⟩]
    exact piecesOf_append (trip_pieces_k c i arg2 harg2 arg3 harg3 arg4 harg4 arg5 harg5 arg6 harg6 arg7 harg7 arg8 harg8 arg9 harg9 arg10 harg10 arg11 harg11 arg12 harg12 arg13 harg13 hc0 X3 X9 wq wk sq sk h3 h9 ⟨n, hn⟩) (loop_pieces_k c i arg2 harg2 arg3 harg3 arg4 harg4 arg5 harg5 arg6 harg6 arg7 harg7 arg8 harg8 arg9 harg9 arg10 harg10 arg11 harg11 arg12 harg12 arg13 harg13 hc0 X3 X9 wq wk sq sk h3 h9 n (Nat.le_of_succ_le hn))

/-- The first rows of the scale scratch hold the scales once they are stored, whatever it held. -/
theorem scales (arg5 : Memref sig .tc .vmem S90x1920 .i8) (harg5 : arg5.IsWhole) (arg11 : Memref sig .tc .vmem S96x1920 .f32)
    (x3 : Vec Ideal S90x1920 .i8) (f9 : BufTy.Contents (Elt Ideal) arg11.view.ty) (L : List (View.Piece (Elt Ideal) S96x1920 .f32))
    (g : Fin 96) (g' : Fin 90) (b : Fin 1920) (h : g.val = g'.val) :
    arg11.view.read (Elt Ideal) (arg11.view.writes (Elt Ideal) f9 (⟨Rect.unit ![0, 0] S90x1920.size inb_S96x1920_S90x1920_0_0,
      k0_pay18 (F := Ideal) (View.readAt (Elt Ideal) arg5.view (Rect.unit ![0, 0] S90x1920.size inb_S90x1920_S90x1920_0_0).toLoadRect (harg5.unread x3))⟩ :: L)) (ix2 g b)
      = Scale.power (x3 (ix2 g' b)) := by
  have e : (Rect.unit (s := S96x1920) ![0, 0] S90x1920.size inb_S96x1920_S90x1920_0_0).emb (ix2 g' b) = ix2 g b :=
    emb_rows _ g' b g b (by show g.val = 0 + g'.val; omega) (by show b.val = 0 + b.val; omega)
  rw [← e, View.read_writes_cons_emb, pay18_at]
  rw [readAt_rows arg5.view _ _ g' b g' b (by show g'.val = 0 + g'.val; omega) (by show b.val = 0 + b.val; omega), harg5.read_unread]

/-- The first point's stores cover the scratch. -/
theorem first_cover (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (fw : BufTy.Contents (Elt Ideal) arg10.view.ty) (fs : BufTy.Contents (Elt Ideal) arg11.view.ty) (fh : BufTy.Contents (Elt Ideal) arg12.view.ty) (ft : BufTy.Contents (Elt Ideal) arg13.view.ty) (y : S2944x3840.Idx) :
    ∃ p ∈ (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.2.1, y ∈ p.1.set :=
  View.cover_of_tiledBy (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.2.1 ![32, 1920] (by sl_kernel_rfl) y

/-- The zero rows. -/
theorem pay26_at (wq wk : Vec Ideal S2880x1920 .fp8e4m3) (sq sk : Vec Ideal S90x1920 .i8) (z : S64x3840.Idx) :
    k0_pay26 (F := Ideal) z = weightV2 wq wk sq sk ((Rect.unit (s := S2944x3840) ![2880, 0] S64x3840.size inb_S2944x3840_S64x3840_2880_0).emb z) := by
  obtain ⟨a, b, rfl⟩ : ∃ (a : Fin 64) (b : Fin 3840), z = ix2 a b := ⟨z 0, z 1, eq_ix2 z⟩
  rw [emb_rows _ a b ⟨2880 + a.val, by omega⟩ b rfl (by show b.val = 0 + b.val; omega)]
  by_cases h : b.val < 1920
  · rw [weightV2_q wq wk sq sk _ ⟨b.val, h⟩ b (by show b.val = 0 + b.val; omega), weightV_pad _ _ _ _ (by show ¬ 2880 + a.val < 2880; omega)]
    pointwise [k0_pay26]
  · rw [weightV2_k wq wk sq sk _ ⟨b.val - 1920, by omega⟩ b (by show b.val = 1920 + (b.val - 1920); omega), weightV_pad _ _ _ _ (by show ¬ 2880 + a.val < 2880; omega)]
    pointwise [k0_pay26]

/-- The first point's stores are blocks of the two dequantised weights. -/
theorem first_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (fw : BufTy.Contents (Elt Ideal) arg10.view.ty) (fs : BufTy.Contents (Elt Ideal) arg11.view.ty) (fh : BufTy.Contents (Elt Ideal) arg12.view.ty) (ft : BufTy.Contents (Elt Ideal) arg13.view.ty) :
    View.PiecesOf (weightV2 x1 x2 x3 x4) (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.2.1 := by
  frame_open
  have h3 := harg3.read_unread (Val := Elt Ideal) x1
  have h4 := harg4.read_unread (Val := Elt Ideal) x2
  have hq := weightV2_q x1 x2 x3 x4
  have hk := weightV2_k x1 x2 x3 x4
  exact ⟨pay26_at x1 x2 x3 x4,
    fun z => half arg4.view arg11.view _ _ x2 x4 _ 1920 hk (by decide) h4 (scales arg6 harg6 arg11 x4 fs _) ![2848, 0] ![88, 0] ![2848, 1920] inb_S2880x1920_S32x1920_2848_0 inb_S96x1920_S8x1920_88_0 inb_S2944x3840_S32x1920_2848_1920 88 1 (by decide) (by decide) rfl (by decide) _ (pay21_at _ _) z,
    fun z => half arg4.view arg11.view _ _ x2 x4 _ 1920 hk (by decide) h4 (scales arg6 harg6 arg11 x4 fs _) ![2816, 0] ![88, 0] ![2816, 1920] inb_S2880x1920_S32x1920_2816_0 inb_S96x1920_S8x1920_88_0 inb_S2944x3840_S32x1920_2816_1920 88 0 (by decide) (by decide) rfl (by decide) _ (pay20_at _ _) z,
    piecesOf_append (loop_pieces_k c i arg2 harg2 arg3 harg3 arg4 harg4 arg5 harg5 arg6 harg6 arg7 harg7 arg8 harg8 arg9 harg9 arg10 harg10 arg11 harg11 arg12 harg12 arg13 harg13 hc0 _ _ x1 x2 x3 x4 h4 (scales arg6 harg6 arg11 x4 fs _) _ le_rfl)
      ⟨fun z => half arg3.view arg11.view _ _ x1 x3 _ 0 hq (by decide) h3 (scales arg5 harg5 arg11 x3 fs _) ![2848, 0] ![88, 0] ![2848, 0] inb_S2880x1920_S32x1920_2848_0 inb_S96x1920_S8x1920_88_0 inb_S2944x3840_S32x1920_2848_0 88 1 (by decide) (by decide) rfl (by decide) _ (pay21_at _ _) z,
      fun z => half arg3.view arg11.view _ _ x1 x3 _ 0 hq (by decide) h3 (scales arg5 harg5 arg11 x3 fs _) ![2816, 0] ![88, 0] ![2816, 0] inb_S2880x1920_S32x1920_2816_0 inb_S96x1920_S8x1920_88_0 inb_S2944x3840_S32x1920_2816_0 88 0 (by decide) (by decide) rfl (by decide) _ (pay20_at _ _) z,
      loop_pieces_q c i arg2 harg2 arg3 harg3 arg4 harg4 arg5 harg5 arg6 harg6 arg7 harg7 arg8 harg8 arg9 harg9 arg10 harg10 arg11 harg11 arg12 harg12 arg13 harg13 hc0 _ _ x1 x2 x3 x4 h3 (scales arg5 harg5 arg11 x3 fs _) _ le_rfl⟩⟩

/-- The scratch holds the two dequantised weights after the first point. -/
theorem first_weight (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (fw : BufTy.Contents (Elt Ideal) arg10.view.ty) (fs : BufTy.Contents (Elt Ideal) arg11.view.ty) (fh : BufTy.Contents (Elt Ideal) arg12.view.ty) (ft : BufTy.Contents (Elt Ideal) arg13.view.ty) :
    arg10.view.read (Elt Ideal) (arg10.view.writes (Elt Ideal) fw (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.2.1) = weightV2 x1 x2 x3 x4 :=
  read_writes_of_piecesOf _ _ _ _ (first_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft) (first_cover c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft)

end Cert.QkIdeal.Weight

end
end
-- ==== Proof.QkIdealOutputFirst.lean ====
/- What the q/k projection's body leaves at the first point. -/
module

public import proofs.«01_k».proof.Proof.QkIdealBlock
public import proofs.«01_k».proof.Proof.QkIdealWeight

@[expose] public section

set_option maxRecDepth 16384
set_option maxHeartbeats 2000000

noncomputable section

open Idealize.ShloMosaic Idealize.ShloMosaic.TcCoe Idealize.SL.Sem

namespace Cert.QkIdeal.Output

open Cert.QkIdeal.Weight Cert.QkIdeal Cert.QkIdeal.Gen Cert.QkIdeal.Body Cert.QkIdeal.Run Cert.QkIdeal.Block Cert.ProjWeight Cert.ProjConv

/-- The stores to the out at the first point. -/
theorem first_out_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (fw : BufTy.Contents (Elt Ideal) arg10.view.ty) (fs : BufTy.Contents (Elt Ideal) arg11.view.ty) (fh : BufTy.Contents (Elt Ideal) arg12.view.ty) (ft : BufTy.Contents (Elt Ideal) arg13.view.ty) :
    View.PiecesOf (outV x0 (weightV2 x1 x2 x3 x4) x5 (fun _ => (0 : EReal))) (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).1 := by
  have h2 := harg2.read_unread (Val := Elt Ideal) x0
  have h7 := harg7.read_unread (Val := Elt Ideal) x5
  have h10 := first_weight c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft
  frame_open
  iterate 15 refine ⟨outRight arg2 arg7 arg10 arg13 (fun _ => (0 : EReal)) _ h2 h7 h10 _ _ (by decide) (by decide) _ (by decide) _ _ _ _ _ _ _ _ _ _ _ _ _ (fun r l => carry_zero arg12 _ _ (by decide) _ rfl (by sl_kernel_rfl) r l) (by decide),
    outLeft arg2 arg7 arg10 arg13 (fun _ => (0 : EReal)) _ h2 h7 h10 _ _ (by decide) (by decide) _ _ _ _ _ _ _ _ _ _ _ _ _ (fun r l => carry_zero arg12 _ _ (by decide) _ rfl (by sl_kernel_rfl) r l) (by decide), ?_⟩
  exact trivial

/-- The stores to the tail at the first point. -/
theorem first_tail_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (fw : BufTy.Contents (Elt Ideal) arg10.view.ty) (fs : BufTy.Contents (Elt Ideal) arg11.view.ty) (fh : BufTy.Contents (Elt Ideal) arg12.view.ty) (ft : BufTy.Contents (Elt Ideal) arg13.view.ty) :
    View.PiecesOf (tailV x0 (weightV2 x1 x2 x3 x4)) (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.1 := by
  have h2 := harg2.read_unread (Val := Elt Ideal) x0
  have h7 := harg7.read_unread (Val := Elt Ideal) x5
  have h10 := first_weight c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft
  frame_open
  iterate 15 refine ⟨tailRight arg2 arg10 _ h2 h10 _ (by decide) (by decide) _ (by decide) _ (by decide),
    tailLeft arg2 arg10 _ h2 h10 _ (by decide) (by decide) _ (by decide), ?_⟩
  exact trivial

/-- The stores to the hist at the first point. -/
theorem first_hist_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (fw : BufTy.Contents (Elt Ideal) arg10.view.ty) (fs : BufTy.Contents (Elt Ideal) arg11.view.ty) (fh : BufTy.Contents (Elt Ideal) arg12.view.ty) (ft : BufTy.Contents (Elt Ideal) arg13.view.ty) :
    View.PiecesOf (histV x0 (weightV2 x1 x2 x3 x4)) ((runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.2.2.1.take 30) := by
  have h2 := harg2.read_unread (Val := Elt Ideal) x0
  have h7 := harg7.read_unread (Val := Elt Ideal) x5
  have h10 := first_weight c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft
  frame_open
  iterate 15 refine piecesOf_take_cons ⟨histRight arg2 arg10 arg13 _ h2 h10 _ _ _ (by decide) (by decide) _ _ _ _ _ _ (by decide),
    piecesOf_take_cons ⟨histLeft arg2 arg10 arg13 _ h2 h10 _ _ _ (by decide) (by decide) _ _ _ _ _ _ (by decide), ?_⟩⟩
  exact trivial

/-- The point leaves the block of the convolution. -/
theorem first_out (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (fw : BufTy.Contents (Elt Ideal) arg10.view.ty) (fs : BufTy.Contents (Elt Ideal) arg11.view.ty) (fh : BufTy.Contents (Elt Ideal) arg12.view.ty) (ft : BufTy.Contents (Elt Ideal) arg13.view.ty)
    (f : BufTy.Contents (Elt Ideal) arg8.view.ty) :
    arg8.view.read (Elt Ideal) (arg8.view.writes (Elt Ideal) f (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).1) = outV x0 (weightV2 x1 x2 x3 x4) x5 (fun _ => (0 : EReal)) :=
  read_writes_of_piecesOf _ _ _ _ (first_out_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft)
    (fun y => View.cover_of_tiledBy (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).1 ![1, 128, 256] (by sl_kernel_rfl) y)

/-- The point leaves the tail. -/
theorem first_tail (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (fw : BufTy.Contents (Elt Ideal) arg10.view.ty) (fs : BufTy.Contents (Elt Ideal) arg11.view.ty) (fh : BufTy.Contents (Elt Ideal) arg12.view.ty) (ft : BufTy.Contents (Elt Ideal) arg13.view.ty)
    (f : BufTy.Contents (Elt Ideal) arg9.view.ty) :
    arg9.view.read (Elt Ideal) (arg9.view.writes (Elt Ideal) f (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.1) = tailV x0 (weightV2 x1 x2 x3 x4) :=
  read_writes_of_piecesOf _ _ _ _ (first_tail_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft)
    (fun y => View.cover_of_tiledBy (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.1 ![1, 8, 128] (by sl_kernel_rfl) y)

/-- The point leaves the rows carried over. -/
theorem first_hist (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (fw : BufTy.Contents (Elt Ideal) arg10.view.ty) (fs : BufTy.Contents (Elt Ideal) arg11.view.ty) (fh : BufTy.Contents (Elt Ideal) arg12.view.ty) (ft : BufTy.Contents (Elt Ideal) arg13.view.ty) :
    arg12.view.read (Elt Ideal) (arg12.view.writes (Elt Ideal) fh (runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.2.2.1) = histV x0 (weightV2 x1 x2 x3 x4) :=
  read_writes_of_top _ 30 _ _ _ (first_hist_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft)
    (fun y => View.cover_of_tiledBy ((runFirst c i arg2 harg2 arg3 harg3 arg4 harg4 arg5 harg5 arg6 harg6 arg7 harg7 arg8 harg8 arg9 harg9 arg10 harg10 arg11 harg11 arg12 harg12 arg13 harg13 hc0 hc1 x0 x1 x2 x3 x4 x5 fw fs fh ft).2.2.2.1.take 30) ![1, 8, 128] (by sl_kernel_rfl) y)

end Cert.QkIdeal.Output

end
end
-- ==== Proof.QkIdealRunStart.lean ====
/- The body of the q and k projection at the first point of a later batch, which clears the rows carried over, with what it leaves. -/
module
public import proofs.«01_k».proof.Proof.QkIdealBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.QkIdeal.Run
open Cert.QkIdeal Cert.QkIdeal.Gen Cert.QkIdeal.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at the first point of a later batch, which clears the rows carried over: the pieces it leaves in the output, the tail, and the rows carried over. -/
noncomputable def runStart (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : cond0_1 i)
    (x0 : Vec F S1x256x2944 .bf16) (x1 : Vec F S2880x1920 .fp8e4m3) (x2 : Vec F S2880x1920 .fp8e4m3) (x3 : Vec F S90x1920 .i8) (x4 : Vec F S90x1920 .i8) (x5 : Vec F S4x3840 .f32) (xw : Vec F S2944x3840 .bf16) (fs : BufTy.Contents (Elt F) arg11.view.ty) (fh : BufTy.Contents (Elt F) arg12.view.ty) (ft : BufTy.Contents (Elt F) arg13.view.ty) :
    Σ' (LO : List (View.Piece (Elt F) S1x3840x256 .bf16)), Σ' (LT : List (View.Piece (Elt F) S1x8x3840 .bf16)), { LH : List (View.Piece (Elt F) S30x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xw ∗ (arg11.view.loc (c : Thread nD τ) ↦[arg11.view.set]{fullShare} fs) ∗ (arg12.view.loc (c : Thread nD τ) ↦[arg12.view.set]{fullShare} fh) ∗ (arg13.view.loc (c : Thread nD τ) ↦[arg13.view.set]{fullShare} ft)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LT) ∗ owns (c : Thread nD τ) arg10 fullShare xw ∗ (∃ d, owns (c : Thread nD τ) arg11 fullShare d) ∗ (arg12.view.loc (c : Thread nD τ) ↦[arg12.view.set]{fullShare} arg12.view.writes (Elt F) fh LH) ∗ (∃ d, owns (c : Thread nD τ) arg13 fullShare d)) -∗ K ⟨⟩))
          ⊢ wp frame (wpE (defs₀ (F := F)) Variants.none c none) E (cc0_proj_qk i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_proj_qk_eq_skeleton]; unfold cc0_proj_qk_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, H9, H10, H11, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]
    · iexists _; isplitr; · ipureintro; exact harg10.read_unread _
      iexact H8
    isplitl [H9]
    · iexists _, _; isplitr; swap; · iexact H9
      ipureintro; rfl
    isplitl [H10]; · iexact H10
    iexists _, _; isplitr; swap; · iexact H11
    ipureintro; rfl
end Cert.QkIdeal.Run
end
end
-- ==== Proof.QkIdealOutputStart.lean ====
/- What the q/k projection's body leaves at a batch's first point. -/
module

public import proofs.«01_k».proof.Proof.QkIdealBlock
public import proofs.«01_k».proof.Proof.QkIdealRunStart

@[expose] public section

set_option maxRecDepth 16384
set_option maxHeartbeats 2000000

noncomputable section

open Idealize.ShloMosaic Idealize.ShloMosaic.TcCoe Idealize.SL.Sem

namespace Cert.QkIdeal.Output

open Cert.QkIdeal Cert.QkIdeal.Gen Cert.QkIdeal.Body Cert.QkIdeal.Run Cert.QkIdeal.Block Cert.ProjWeight Cert.ProjConv

/-- The stores to the out at a batch's first point. -/
theorem start_out_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (fh : BufTy.Contents (Elt Ideal) arg12.view.ty) (ft : BufTy.Contents (Elt Ideal) arg13.view.ty) :
    View.PiecesOf (outV x0 xw x5 (fun _ => (0 : EReal))) (runStart c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft).1 := by
  have h2 := harg2.read_unread (Val := Elt Ideal) x0
  have h7 := harg7.read_unread (Val := Elt Ideal) x5
  have h10 := harg10.read_unread (Val := Elt Ideal) xw
  frame_open
  iterate 15 refine ⟨outRight arg2 arg7 arg10 arg13 (fun _ => (0 : EReal)) _ h2 h7 h10 _ _ (by decide) (by decide) _ (by decide) _ _ _ _ _ _ _ _ _ _ _ _ _ (fun r l => carry_zero arg12 _ _ (by decide) _ rfl (by sl_kernel_rfl) r l) (by decide),
    outLeft arg2 arg7 arg10 arg13 (fun _ => (0 : EReal)) _ h2 h7 h10 _ _ (by decide) (by decide) _ _ _ _ _ _ _ _ _ _ _ _ _ (fun r l => carry_zero arg12 _ _ (by decide) _ rfl (by sl_kernel_rfl) r l) (by decide), ?_⟩
  exact trivial

/-- The stores to the tail at a batch's first point. -/
theorem start_tail_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (fh : BufTy.Contents (Elt Ideal) arg12.view.ty) (ft : BufTy.Contents (Elt Ideal) arg13.view.ty) :
    View.PiecesOf (tailV x0 xw) (runStart c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft).2.1 := by
  have h2 := harg2.read_unread (Val := Elt Ideal) x0
  have h7 := harg7.read_unread (Val := Elt Ideal) x5
  have h10 := harg10.read_unread (Val := Elt Ideal) xw
  frame_open
  iterate 15 refine ⟨tailRight arg2 arg10 _ h2 h10 _ (by decide) (by decide) _ (by decide) _ (by decide),
    tailLeft arg2 arg10 _ h2 h10 _ (by decide) (by decide) _ (by decide), ?_⟩
  exact trivial

/-- The stores to the hist at a batch's first point. -/
theorem start_hist_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (fh : BufTy.Contents (Elt Ideal) arg12.view.ty) (ft : BufTy.Contents (Elt Ideal) arg13.view.ty) :
    View.PiecesOf (histV x0 xw) ((runStart c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft).2.2.1.take 30) := by
  have h2 := harg2.read_unread (Val := Elt Ideal) x0
  have h7 := harg7.read_unread (Val := Elt Ideal) x5
  have h10 := harg10.read_unread (Val := Elt Ideal) xw
  frame_open
  iterate 15 refine piecesOf_take_cons ⟨histRight arg2 arg10 arg13 _ h2 h10 _ _ _ (by decide) (by decide) _ _ _ _ _ _ (by decide),
    piecesOf_take_cons ⟨histLeft arg2 arg10 arg13 _ h2 h10 _ _ _ (by decide) (by decide) _ _ _ _ _ _ (by decide), ?_⟩⟩
  exact trivial

/-- The point leaves the block of the convolution. -/
theorem start_out (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (fh : BufTy.Contents (Elt Ideal) arg12.view.ty) (ft : BufTy.Contents (Elt Ideal) arg13.view.ty)
    (f : BufTy.Contents (Elt Ideal) arg8.view.ty) :
    arg8.view.read (Elt Ideal) (arg8.view.writes (Elt Ideal) f (runStart c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft).1) = outV x0 xw x5 (fun _ => (0 : EReal)) :=
  read_writes_of_piecesOf _ _ _ _ (start_out_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft)
    (fun y => View.cover_of_tiledBy (runStart c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft).1 ![1, 128, 256] (by sl_kernel_rfl) y)

/-- The point leaves the tail. -/
theorem start_tail (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (fh : BufTy.Contents (Elt Ideal) arg12.view.ty) (ft : BufTy.Contents (Elt Ideal) arg13.view.ty)
    (f : BufTy.Contents (Elt Ideal) arg9.view.ty) :
    arg9.view.read (Elt Ideal) (arg9.view.writes (Elt Ideal) f (runStart c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft).2.1) = tailV x0 xw :=
  read_writes_of_piecesOf _ _ _ _ (start_tail_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft)
    (fun y => View.cover_of_tiledBy (runStart c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft).2.1 ![1, 8, 128] (by sl_kernel_rfl) y)

/-- The point leaves the rows carried over. -/
theorem start_hist (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (fh : BufTy.Contents (Elt Ideal) arg12.view.ty) (ft : BufTy.Contents (Elt Ideal) arg13.view.ty) :
    arg12.view.read (Elt Ideal) (arg12.view.writes (Elt Ideal) fh (runStart c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft).2.2.1) = histV x0 xw :=
  read_writes_of_top _ 30 _ _ _ (start_hist_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft)
    (fun y => View.cover_of_tiledBy ((runStart c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs fh ft).2.2.1.take 30) ![1, 8, 128] (by sl_kernel_rfl) y)

end Cert.QkIdeal.Output

end
end
-- ==== Proof.QkIdealRunRest.lean ====
/- The body of the q and k projection at any other point, with what it leaves. -/
module
public import proofs.«01_k».proof.Proof.QkIdealBody
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
namespace Cert.QkIdeal.Run
open Cert.QkIdeal Cert.QkIdeal.Gen Cert.QkIdeal.Body
variable {F : FTy → Type} [FloatOps F]
local notation "𝕄" => MT nD τ sig Unit (Elt F) ℕ (UR sig nD τ) ℕ
variable (m : (ℓ : Loc nD τ sig) → Buf (Elt F) ℓ) (ρ : Dev nD → PrngReg)
set_option maxHeartbeats 8000000 in
/-- The body at any other point: the pieces it leaves in the output, the tail, and the rows carried over. -/
noncomputable def runRest (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : ¬cond0_1 i)
    (x0 : Vec F S1x256x2944 .bf16) (x1 : Vec F S2880x1920 .fp8e4m3) (x2 : Vec F S2880x1920 .fp8e4m3) (x3 : Vec F S90x1920 .i8) (x4 : Vec F S90x1920 .i8) (x5 : Vec F S4x3840 .f32) (xw : Vec F S2944x3840 .bf16) (fs : BufTy.Contents (Elt F) arg11.view.ty) (xh : Vec F S30x8x128 .f32) (ft : BufTy.Contents (Elt F) arg13.view.ty) :
    Σ' (LO : List (View.Piece (Elt F) S1x3840x256 .bf16)), Σ' (LT : List (View.Piece (Elt F) S1x8x3840 .bf16)), { LH : List (View.Piece (Elt F) S30x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xw ∗ (arg11.view.loc (c : Thread nD τ) ↦[arg11.view.set]{fullShare} fs) ∗ owns (c : Thread nD τ) arg12 fullShare xh ∗ (arg13.view.loc (c : Thread nD τ) ↦[arg13.view.set]{fullShare} ft)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LT) ∗ owns (c : Thread nD τ) arg10 fullShare xw ∗ (∃ d, owns (c : Thread nD τ) arg11 fullShare d) ∗ (arg12.view.loc (c : Thread nD τ) ↦[arg12.view.set]{fullShare} arg12.view.writes (Elt F) (harg12.unread xh) LH) ∗ (∃ d, owns (c : Thread nD τ) arg13 fullShare d)) -∗ K ⟨⟩))
          ⊢ wp frame (wpE (defs₀ (F := F)) Variants.none c none) E (cc0_proj_qk i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_proj_qk_eq_skeleton]; unfold cc0_proj_qk_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, H9, ⟨%f10, %hf10, H10⟩, H11, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg12.eq_unread hf10
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]
    · iexists _; isplitr; · ipureintro; exact harg10.read_unread _
      iexact H8
    isplitl [H9]
    · iexists _, _; isplitr; swap; · iexact H9
      ipureintro; rfl
    isplitl [H10]; · iexact H10
    iexists _, _; isplitr; swap; · iexact H11
    ipureintro; rfl
end Cert.QkIdeal.Run
end
end
-- ==== Proof.QkIdealOutputRest.lean ====
/- What the q/k projection's body leaves at any other point. -/
module

public import proofs.«01_k».proof.Proof.QkIdealBlock
public import proofs.«01_k».proof.Proof.QkIdealRunRest

@[expose] public section

set_option maxRecDepth 16384
set_option maxHeartbeats 2000000

noncomputable section

open Idealize.ShloMosaic Idealize.ShloMosaic.TcCoe Idealize.SL.Sem

namespace Cert.QkIdeal.Output

open Cert.QkIdeal Cert.QkIdeal.Gen Cert.QkIdeal.Body Cert.QkIdeal.Run Cert.QkIdeal.Block Cert.ProjWeight Cert.ProjConv

/-- The stores to the out at any other point. -/
theorem rest_out_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : ¬cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (xh : Vec Ideal S30x8x128 .f32) (ft : BufTy.Contents (Elt Ideal) arg13.view.ty) :
    View.PiecesOf (outV x0 xw x5 xh) (runRest c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft).1 := by
  have h2 := harg2.read_unread (Val := Elt Ideal) x0
  have h7 := harg7.read_unread (Val := Elt Ideal) x5
  have h10 := harg10.read_unread (Val := Elt Ideal) xw
  have h12 := harg12.read_unread (Val := Elt Ideal) xh
  frame_open
  iterate 15
    refine ⟨outRight arg2 arg7 arg10 arg13 xh _ h2 h7 h10 _ _ (by decide) (by decide) _ (by decide) _ _ _ _ _ _ _ _ _ _ _ _ _ (fun r l => ?_) (by decide),
      outLeft arg2 arg7 arg10 arg13 xh _ h2 h7 h10 _ _ (by decide) (by decide) _ _ _ _ _ _ _ _ _ _ _ _ _ (fun r l => ?_) (by decide), ?_⟩
    · exact carry_held xh arg12 h12 _ (by decide) _ r l
    · exact carry_held xh arg12 h12 _ (by decide) _ r l
  exact trivial

/-- The stores to the tail at any other point. -/
theorem rest_tail_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : ¬cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (xh : Vec Ideal S30x8x128 .f32) (ft : BufTy.Contents (Elt Ideal) arg13.view.ty) :
    View.PiecesOf (tailV x0 xw) (runRest c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft).2.1 := by
  have h2 := harg2.read_unread (Val := Elt Ideal) x0
  have h7 := harg7.read_unread (Val := Elt Ideal) x5
  have h10 := harg10.read_unread (Val := Elt Ideal) xw
  have h12 := harg12.read_unread (Val := Elt Ideal) xh
  frame_open
  iterate 15 refine ⟨tailRight arg2 arg10 _ h2 h10 _ (by decide) (by decide) _ (by decide) _ (by decide),
    tailLeft arg2 arg10 _ h2 h10 _ (by decide) (by decide) _ (by decide), ?_⟩
  exact trivial

/-- The stores to the hist at any other point. -/
theorem rest_hist_pieces (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : ¬cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (xh : Vec Ideal S30x8x128 .f32) (ft : BufTy.Contents (Elt Ideal) arg13.view.ty) :
    View.PiecesOf (histV x0 xw) ((runRest c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft).2.2.1.take 30) := by
  have h2 := harg2.read_unread (Val := Elt Ideal) x0
  have h7 := harg7.read_unread (Val := Elt Ideal) x5
  have h10 := harg10.read_unread (Val := Elt Ideal) xw
  have h12 := harg12.read_unread (Val := Elt Ideal) xh
  frame_open
  iterate 15 refine piecesOf_take_cons ⟨histRight arg2 arg10 arg13 _ h2 h10 _ _ _ (by decide) (by decide) _ _ _ _ _ _ (by decide),
    piecesOf_take_cons ⟨histLeft arg2 arg10 arg13 _ h2 h10 _ _ _ (by decide) (by decide) _ _ _ _ _ _ (by decide), ?_⟩⟩
  exact trivial

/-- The point leaves the block of the convolution. -/
theorem rest_out (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : ¬cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (xh : Vec Ideal S30x8x128 .f32) (ft : BufTy.Contents (Elt Ideal) arg13.view.ty)
    (f : BufTy.Contents (Elt Ideal) arg8.view.ty) :
    arg8.view.read (Elt Ideal) (arg8.view.writes (Elt Ideal) f (runRest c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft).1) = outV x0 xw x5 xh :=
  read_writes_of_piecesOf _ _ _ _ (rest_out_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft)
    (fun y => View.cover_of_tiledBy (runRest c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft).1 ![1, 128, 256] (by sl_kernel_rfl) y)

/-- The point leaves the tail. -/
theorem rest_tail (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : ¬cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (xh : Vec Ideal S30x8x128 .f32) (ft : BufTy.Contents (Elt Ideal) arg13.view.ty)
    (f : BufTy.Contents (Elt Ideal) arg9.view.ty) :
    arg9.view.read (Elt Ideal) (arg9.view.writes (Elt Ideal) f (runRest c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft).2.1) = tailV x0 xw :=
  read_writes_of_piecesOf _ _ _ _ (rest_tail_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft)
    (fun y => View.cover_of_tiledBy (runRest c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft).2.1 ![1, 8, 128] (by sl_kernel_rfl) y)

/-- The point leaves the rows carried over. -/
theorem rest_hist (c : Dev nD) (i : grid0.Coords) (arg2 : Memref sig .tc .vmem S1x256x2944 .bf16) (harg2 : arg2.IsWhole) (arg3 : Memref sig .tc .vmem S2880x1920 .fp8e4m3) (harg3 : arg3.IsWhole) (arg4 : Memref sig .tc .vmem S2880x1920 .fp8e4m3) (harg4 : arg4.IsWhole) (arg5 : Memref sig .tc .vmem S90x1920 .i8) (harg5 : arg5.IsWhole) (arg6 : Memref sig .tc .vmem S90x1920 .i8) (harg6 : arg6.IsWhole) (arg7 : Memref sig .tc .vmem S4x3840 .f32) (harg7 : arg7.IsWhole) (arg8 : Memref sig .tc .vmem S1x3840x256 .bf16) (harg8 : arg8.IsWhole) (arg9 : Memref sig .tc .vmem S1x8x3840 .bf16) (harg9 : arg9.IsWhole) (arg10 : Memref sig .tc .vmem S2944x3840 .bf16) (harg10 : arg10.IsWhole) (arg11 : Memref sig .tc .vmem S96x1920 .f32) (harg11 : arg11.IsWhole) (arg12 : Memref sig .tc .vmem S30x8x128 .f32) (harg12 : arg12.IsWhole) (arg13 : Memref sig .tc .vmem S4x264x128 .f32) (harg13 : arg13.IsWhole) (hc0 : ¬cond0_0 i) (hc1 : ¬cond0_1 i)
    (x0 : Vec Ideal S1x256x2944 .bf16) (x1 : Vec Ideal S2880x1920 .fp8e4m3) (x2 : Vec Ideal S2880x1920 .fp8e4m3) (x3 : Vec Ideal S90x1920 .i8) (x4 : Vec Ideal S90x1920 .i8) (x5 : Vec Ideal S4x3840 .f32) (xw : Vec Ideal S2944x3840 .bf16) (fs : BufTy.Contents (Elt Ideal) arg11.view.ty) (xh : Vec Ideal S30x8x128 .f32) (ft : BufTy.Contents (Elt Ideal) arg13.view.ty) :
    arg12.view.read (Elt Ideal) (arg12.view.writes (Elt Ideal) (harg12.unread xh) (runRest c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft).2.2.1) = histV x0 xw :=
  read_writes_of_top _ 30 _ _ _ (rest_hist_pieces c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft)
    (fun y => View.cover_of_tiledBy ((runRest c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xw fs xh ft).2.2.1.take 30) ![1, 8, 128] (by sl_kernel_rfl) y)

end Cert.QkIdeal.Output

end
end
-- ==== Proof.QkIdealFrame.lean ====
/- The q/k projection's run over the extended reals: after the first point its scratch holds the dequantised weight, before every
   point but a batch's first the rows carried over, every point leaves the block of the convolution and the tail, and the run
   ends with every argument as it was. -/
module

public import proofs.«01_k».proof.Proof.QkIdealOutputFirst
public import proofs.«01_k».proof.Proof.QkIdealOutputStart
public import proofs.«01_k».proof.Proof.QkIdealOutputRest
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.QkIdeal.FrameRun

open Cert.QkIdeal Cert.QkIdeal.Gen Cert.QkIdeal.Body Cert.QkIdeal.Run Cert.QkIdeal.Weight Cert.QkIdeal.Output Cert.ProjWeight Cert.ProjConv

local notation "𝕄" => MT nD τ sig Unit (Elt Ideal) ℕ (UR sig nD τ) ℕ

variable (m : (ℓ : Loc nD τ sig) → Buf (Elt Ideal) ℓ) (ρ : Dev nD → PrngReg)

/-- Which block each window holds at a point. -/
theorem idx : ∀ t : Fin cfg0.N, win0_0.index t = ![t.val / 12, t.val % 12, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val / 12, 0, t.val % 12]
    ∧ win0_7.index t = ![t.val / 12, 0, 0] :=
  (by decide +kernel : ∀ t : Fin grid0.N, _)

/-- The weight and scale windows hold the same block at every point. -/
theorem iblk_const_1 (c : Dev nD) (t t' : Fin cfg0.N) : iblk m c 1 t = iblk m c 1 t' := by
  funext j
  blk_ext [iblk, idx t, idx t']
theorem iblk_const_2 (c : Dev nD) (t t' : Fin cfg0.N) : iblk m c 2 t = iblk m c 2 t' := by
  funext j
  blk_ext [iblk, idx t, idx t']
theorem iblk_const_3 (c : Dev nD) (t t' : Fin cfg0.N) : iblk m c 3 t = iblk m c 3 t' := by
  funext j
  blk_ext [iblk, idx t, idx t']
theorem iblk_const_4 (c : Dev nD) (t t' : Fin cfg0.N) : iblk m c 4 t = iblk m c 4 t' := by
  funext j
  blk_ext [iblk, idx t, idx t']

/-- The dequantised weight, from the blocks a point stages. -/
abbrev weightAt (c : Dev nD) (t : Fin cfg0.N) : Vec Ideal S2944x3840 .bf16 := weightV2 (iblk m c 1 t) (iblk m c 2 t) (iblk m c 3 t) (iblk m c 4 t)

theorem weightAt_const (c : Dev nD) (t t' : Fin cfg0.N) : weightAt m c t = weightAt m c t' := by
  unfold weightAt; rw [iblk_const_1 m c t t', iblk_const_2 m c t t', iblk_const_3 m c t t', iblk_const_4 m c t t']

/-- The rows a point carries over. -/
abbrev histAt (c : Dev nD) (t : Fin cfg0.N) : Vec Ideal S30x8x128 .f32 := histV (iblk m c 0 t) (weightAt m c t)

/-- The point before. -/
def prev (t : Fin cfg0.N) : Fin cfg0.N := ⟨t.val - 1, Nat.lt_of_le_of_lt (Nat.sub_le _ _) t.isLt⟩

/-- The rows a point finds: nothing at a batch's first point, afterwards those of the point before. -/
def carried (c : Dev nD) (t : Fin cfg0.N) : Vec Ideal S30x8x128 .f32 := if t.val % 12 = 0 then fun _ => 0 else histAt m c (prev t)

/-- What a point leaves in the output, -/
abbrev outAt (c : Dev nD) (t : Fin cfg0.N) : Vec Ideal S1x3840x256 .bf16 := outV (iblk m c 0 t) (weightAt m c t) (iblk m c 5 t) (carried m c t)

/-- and in the tail. -/
abbrev tailAt (c : Dev nD) (t : Fin cfg0.N) : Vec Ideal S1x8x3840 .bf16 := tailV (iblk m c 0 t) (weightAt m c t)

/-- The scratches after a point: the weight, the rows carried over, the rest at anything. -/
def held (c : Dev nD) (W : Vec Ideal S2944x3840 .bf16) (H : Vec Ideal S30x8x128 .f32) : sProp 𝕄 :=
  iprop(iprop(owns (c : Thread nD τ) scM0_0 fullShare W ∗ (∃ d, owns (c : Thread nD τ) scM0_1 fullShare d)
    ∗ owns (c : Thread nD τ) scM0_2 fullShare H ∗ (∃ d, owns (c : Thread nD τ) scM0_3 fullShare d)) ∗ (∃ r, prngReg c r))

/-- The region invariant before a position: before the first point every scratch at anything. -/
def PhiS (c : Dev nD) : (n : ℕ) → n ≤ cfg0.N → sProp 𝕄
  | 0, _ => Pipeline.ΦA spec0 c
  | n + 1, hn => held c (weightAt m c ⟨n, hn⟩) (histAt m c ⟨n, hn⟩)

theorem PhiS_zero (c : Dev nD) (n : ℕ) (h : n ≤ cfg0.N) (hz : n = 0) : PhiS m c n h = Pipeline.ΦA spec0 c := by
  subst hz; rfl

theorem PhiS_succ (c : Dev nD) (t : Fin cfg0.N) : PhiS m c (t.val + 1) t.isLt = held c (weightAt m c t) (histAt m c t) := rfl

/-- Before a point that is not the first the scratch holds the weight as that point's blocks say it, and the rows of the point before. -/
theorem PhiS_pos (c : Dev nD) (t : Fin cfg0.N) (h : t.val ≤ cfg0.N) (hz : t.val ≠ 0) :
    PhiS m c t.val h = held c (weightAt m c t) (histAt m c (prev t)) := by
  obtain ⟨n, ht⟩ := t
  cases n with
  | zero => exact absurd rfl hz
  | succ n => rw [weightAt_const m c ⟨n + 1, ht⟩ ⟨n, h⟩]; rfl

/-- The class's invariant with the scratch at its contents. -/
theorem PhiA0_open (c : Dev nD) :
    (Pipeline.ΦA spec0 c : sProp 𝕄)
      = iprop(iprop((∃ d, ∃ f, ⌜scM0_0.view.read (Elt Ideal) f = d⌝ ∗ (scM0_0.view.loc (c : Thread nD τ) ↦[scM0_0.view.set]{fullShare} f))
        ∗ (∃ d, ∃ f, ⌜scM0_1.view.read (Elt Ideal) f = d⌝ ∗ (scM0_1.view.loc (c : Thread nD τ) ↦[scM0_1.view.set]{fullShare} f))
        ∗ (∃ d, ∃ f, ⌜scM0_2.view.read (Elt Ideal) f = d⌝ ∗ (scM0_2.view.loc (c : Thread nD τ) ↦[scM0_2.view.set]{fullShare} f))
        ∗ (∃ d, ∃ f, ⌜scM0_3.view.read (Elt Ideal) f = d⌝ ∗ (scM0_3.view.loc (c : Thread nD τ) ↦[scM0_3.view.set]{fullShare} f))) ∗ (∃ r, prngReg c r)) := by
  rw [PhiA0_eq]; rfl

/-- The scratches after a point, all but the weight at their contents. -/
theorem held_open (c : Dev nD) (W : Vec Ideal S2944x3840 .bf16) (H : Vec Ideal S30x8x128 .f32) :
    (held c W H : sProp 𝕄)
      = iprop(iprop(owns (c : Thread nD τ) scM0_0 fullShare W
        ∗ (∃ d, ∃ f, ⌜scM0_1.view.read (Elt Ideal) f = d⌝ ∗ (scM0_1.view.loc (c : Thread nD τ) ↦[scM0_1.view.set]{fullShare} f))
        ∗ (∃ f, ⌜scM0_2.view.read (Elt Ideal) f = H⌝ ∗ (scM0_2.view.loc (c : Thread nD τ) ↦[scM0_2.view.set]{fullShare} f))
        ∗ (∃ d, ∃ f, ⌜scM0_3.view.read (Elt Ideal) f = d⌝ ∗ (scM0_3.view.loc (c : Thread nD τ) ↦[scM0_3.view.set]{fullShare} f))) ∗ (∃ r, prngReg c r)) := rfl

/-- The same with the rows carried over left as they are. -/
theorem held_open_rest (c : Dev nD) (W : Vec Ideal S2944x3840 .bf16) (H : Vec Ideal S30x8x128 .f32) :
    (held c W H : sProp 𝕄)
      = iprop(iprop(owns (c : Thread nD τ) scM0_0 fullShare W
        ∗ (∃ d, ∃ f, ⌜scM0_1.view.read (Elt Ideal) f = d⌝ ∗ (scM0_1.view.loc (c : Thread nD τ) ↦[scM0_1.view.set]{fullShare} f))
        ∗ owns (c : Thread nD τ) scM0_2 fullShare H
        ∗ (∃ d, ∃ f, ⌜scM0_3.view.read (Elt Ideal) f = d⌝ ∗ (scM0_3.view.loc (c : Thread nD τ) ↦[scM0_3.view.set]{fullShare} f))) ∗ (∃ r, prngReg c r)) := rfl

/-- The proof data of the pipeline: each input's buffer at its block, the outputs' at the convolution and the tail. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨7, _⟩ => tailAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem after0_7 (c : Dev nD) (t : Fin cfg0.N) : (dats m 0 c).after 7 t = tailAt m c t := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1600000 in
/-- The body at the first point. -/
theorem body_first (c : Dev nD) (t : Fin cfg0.N) (hz : t.val = 0) (h0 : t.val % 84 = 0) (h1 : t.val % 12 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  rw [PhiS_castSucc m c t, PhiS_zero m c _ _ hz, PhiA0_open]
  rw [show outAt m c t = outV (iblk m c 0 t) (weightAt m c t) (iblk m c 5 t) (fun _ => (0 : EReal)) from congrArg (outV (iblk m c 0 t) (weightAt m c t) (iblk m c 5 t)) (if_pos h1 : carried m c t = (fun _ => (0 : EReal)))]
  iintro ⟨⟨⟨⟨%e0, %g0, -, HS0⟩, ⟨%e1, %g1, -, HS1⟩, ⟨%e2, %g2, -, HS2⟩, ⟨%e3, %g3, -, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runFirst c (grid0.coords t) _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) g0 g1 g2 g3).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, ⟨%p6, H6⟩, ⟨%p7, H7⟩, HS0, HS1, HS2, HS3⟩
  isplitl [HS0 HS1 HS2 HS3 Hg]
  · unfold held
    isplitl [HS0 HS1 HS2 HS3]
    · isplitl [HS0]
      · unfold owns; iexists _; isplitr
        swap; · iexact HS0
        ipureintro; exact first_weight c _ _ _ _ _ _ _ _ _ _ _ _ _ _ _ _ _ _ _ _ _ _ _ _ _ _ _ _ _ _ _ _ _ _ _ _ _
      isplitl [HS1]; · iexact HS1
      isplitl [HS2]
      · unfold owns; iexists _; isplitr
        swap; · iexact HS2
        ipureintro; exact first_hist c _ _ _ _ _ _ _ _ _ _ _ _ _ _ _ _ _ _ _ _ _ _ _ _ _ _ _ _ _ _ _ _ _ _ _ _ _
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact first_out c _ _ _ _ _ _ _ _ _ _ _ _ _ _ _ _ _ _ _ _ _ _ _ _ _ _ _ _ _ _ _ _ _ _ _ _ _ _
  unfold owns; iexists _; isplitr
  swap; · iexact H7
  ipureintro; exact first_tail c _ _ _ _ _ _ _ _ _ _ _ _ _ _ _ _ _ _ _ _ _ _ _ _ _ _ _ _ _ _ _ _ _ _ _ _ _ _

set_option maxHeartbeats 1600000 in
/-- The body at a later batch's first point. -/
theorem body_start (c : Dev nD) (t : Fin cfg0.N) (hz : t.val ≠ 0) (h0 : ¬ t.val % 84 = 0) (h1 : t.val % 12 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  rw [PhiS_castSucc m c t, PhiS_pos m c t _ hz, held_open]
  rw [show outAt m c t = outV (iblk m c 0 t) (weightAt m c t) (iblk m c 5 t) (fun _ => (0 : EReal)) from congrArg (outV (iblk m c 0 t) (weightAt m c t) (iblk m c 5 t)) (if_pos h1 : carried m c t = (fun _ => (0 : EReal)))]
  iintro ⟨⟨⟨HS0, ⟨%e1, %g1, -, HS1⟩, ⟨%g2, -, HS2⟩, ⟨%e3, %g3, -, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runStart c (grid0.coords t) _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (weightAt m c t) g1 g2 g3).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, ⟨%p6, H6⟩, ⟨%p7, H7⟩, HS0, HS1, HS2, HS3⟩
  isplitl [HS0 HS1 HS2 HS3 Hg]
  · unfold held
    isplitl [HS0 HS1 HS2 HS3]
    · isplitl [HS0]; · iexact HS0
      isplitl [HS1]; · iexact HS1
      isplitl [HS2]
      · unfold owns; iexists _; isplitr
        swap; · iexact HS2
        ipureintro; exact start_hist c _ _ _ _ _ _ _ _ _ _ _ _ _ _ _ _ _ _ _ _ _ _ _ _ _ _ _ _ _ _ _ _ _ _ _ _ _
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact start_out c _ _ _ _ _ _ _ _ _ _ _ _ _ _ _ _ _ _ _ _ _ _ _ _ _ _ _ _ _ _ _ _ _ _ _ _ _ _
  unfold owns; iexists _; isplitr
  swap; · iexact H7
  ipureintro; exact start_tail c _ _ _ _ _ _ _ _ _ _ _ _ _ _ _ _ _ _ _ _ _ _ _ _ _ _ _ _ _ _ _ _ _ _ _ _ _ _

set_option maxHeartbeats 1600000 in
/-- The body at any other point. -/
theorem body_rest (c : Dev nD) (t : Fin cfg0.N) (hz : t.val ≠ 0) (h0 : ¬ t.val % 84 = 0) (h1 : ¬ t.val % 12 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  rw [PhiS_castSucc m c t, PhiS_pos m c t _ hz, held_open_rest]
  rw [show outAt m c t = outV (iblk m c 0 t) (weightAt m c t) (iblk m c 5 t) (histAt m c (prev t)) from congrArg (outV (iblk m c 0 t) (weightAt m c t) (iblk m c 5 t)) (if_neg h1 : carried m c t = (histAt m c (prev t)))]
  iintro ⟨⟨⟨HS0, ⟨%e1, %g1, -, HS1⟩, HS2, ⟨%e3, %g3, -, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runRest c (grid0.coords t) _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (weightAt m c t) g1 (histAt m c (prev t)) g3).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  iintro ⟨H0, H1, H2, H3, H4, H5, ⟨%p6, H6⟩, ⟨%p7, H7⟩, HS0, HS1, HS2, HS3⟩
  isplitl [HS0 HS1 HS2 HS3 Hg]
  · unfold held
    isplitl [HS0 HS1 HS2 HS3]
    · isplitl [HS0]; · iexact HS0
      isplitl [HS1]; · iexact HS1
      isplitl [HS2]
      · unfold owns; iexists _; isplitr
        swap; · iexact HS2
        ipureintro; exact rest_hist c _ _ _ _ _ _ _ _ _ _ _ _ _ _ _ _ _ _ _ _ _ _ _ _ _ _ _ _ _ _ _ _ _ _ _ _ _
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact rest_out c _ _ _ _ _ _ _ _ _ _ _ _ _ _ _ _ _ _ _ _ _ _ _ _ _ _ _ _ _ _ _ _ _ _ _ _ _ _
  unfold owns; iexists _; isplitr
  swap; · iexact H7
  ipureintro; exact rest_tail c _ _ _ _ _ _ _ _ _ _ _ _ _ _ _ _ _ _ _ _ _ _ _ _ _ _ _ _ _ _ _ _ _ _ _ _ _ _

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 84 := lt_of_lt_of_eq t.isLt (show cfg0.N = 84 from N_0)
  by_cases hz : t.val = 0
  · exact body_first m c t hz (by omega) (by omega)
  · by_cases h1 : t.val % 12 = 0
    · exact body_start m c t hz (by omega) h1
    · exact body_rest m c t hz (by omega) h1

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The same after the last point. -/
theorem hout (c : Dev nD) : (dats m 0 c).Φ (Fin.last cfg0.N) ⊢ Pipeline.ΦA spec0 c := by
  rw [show (dats m 0 c).Φ (Fin.last cfg0.N) = held c (weightAt m c ⟨83, by rw [show cfg0.N = 84 from N_0]; decide⟩) (histAt m c ⟨83, by rw [show cfg0.N = 84 from N_0]; decide⟩) from rfl, PhiA0_eq]
  unfold held
  iintro ⟨⟨HS0, HS1, HS2, HS3⟩, Hg⟩
  isplitl [HS0 HS1 HS2 HS3]
  · isplitl [HS0]; · iexists _; iexact HS0
    isplitl [HS1]; · iexact HS1
    isplitl [HS2]; · iexists _; iexact HS2
    iexact HS3
  iexact Hg

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_QkIdeal`'s statement (Defs.lean). -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

/-- The run with the output arrays named and the arguments unchanged. -/
theorem run_blocks : θ_run defs (onTc (τ := τ) (main (F := Ideal))) ⟨m, fun _ => 0, ρ⟩ (fun r => ∀ c : Dev nD,
      r.2.mem ((c : Thread nD τ).loc main_v7_0) = (dats m 0 c).arrAt 6 cfg0.N
      ∧ r.2.mem ((c : Thread nD τ).loc main_v7_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => ⟨h.1.1 c, h.1.2 c, h.2 c⟩)
    (θ_run_and (θ_run_and ((θ_run defs _ _).mono (fun r (h : Pipeline.FramePost cfgs (dats m) 0 (V m) r) c => (h c).1 6) (run_main m ρ))
      ((θ_run defs _ _).mono (fun r (h : Pipeline.FramePost cfgs (dats m) 0 (V m) r) c => (h c).1 7) (run_main m ρ))) (unchanged m ρ))

end Cert.QkIdeal.FrameRun

end
end
-- ==== Proof.QkReferenceValue.lean ====
/- What the q/k projection's reference leaves in its two arrays. -/
module

public import proofs.«01_k».proof.Proof.ConvSilu
public import proofs.«01_k».proof.Proof.OutReferencePure
public import proofs.«01_k».proof.Proof.Gen.QkReferenceIdeal.Value
public import Idealize.ShloMosaic.Lib.Pipeline.ValueKit

@[expose] public section

set_option maxRecDepth 16384

noncomputable section

open Idealize.ShloMosaic Idealize.ShloMosaic.TcCoe Idealize.SL.Sem

namespace Cert.QkReferenceIdeal.QkReferenceValue

open Cert.QkReferenceIdeal Cert.QkReferenceIdeal.Gen Cert.ConvSilu

/-- The dequantised weight at an index. -/
theorem pay2_at (w : Vec Ideal S1920x2880 .fp8e4m3) (s : Vec Ideal S1920x90 .i8) (n : Fin 1920) (k : Fin 2880) :
    k0_pay2 (F := Ideal) w s (ix2 n k) = (show EReal from w (ix2 n k)) * Scale.power (s (ix2 n ⟨k.val / 32, by omega⟩)) := by
  pointwise [k0_pay2]
  rw [← Scale.select_exp2]
  exact OutReferenceIdeal.Pure.select_mul _ _ _

/-- The projection of a batch at an index. -/
theorem lin_at (d : Vec Ideal S1920x2880 .bf16) (X : Vec Ideal S1x3072x2944 .bf16) (t : Fin 3072) (n : Fin 1920) :
    k0_pay10 (F := Ideal) d X (ix2 t n) = ∑ k : Fin 2880, (show EReal from X (ix3 0 t ⟨k.val, by omega⟩)) * (show EReal from d (ix2 n k)) := by
  pointwise [k0_pay10]

/-- The projection with three zero rows before it. -/
theorem pad_at (d : Vec Ideal S1920x2880 .bf16) (X : Vec Ideal S1x3072x2944 .bf16) (r : Fin 3075) (n : Fin 1920) :
    k0_pay11 (F := Ideal) d X (ix2 r n) = padded (fun t : Fin 3072 => (show EReal from k0_pay10 (F := Ideal) d X (ix2 t n))) r.val := by
  by_cases h : r.val < 3
  · rw [padded_lt _ _ h]
    pointwise [k0_pay11]
    exact dif_pos h
  · have hr := r.isLt
    rw [padded_ge _ _ ⟨r.val - 3, by omega⟩ (by show r.val = r.val - 3 + 3; omega)]
    pointwise [k0_pay11]
    exact dif_neg h

/-- The convolution of a batch at an index. -/
theorem conv_at (c : Vec Ideal S1920x4 .f32) (d : Vec Ideal S1920x2880 .bf16) (X : Vec Ideal S1x3072x2944 .bf16) (a : Fin 1) (n : Fin 1920) (t : Fin 3072) :
    k0_pay13 (F := Ideal) c (k0_pay11 d X) (k0_pay12 d c X) (ix3 a n t)
      = conv (padded (fun t : Fin 3072 => (show EReal from k0_pay10 (F := Ideal) d X (ix2 t n)))) (fun w => (show EReal from c (ix2 n w))) t.val := by
  pointwise [k0_pay13, k0_pay12]
  rw [pad_at, pad_at, pad_at, pad_at]
  unfold conv silu
  simp only [Nat.add_comm]

/-- The tail of a batch at an index. -/
theorem tail_at (d : Vec Ideal S1920x2880 .bf16) (X : Vec Ideal S1x3072x2944 .bf16) (a : Fin 1) (r : Fin 8) (n : Fin 1920) :
    k0_pay14 (F := Ideal) (k0_pay10 d X) (ix3 a r n) = k0_pay10 (F := Ideal) d X (ix2 ⟨3064 + r.val, by omega⟩ n) := by
  pointwise [k0_pay14]

/-- The projection at an index, from the arguments. -/
def lin (x : Vec Ideal S7x3072x2944 .bf16) (w : Vec Ideal S1920x2880 .fp8e4m3) (s : Vec Ideal S1920x90 .i8) (b : Fin 7) (n : Fin 1920) (t : Fin 3072) : EReal :=
  ∑ k : Fin 2880, (show EReal from x (ix3 b t ⟨k.val, by omega⟩)) * ((show EReal from w (ix2 n k)) * Scale.power (s (ix2 n ⟨k.val / 32, by omega⟩)))

/-- The batch's projection, its activations loaded from the array. -/
theorem lin_ld (x : Vec Ideal S7x3072x2944 .bf16) (w : Vec Ideal S1920x2880 .fp8e4m3) (s : Vec Ideal S1920x90 .i8) (o : ℕ)
    (inb : ∀ a, (![o, 0, 0] : Fin 3 → ℕ) a + S1x3072x2944.size a ≤ S7x3072x2944.size a) (b : Fin 7) (hb : b.val = o) (n : Fin 1920) (t : Fin 3072) :
    k0_pay10 (F := Ideal) (k0_pay2 w s) (View.ld x (Rect.unit (s := S7x3072x2944) ![o, 0, 0] S1x3072x2944.size inb)) (ix2 t n) = lin x w s b n t := by
  rw [lin_at]
  unfold lin
  refine Finset.sum_congr rfl fun k _ => ?_
  rw [pay2_at]
  congr 1
  show x _ = x _
  congr 1
  funext a
  refine Fin.ext ?_
  match a with
  | ⟨0, _⟩ => show o + 1 * 0 = b.val; omega
  | ⟨1, _⟩ => show 0 + 1 * t.val = t.val; omega
  | ⟨2, _⟩ => show 0 + 1 * k.val = k.val; omega

/-- A load of the whole weight is the weight. -/
theorem ld_w (w : Vec Ideal S1920x2880 .fp8e4m3) : View.ld w r0_0 = w := View.ld_unit_zero Value.hz1 _ w

/-- A load of all scales is the scales. -/
theorem ld_s (s : Vec Ideal S1920x90 .i8) : View.ld s r0_1 = s := View.ld_unit_zero Value.hz3 _ s

/-- The weight loaded whole and dequantised. -/
theorem weight_ld (w : Vec Ideal S1920x2880 .fp8e4m3) (s : Vec Ideal S1920x90 .i8) : k0_pay2 (F := Ideal) (View.ld w r0_0) (View.ld s r0_1) = k0_pay2 w s := by
  rw [ld_w, ld_s]

/-- A batch's block of the first array. -/
theorem batch_out (x : Vec Ideal S7x3072x2944 .bf16) (w : Vec Ideal S1920x2880 .fp8e4m3) (s : Vec Ideal S1920x90 .i8) (c : Vec Ideal S1920x4 .f32)
    (d : Vec Ideal S1920x2880 .bf16) (hd : d = k0_pay2 (F := Ideal) w s) (o : ℕ)
    (inb : ∀ a, (![o, 0, 0] : Fin 3 → ℕ) a + S1x3072x2944.size a ≤ S7x3072x2944.size a) (b : Fin 7) (a : Fin 1) (n n' : Fin 1920) (t t' : Fin 3072)
    (hb : b.val = o + a.val) (hn : n'.val = n.val) (ht : t'.val = t.val) :
    k0_pay13 (F := Ideal) c (k0_pay11 d (View.ld x (Rect.unit (s := S7x3072x2944) ![o, 0, 0] S1x3072x2944.size inb)))
      (k0_pay12 d c (View.ld x (Rect.unit (s := S7x3072x2944) ![o, 0, 0] S1x3072x2944.size inb))) (ix3 a n t)
      = conv (padded (lin x w s b n')) (fun i => (show EReal from c (ix2 n' i))) t'.val := by
  obtain rfl : n' = n := Fin.ext hn
  obtain rfl : t' = t := Fin.ext ht
  subst hd
  rw [conv_at]
  have ha := a.isLt
  congr 2
  funext t
  exact lin_ld x w s o inb b (by omega) n' t

/-- A batch's block of the second array. -/
theorem batch_tail (x : Vec Ideal S7x3072x2944 .bf16) (w : Vec Ideal S1920x2880 .fp8e4m3) (s : Vec Ideal S1920x90 .i8)
    (d : Vec Ideal S1920x2880 .bf16) (hd : d = k0_pay2 (F := Ideal) w s) (o : ℕ)
    (inb : ∀ a, (![o, 0, 0] : Fin 3 → ℕ) a + S1x3072x2944.size a ≤ S7x3072x2944.size a) (b : Fin 7) (a : Fin 1) (r r' : Fin 8) (n n' : Fin 1920)
    (hb : b.val = o + a.val) (hr : r'.val = r.val) (hn : n'.val = n.val) :
    k0_pay14 (F := Ideal) (k0_pay10 d (View.ld x (Rect.unit (s := S7x3072x2944) ![o, 0, 0] S1x3072x2944.size inb))) (ix3 a r n)
      = lin x w s b n' ⟨3064 + r'.val, by omega⟩ := by
  obtain rfl : n' = n := Fin.ext hn
  obtain rfl : r' = r := Fin.ext hr
  subst hd
  have ha := a.isLt
  rw [tail_at]
  exact lin_ld x w s o inb b (by omega) n' _

/-- The projections of both weights, the second behind the first. -/
def lin2 (x : Vec Ideal S7x3072x2944 .bf16) (wq wk : Vec Ideal S1920x2880 .fp8e4m3) (sq sk : Vec Ideal S1920x90 .i8) (b : Fin 7) (n : Fin 3840) (t : Fin 3072) : EReal :=
  if h : n.val < 1920 then lin x wq sq b ⟨n.val, h⟩ t else lin x wk sk b ⟨n.val - 1920, by omega⟩ t

/-- The taps of both convolutions, the second behind the first. -/
def taps2 (cq ck : Vec Ideal S1920x4 .f32) (n : Fin 3840) (i : Fin 4) : EReal :=
  if h : n.val < 1920 then (show EReal from cq (ix2 ⟨n.val, h⟩ i)) else (show EReal from ck (ix2 ⟨n.val - 1920, by omega⟩ i))

theorem lin2_q (x : Vec Ideal S7x3072x2944 .bf16) (wq wk : Vec Ideal S1920x2880 .fp8e4m3) (sq sk : Vec Ideal S1920x90 .i8) (b : Fin 7) (n : Fin 3840) (n' : Fin 1920)
    (h : n.val = 0 + n'.val) : lin2 x wq wk sq sk b n = lin x wq sq b n' := by
  rw [show n' = ⟨n.val, by omega⟩ from Fin.ext (by show n'.val = n.val; omega)]
  funext t
  exact dif_pos _

theorem lin2_k (x : Vec Ideal S7x3072x2944 .bf16) (wq wk : Vec Ideal S1920x2880 .fp8e4m3) (sq sk : Vec Ideal S1920x90 .i8) (b : Fin 7) (n : Fin 3840) (n' : Fin 1920)
    (h : n.val = 1920 + n'.val) : lin2 x wq wk sq sk b n = lin x wk sk b n' := by
  rw [show n' = ⟨n.val - 1920, by omega⟩ from Fin.ext (by show n'.val = n.val - 1920; omega)]
  funext t
  exact dif_neg (by omega)

theorem taps2_q (cq ck : Vec Ideal S1920x4 .f32) (n : Fin 3840) (n' : Fin 1920) (h : n.val = 0 + n'.val) : taps2 cq ck n = fun i => (show EReal from cq (ix2 n' i)) := by
  rw [show n' = ⟨n.val, by omega⟩ from Fin.ext (by show n'.val = n.val; omega)]
  funext i
  exact dif_pos _

theorem taps2_k (cq ck : Vec Ideal S1920x4 .f32) (n : Fin 3840) (n' : Fin 1920) (h : n.val = 1920 + n'.val) : taps2 cq ck n = fun i => (show EReal from ck (ix2 n' i)) := by
  rw [show n' = ⟨n.val - 1920, by omega⟩ from Fin.ext (by show n'.val = n.val - 1920; omega)]
  funext i
  exact dif_neg (by omega)

variable (x : Vec Ideal S7x3072x2944 .bf16) (wq wk : Vec Ideal S1920x2880 .fp8e4m3) (sq sk : Vec Ideal S1920x90 .i8) (cq ck : Vec Ideal S1920x4 .f32)

/-- A batch's block of the first array, of the q half. -/
theorem out_q (d : Vec Ideal S1920x2880 .bf16) (hd : d = k0_pay2 (F := Ideal) wq sq) (o : ℕ)
    (inb : ∀ a, (![o, 0, 0] : Fin 3 → ℕ) a + S1x3072x2944.size a ≤ S7x3072x2944.size a) (b : Fin 7) (a : Fin 1) (n : Fin 1920) (n' : Fin 3840) (t t' : Fin 3072)
    (hb : b.val = o + a.val) (hn : n'.val = 0 + n.val) (ht : t'.val = t.val) :
    k0_pay13 (F := Ideal) cq (k0_pay11 d (View.ld x (Rect.unit (s := S7x3072x2944) ![o, 0, 0] S1x3072x2944.size inb)))
      (k0_pay12 d cq (View.ld x (Rect.unit (s := S7x3072x2944) ![o, 0, 0] S1x3072x2944.size inb))) (ix3 a n t)
      = conv (padded (lin2 x wq wk sq sk b n')) (taps2 cq ck n') t'.val := by
  rw [lin2_q x wq wk sq sk b n' n hn, taps2_q cq ck n' n hn]
  exact batch_out x wq sq cq d hd o inb b a n n t t' hb rfl ht

/-- A batch's block of the second array, of the q half. -/
theorem tail_q (d : Vec Ideal S1920x2880 .bf16) (hd : d = k0_pay2 (F := Ideal) wq sq) (o : ℕ)
    (inb : ∀ a, (![o, 0, 0] : Fin 3 → ℕ) a + S1x3072x2944.size a ≤ S7x3072x2944.size a) (b : Fin 7) (a : Fin 1) (r r' : Fin 8) (n : Fin 1920) (n' : Fin 3840)
    (hb : b.val = o + a.val) (hr : r'.val = r.val) (hn : n'.val = 0 + n.val) :
    k0_pay14 (F := Ideal) (k0_pay10 d (View.ld x (Rect.unit (s := S7x3072x2944) ![o, 0, 0] S1x3072x2944.size inb))) (ix3 a r n)
      = lin2 x wq wk sq sk b n' ⟨3064 + r'.val, by omega⟩ := by
  rw [lin2_q x wq wk sq sk b n' n hn]
  exact batch_tail x wq sq d hd o inb b a r r' n n hb hr rfl

/-- A batch's block of the first array, of the k half. -/
theorem out_k (d : Vec Ideal S1920x2880 .bf16) (hd : d = k0_pay2 (F := Ideal) wk sk) (o : ℕ)
    (inb : ∀ a, (![o, 0, 0] : Fin 3 → ℕ) a + S1x3072x2944.size a ≤ S7x3072x2944.size a) (b : Fin 7) (a : Fin 1) (n : Fin 1920) (n' : Fin 3840) (t t' : Fin 3072)
    (hb : b.val = o + a.val) (hn : n'.val = 1920 + n.val) (ht : t'.val = t.val) :
    k0_pay13 (F := Ideal) ck (k0_pay11 d (View.ld x (Rect.unit (s := S7x3072x2944) ![o, 0, 0] S1x3072x2944.size inb)))
      (k0_pay12 d ck (View.ld x (Rect.unit (s := S7x3072x2944) ![o, 0, 0] S1x3072x2944.size inb))) (ix3 a n t)
      = conv (padded (lin2 x wq wk sq sk b n')) (taps2 cq ck n') t'.val := by
  rw [lin2_k x wq wk sq sk b n' n hn, taps2_k cq ck n' n hn]
  exact batch_out x wk sk ck d hd o inb b a n n t t' hb rfl ht

/-- A batch's block of the second array, of the k half. -/
theorem tail_k (d : Vec Ideal S1920x2880 .bf16) (hd : d = k0_pay2 (F := Ideal) wk sk) (o : ℕ)
    (inb : ∀ a, (![o, 0, 0] : Fin 3 → ℕ) a + S1x3072x2944.size a ≤ S7x3072x2944.size a) (b : Fin 7) (a : Fin 1) (r r' : Fin 8) (n : Fin 1920) (n' : Fin 3840)
    (hb : b.val = o + a.val) (hr : r'.val = r.val) (hn : n'.val = 1920 + n.val) :
    k0_pay14 (F := Ideal) (k0_pay10 d (View.ld x (Rect.unit (s := S7x3072x2944) ![o, 0, 0] S1x3072x2944.size inb))) (ix3 a r n)
      = lin2 x wq wk sq sk b n' ⟨3064 + r'.val, by omega⟩ := by
  rw [lin2_k x wq wk sq sk b n' n hn]
  exact batch_tail x wk sk d hd o inb b a r r' n n hb hr rfl

/-- The first array at an index: one batch stored after the other, the q half and then the k half. -/
theorem G7_at (b : Fin 7) (n : Fin 3840) (t : Fin 3072) :
    Value.G7 (F := Ideal) x wq wk sq sk cq ck (ix3 b n t) = conv (padded (lin2 x wq wk sq sk b n)) (taps2 cq ck n) t.val := by
  unfold Value.G7
  canon_tiles z h
  · rw [eq_ix3 z]; exact out_k x wq wk sq sk cq ck _ (weight_ld wk sk) 6 inb_S7x3072x2944_S1x3072x2944_6_0_0 b _ _ _ _ _ h0 h1 h2
  · rw [eq_ix3 z]; exact out_k x wq wk sq sk cq ck _ (weight_ld wk sk) 5 inb_S7x3072x2944_S1x3072x2944_5_0_0 b _ _ _ _ _ h0 h1 h2
  · rw [eq_ix3 z]; exact out_k x wq wk sq sk cq ck _ (weight_ld wk sk) 4 inb_S7x3072x2944_S1x3072x2944_4_0_0 b _ _ _ _ _ h0 h1 h2
  · rw [eq_ix3 z]; exact out_k x wq wk sq sk cq ck _ (weight_ld wk sk) 3 inb_S7x3072x2944_S1x3072x2944_3_0_0 b _ _ _ _ _ h0 h1 h2
  · rw [eq_ix3 z]; exact out_k x wq wk sq sk cq ck _ (weight_ld wk sk) 2 inb_S7x3072x2944_S1x3072x2944_2_0_0 b _ _ _ _ _ h0 h1 h2
  · rw [eq_ix3 z]; exact out_k x wq wk sq sk cq ck _ (weight_ld wk sk) 1 inb_S7x3072x2944_S1x3072x2944_1_0_0 b _ _ _ _ _ h0 h1 h2
  · rw [eq_ix3 z]; exact out_k x wq wk sq sk cq ck _ rfl 0 inb_S7x3072x2944_S1x3072x2944_0_0_0 b _ _ _ _ _ (h0.trans (Nat.zero_add _).symm) h1 h2
  · rw [eq_ix3 z]; exact out_q x wq wk sq sk cq ck _ (weight_ld wq sq) 6 inb_S7x3072x2944_S1x3072x2944_6_0_0 b _ _ _ _ _ h0 (h1.trans (Nat.zero_add _).symm) h2
  · rw [eq_ix3 z]; exact out_q x wq wk sq sk cq ck _ (weight_ld wq sq) 5 inb_S7x3072x2944_S1x3072x2944_5_0_0 b _ _ _ _ _ h0 (h1.trans (Nat.zero_add _).symm) h2
  · rw [eq_ix3 z]; exact out_q x wq wk sq sk cq ck _ (weight_ld wq sq) 4 inb_S7x3072x2944_S1x3072x2944_4_0_0 b _ _ _ _ _ h0 (h1.trans (Nat.zero_add _).symm) h2
  · rw [eq_ix3 z]; exact out_q x wq wk sq sk cq ck _ (weight_ld wq sq) 3 inb_S7x3072x2944_S1x3072x2944_3_0_0 b _ _ _ _ _ h0 (h1.trans (Nat.zero_add _).symm) h2
  · rw [eq_ix3 z]; exact out_q x wq wk sq sk cq ck _ (weight_ld wq sq) 2 inb_S7x3072x2944_S1x3072x2944_2_0_0 b _ _ _ _ _ h0 (h1.trans (Nat.zero_add _).symm) h2
  · rw [eq_ix3 z]; exact out_q x wq wk sq sk cq ck _ (weight_ld wq sq) 1 inb_S7x3072x2944_S1x3072x2944_1_0_0 b _ _ _ _ _ h0 (h1.trans (Nat.zero_add _).symm) h2
  · rw [eq_ix3 z]; exact out_q x wq wk sq sk cq ck _ rfl 0 inb_S7x3072x2944_S1x3072x2944_0_0_0 b _ _ _ _ _ (h0.trans (Nat.zero_add _).symm) (h1.trans (Nat.zero_add _).symm) h2

/-- The second array at an index. -/
theorem G8_at (b : Fin 7) (r : Fin 8) (n : Fin 3840) :
    Value.G8 (F := Ideal) x wq wk sq sk cq ck (ix3 b r n) = lin2 x wq wk sq sk b n ⟨3064 + r.val, by omega⟩ := by
  unfold Value.G8
  canon_tiles z h
  · rw [eq_ix3 z]; exact tail_k x wq wk sq sk _ (weight_ld wk sk) 6 inb_S7x3072x2944_S1x3072x2944_6_0_0 b _ _ _ _ _ h0 h1 h2
  · rw [eq_ix3 z]; exact tail_k x wq wk sq sk _ (weight_ld wk sk) 5 inb_S7x3072x2944_S1x3072x2944_5_0_0 b _ _ _ _ _ h0 h1 h2
  · rw [eq_ix3 z]; exact tail_k x wq wk sq sk _ (weight_ld wk sk) 4 inb_S7x3072x2944_S1x3072x2944_4_0_0 b _ _ _ _ _ h0 h1 h2
  · rw [eq_ix3 z]; exact tail_k x wq wk sq sk _ (weight_ld wk sk) 3 inb_S7x3072x2944_S1x3072x2944_3_0_0 b _ _ _ _ _ h0 h1 h2
  · rw [eq_ix3 z]; exact tail_k x wq wk sq sk _ (weight_ld wk sk) 2 inb_S7x3072x2944_S1x3072x2944_2_0_0 b _ _ _ _ _ h0 h1 h2
  · rw [eq_ix3 z]; exact tail_k x wq wk sq sk _ (weight_ld wk sk) 1 inb_S7x3072x2944_S1x3072x2944_1_0_0 b _ _ _ _ _ h0 h1 h2
  · rw [eq_ix3 z]; exact tail_k x wq wk sq sk _ rfl 0 inb_S7x3072x2944_S1x3072x2944_0_0_0 b _ _ _ _ _ (h0.trans (Nat.zero_add _).symm) h1 h2
  · rw [eq_ix3 z]; exact tail_q x wq wk sq sk _ (weight_ld wq sq) 6 inb_S7x3072x2944_S1x3072x2944_6_0_0 b _ _ _ _ _ h0 h1 (h2.trans (Nat.zero_add _).symm)
  · rw [eq_ix3 z]; exact tail_q x wq wk sq sk _ (weight_ld wq sq) 5 inb_S7x3072x2944_S1x3072x2944_5_0_0 b _ _ _ _ _ h0 h1 (h2.trans (Nat.zero_add _).symm)
  · rw [eq_ix3 z]; exact tail_q x wq wk sq sk _ (weight_ld wq sq) 4 inb_S7x3072x2944_S1x3072x2944_4_0_0 b _ _ _ _ _ h0 h1 (h2.trans (Nat.zero_add _).symm)
  · rw [eq_ix3 z]; exact tail_q x wq wk sq sk _ (weight_ld wq sq) 3 inb_S7x3072x2944_S1x3072x2944_3_0_0 b _ _ _ _ _ h0 h1 (h2.trans (Nat.zero_add _).symm)
  · rw [eq_ix3 z]; exact tail_q x wq wk sq sk _ (weight_ld wq sq) 2 inb_S7x3072x2944_S1x3072x2944_2_0_0 b _ _ _ _ _ h0 h1 (h2.trans (Nat.zero_add _).symm)
  · rw [eq_ix3 z]; exact tail_q x wq wk sq sk _ (weight_ld wq sq) 1 inb_S7x3072x2944_S1x3072x2944_1_0_0 b _ _ _ _ _ h0 h1 (h2.trans (Nat.zero_add _).symm)
  · rw [eq_ix3 z]; exact tail_q x wq wk sq sk _ rfl 0 inb_S7x3072x2944_S1x3072x2944_0_0_0 b _ _ _ _ _ (h0.trans (Nat.zero_add _).symm) h1 (h2.trans (Nat.zero_add _).symm)

end Cert.QkReferenceIdeal.QkReferenceValue

end
end
-- ==== Proof.QkIdealValue.lean ====
/- What the q and k projections leave in their two arrays: the convolution of the whole sequence, although every point sees 256 tokens
   and the eight before them, and the last eight rows. -/
module

public import proofs.«01_k».proof.Proof.QkIdealFrame
public import proofs.«01_k».proof.Proof.QkReferenceValue

@[expose] public section

set_option maxRecDepth 16384

noncomputable section

open Idealize.ShloMosaic Idealize.ShloMosaic.TcCoe Idealize.SL.Sem
open Idealize.ShloMosaic.Pipeline (Dat)

namespace Cert.QkIdeal.QkValue

open Cert.QkIdeal Cert.QkIdeal.Gen Cert.QkIdeal.FrameRun Cert.QkIdeal.Weight Cert.ProjWeight Cert.ProjConv Cert.ConvSilu
open Cert.QkReferenceIdeal.QkReferenceValue (lin2 taps2 lin2_q lin2_k taps2_q taps2_k)

variable (m : (ℓ : Loc nD τ sig) → Buf (Elt Ideal) ℓ)

/-- The first result. -/
def QKOUT (x : Vec Ideal S7x3072x2944 .bf16) (wq wk : Vec Ideal S1920x2880 .fp8e4m3) (sq sk : Vec Ideal S1920x90 .i8) (cq ck : Vec Ideal S1920x4 .f32) : Vec Ideal S7x3840x3072 .bf16 :=
  fun i => conv (padded (lin2 x wq wk sq sk (i 0) (i 1))) (taps2 cq ck (i 1)) (i 2).val

/-- The second result. -/
def QKTAIL (x : Vec Ideal S7x3072x2944 .bf16) (wq wk : Vec Ideal S1920x2880 .fp8e4m3) (sq sk : Vec Ideal S1920x90 .i8) : Vec Ideal S7x8x3840 .bf16 :=
  fun i => lin2 x wq wk sq sk (i 0) (i 2) ⟨3064 + (i 1).val, by have h : (i 1).val < 8 := (i 1).isLt; omega⟩

/-- The projection of the arguments. -/
abbrev linA (c : Dev nD) : Fin 7 → Fin 3840 → Fin 3072 → EReal :=
  lin2 (m ((c : Thread nD τ).loc main_arg0)) (m ((c : Thread nD τ).loc main_arg1)) (m ((c : Thread nD τ).loc main_arg2)) (m ((c : Thread nD τ).loc main_arg3)) (m ((c : Thread nD τ).loc main_arg4))

/-- A block of activations times one half of the weight is the half's projection. -/
theorem half_block (c : Dev nD) (t : Fin cfg0.N) (w : Vec Ideal S2880x1920 .fp8e4m3) (s : Vec Ideal S90x1920 .i8) (w' : Vec Ideal S1920x2880 .fp8e4m3) (s' : Vec Ideal S1920x90 .i8)
    (n : Fin 3840) (n' : Fin 1920) (r : Fin 256) (b : Fin 7) (T : Fin 3072) (hb : b.val = t.val / 12) (hT : T.val = 256 * (t.val % 12) + r.val)
    (hW : ∀ a, weightAt m c t (ix2 a n) = weightV w s (ix2 a n')) (hw : ∀ k, w (ix2 k n') = w' (ix2 n' k)) (hs : ∀ k, s (ix2 k n') = s' (ix2 n' k)) :
    ProjConv.lin (iblk m c 0 t) (weightAt m c t) n r = QkReferenceIdeal.QkReferenceValue.lin (m ((c : Thread nD τ).loc main_arg0)) w' s' b n' T := by
  unfold ProjConv.lin
  simp only [hW]
  refine (sum_rows w s (fun k => (show EReal from iblk m c 0 t (ix3 0 r k))) n').trans ?_
  refine Fin.sum_fin_congr fun k => ?_
  have e0 : iblk m c 0 t (ix3 0 r ⟨k.val, by omega⟩) = m ((c : Thread nD τ).loc main_arg0) (ix3 b T ⟨k.val, by omega⟩) := by
    blk_ext [iblk, V, idx t]
  dsimp only
  rw [e0, hw, hs]

/-- A point's product is the projections of its batch at its tokens. -/
theorem lin_block (c : Dev nD) (t : Fin cfg0.N) (n : Fin 3840) (r : Fin 256) (b : Fin 7) (T : Fin 3072) (hb : b.val = t.val / 12) (hT : T.val = 256 * (t.val % 12) + r.val) :
    ProjConv.lin (iblk m c 0 t) (weightAt m c t) n r = linA m c b n T := by
  by_cases hn : n.val < 1920
  · rw [show linA m c b n = _ from lin2_q _ _ _ _ _ b n ⟨n.val, hn⟩ (by show n.val = 0 + n.val; omega)]
    refine half_block m c t (iblk m c 1 t) (iblk m c 3 t) _ _ n ⟨n.val, hn⟩ r b T hb hT
      (fun a => weightV2_q _ _ _ _ a ⟨n.val, hn⟩ n (by show n.val = 0 + n.val; omega)) (fun k => ?_) (fun k => ?_)
    · blk_point [iblk, V, idx t]
    · blk_point [iblk, V, idx t]
  · have hk : n.val - 1920 < 1920 := by omega
    rw [show linA m c b n = _ from lin2_k _ _ _ _ _ b n ⟨n.val - 1920, hk⟩ (by show n.val = 1920 + (n.val - 1920); omega)]
    refine half_block m c t (iblk m c 2 t) (iblk m c 4 t) _ _ n ⟨n.val - 1920, hk⟩ r b T hb hT
      (fun a => weightV2_k _ _ _ _ a ⟨n.val - 1920, hk⟩ n (by show n.val = 1920 + (n.val - 1920); omega)) (fun k => ?_) (fun k => ?_)
    · blk_point [iblk, V, idx t]
    · blk_point [iblk, V, idx t]

/-- The taps are staged side by side. -/
theorem taps_block (c : Dev nD) (t : Fin cfg0.N) (k : Fin 4) (n : Fin 3840) :
    iblk m c 5 t (ix2 k n) = taps2 (m ((c : Thread nD τ).loc main_arg5)) (m ((c : Thread nD τ).loc main_arg6)) n k := by
  have e : (win0_5.blk t).view.emb (ix2 k n) = ix2 k n := by
    blk_ext [idx t]
  blk_simp [iblk]
  rw [e]
  entry_read
  pointwise [taps2]

/-- The rows a point convolves are rows of the whole sequence, three zero rows before it. -/
theorem rows_eq (c : Dev nD) (t : Fin cfg0.N) (n : Fin 3840) (b : Fin 7) (hb : b.val = t.val / 12) (r R : ℕ) (h5 : 5 ≤ r) (hr : r < 264) (hR : R + 5 = 256 * (t.val % 12) + r) :
    rows (iblk m c 0 t) (weightAt m c t) (carried m c t) n r = padded (linA m c b n) R := by
  have hn := n.isLt
  have hm : t.val % 12 < 12 := Nat.mod_lt _ (by decide)
  unfold rows
  by_cases h8 : r < 8
  · rw [col_lt _ _ r ⟨r, h8⟩ rfl]
    unfold carried
    by_cases h0 : t.val % 12 = 0
    · rw [if_pos h0, padded_lt _ _ (by omega)]
    · rw [if_neg h0, padded_ge _ _ ⟨R - 3, by omega⟩ (by show R = R - 3 + 3; omega)]
      have hp : (prev t).val = t.val - 1 := rfl
      rw [← lin_block m c (prev t) n ⟨248 + r, by omega⟩ b ⟨R - 3, by omega⟩ (by rw [hp]; omega) (by rw [hp]; show R - 3 = 256 * ((t.val - 1) % 12) + (248 + r); omega)]
      unfold histAt histV
      exact congrArg (fun k => ProjConv.lin (iblk m c 0 (prev t)) (weightAt m c (prev t)) k ⟨248 + r, by omega⟩)
        (Fin.ext (by show 128 * (n.val / 128) + n.val % 128 = n.val; omega))
  · rw [col_ge _ _ r ⟨r - 8, by omega⟩ (by show r = 8 + (r - 8); omega), padded_ge _ _ ⟨R - 3, by omega⟩ (by show R = R - 3 + 3; omega)]
    exact lin_block m c t n ⟨r - 8, by omega⟩ b ⟨R - 3, by omega⟩ hb (by show R - 3 = 256 * (t.val % 12) + (r - 8); omega)

/-- The block of the convolution at an index. -/
theorem outAt_at (c : Dev nD) (t : Fin cfg0.N) (a : Fin 1) (n : Fin 3840) (r : Fin 256) (b : Fin 7) (T : Fin 3072) (hb : b.val = t.val / 12) (hT : T.val = 256 * (t.val % 12) + r.val) :
    outAt m c t (ix3 a n r) = QKOUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b n T) := by
  have hr := r.isLt
  show conv (rows (iblk m c 0 t) (weightAt m c t) (carried m c t) n) (fun i => (show EReal from iblk m c 5 t (ix2 i n))) (5 + r.val)
    = conv (padded (linA m c b n)) (taps2 (m ((c : Thread nD τ).loc main_arg5)) (m ((c : Thread nD τ).loc main_arg6)) n) T.val
  simp only [taps_block]
  unfold conv
  rw [rows_eq m c t n b hb (5 + r.val) T.val (by omega) (by omega) (by omega),
    rows_eq m c t n b hb (5 + r.val + 1) (T.val + 1) (by omega) (by omega) (by omega),
    rows_eq m c t n b hb (5 + r.val + 2) (T.val + 2) (by omega) (by omega) (by omega),
    rows_eq m c t n b hb (5 + r.val + 3) (T.val + 3) (by omega) (by omega) (by omega)]

/-- The tail of a batch's last point at an index. -/
theorem tailAt_at (c : Dev nD) (t : Fin cfg0.N) (h : t.val % 12 = 11) (a : Fin 1) (r : Fin 8) (n : Fin 3840) (b : Fin 7) (hb : b.val = t.val / 12) :
    tailAt m c t (ix3 a r n) = QKTAIL (m ((c : Thread nD τ).loc main_arg0)) (m ((c : Thread nD τ).loc main_arg1)) (m ((c : Thread nD τ).loc main_arg2)) (m ((c : Thread nD τ).loc main_arg3)) (m ((c : Thread nD τ).loc main_arg4)) (ix3 b r n) :=
  lin_block m c t n ⟨248 + r.val, by omega⟩ b ⟨3064 + r.val, by omega⟩ hb (by show 3064 + r.val = 256 * (t.val % 12) + (248 + r.val); omega)

/-- The points whose tail goes out are the batches' last. -/
theorem flush_last : ∀ t : Fin cfg0.N, (cfg0.win 7).flush t = true → t.val % 12 = 11 := by decide +kernel

/-- The first array is the convolution of the whole sequence. -/
theorem final_out (c : Dev nD) : (dats m 0 c).arrAt 6 cfg0.N
    = QKOUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t hf y => ?_
  have ht : t.val < 84 := t.isLt
  blk_simp
  rw [after0_6]
  idx_vars y
  have e : (win0_6.blk t).view.emb (ix3 y0 y1 y2) = ix3 ⟨t.val / 12, by omega⟩ y1 ⟨256 * (t.val % 12) + y2.val, by omega⟩ := by
    blk_ext [idx t]
  rw [e]
  exact outAt_at m c t y0 y1 y2 _ _ rfl rfl

/-- The second array is its last eight rows. -/
theorem final_tail (c : Dev nD) : (dats m 0 c).arrAt 7 cfg0.N
    = QKTAIL (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht : t.val < 84 := t.isLt
  blk_simp
  rw [after0_7]
  idx_vars y
  have e : (win0_7.blk t).view.emb (ix3 y0 y1 y2) = ix3 ⟨t.val / 12, by omega⟩ y1 y2 := by
    blk_ext [idx t]
  rw [e]
  exact tailAt_at m c t (flush_last t hf) y0 y1 y2 _ rfl

end Cert.QkIdeal.QkValue

end
end
-- ==== Proof.QkClaim.lean ====
/- The q and k projections and their reference end with the same arrays. -/
module

public import proofs.«01_k».proof.Defs
public import proofs.«01_k».proof.Proof.QkIdealValue
public import Idealize.ShloMosaic.Adequacy
public import Idealize.ShloMosaic.Init

@[expose] public section

set_option maxRecDepth 16384

noncomputable section

open Idealize.ShloMosaic Idealize.ShloMosaic.TcCoe Idealize.SL.Sem

namespace Cert.QkClaim

/-- The reference's first array is the kernel's, -/
theorem reference_out (x : Vec Ideal ⟨3, ![7, 3072, 2944]⟩ .bf16) (wq wk : Vec Ideal ⟨2, ![1920, 2880]⟩ .fp8e4m3) (sq sk : Vec Ideal ⟨2, ![1920, 90]⟩ .i8) (cq ck : Vec Ideal ⟨2, ![1920, 4]⟩ .f32) :
    QkReferenceIdeal.Value.G7 (F := Ideal) x wq wk sq sk cq ck = QkIdeal.QkValue.QKOUT x wq wk sq sk cq ck := by
  funext i
  idx_vars i
  exact QkReferenceIdeal.QkReferenceValue.G7_at x wq wk sq sk cq ck _ _ _

/-- and so is the second. -/
theorem reference_tail (x : Vec Ideal ⟨3, ![7, 3072, 2944]⟩ .bf16) (wq wk : Vec Ideal ⟨2, ![1920, 2880]⟩ .fp8e4m3) (sq sk : Vec Ideal ⟨2, ![1920, 90]⟩ .i8) (cq ck : Vec Ideal ⟨2, ![1920, 4]⟩ .f32) :
    QkReferenceIdeal.Value.G8 (F := Ideal) x wq wk sq sk cq ck = QkIdeal.QkValue.QKTAIL x wq wk sq sk := by
  funext i
  idx_vars i
  exact QkReferenceIdeal.QkReferenceValue.G8_at x wq wk sq sk cq ck _ _ _

/-- The algebraic claim. -/
theorem algebraic : algebraic_QkIdeal_QkReferenceIdeal (hQkIdeal := QkIdeal.Gen.facts) (hQkReferenceIdeal := QkReferenceIdeal.Gen.facts) := by
  intro m g m' g' _ hagree
  refine ⟨fun c => QkIdeal.QkValue.QKOUT (m ((c.tc : Thread QkIdeal.nD QkIdeal.τ).loc QkIdeal.main_arg0)) (m ((c.tc : Thread QkIdeal.nD QkIdeal.τ).loc QkIdeal.main_arg1)) (m ((c.tc : Thread QkIdeal.nD QkIdeal.τ).loc QkIdeal.main_arg2)) (m ((c.tc : Thread QkIdeal.nD QkIdeal.τ).loc QkIdeal.main_arg3))
      (m ((c.tc : Thread QkIdeal.nD QkIdeal.τ).loc QkIdeal.main_arg4)) (m ((c.tc : Thread QkIdeal.nD QkIdeal.τ).loc QkIdeal.main_arg5)) (m ((c.tc : Thread QkIdeal.nD QkIdeal.τ).loc QkIdeal.main_arg6)),
    fun c => QkIdeal.QkValue.QKTAIL (m ((c.tc : Thread QkIdeal.nD QkIdeal.τ).loc QkIdeal.main_arg0)) (m ((c.tc : Thread QkIdeal.nD QkIdeal.τ).loc QkIdeal.main_arg1)) (m ((c.tc : Thread QkIdeal.nD QkIdeal.τ).loc QkIdeal.main_arg2))
      (m ((c.tc : Thread QkIdeal.nD QkIdeal.τ).loc QkIdeal.main_arg3)) (m ((c.tc : Thread QkIdeal.nD QkIdeal.τ).loc QkIdeal.main_arg4)), ?_, ?_⟩
  · exact (θ_run _ _ _).mono (fun r h c => ⟨(h c).1.trans (QkIdeal.QkValue.final_out m c), (h c).2.1.trans (QkIdeal.QkValue.final_tail m c), (h c).2.2⟩) (QkIdeal.FrameRun.run_blocks m g)
  · refine (θ_run _ _ _).mono (fun r h c => ⟨(h c).1.trans ?_, (h c).2.1.trans ?_, (h c).2.2⟩) (QkReferenceIdeal.Value.run (F := Ideal) m' g')
    · rw [reference_out, (hagree c).1, (hagree c).2.1, (hagree c).2.2.1, (hagree c).2.2.2.1, (hagree c).2.2.2.2.1, (hagree c).2.2.2.2.2.1, (hagree c).2.2.2.2.2.2]
    · rw [reference_tail, (hagree c).1, (hagree c).2.1, (hagree c).2.2.1, (hagree c).2.2.2.1, (hagree c).2.2.2.2.1]

end Cert.QkClaim

end
end
-- ==== Proof.lean ====
module

public import proofs.«01_k».proof.Defs
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.OutReferenceIdeal.Skeleton
public import proofs.«01_k».proof.Proof.Gen.OutReferenceIdeal.Launch
public import proofs.«01_k».proof.Proof.Gen.OutReferenceIdeal.Points
public import proofs.«01_k».proof.Proof.Gen.OutReferenceIdeal.Frame
public import proofs.«01_k».proof.Proof.Gen.OutIdeal.Value
public import proofs.«01_k».proof.Proof.Gen.OutReferenceIdeal.Value
public import proofs.«01_k».proof.Proof.OutClaim
public import proofs.«01_k».proof.Proof.GateFrame
public import proofs.«01_k».proof.Proof.GateClaim
public import proofs.«01_k».proof.Proof.VFrame
public import proofs.«01_k».proof.Proof.VClaim
public import proofs.«01_k».proof.Proof.QkFrame
public import proofs.«01_k».proof.Proof.QkClaim
public import Idealize.ShloMosaic.Adequacy
public import Idealize.ShloMosaic.Init

@[expose] public section

noncomputable section

namespace Cert.Proof

open Idealize.ShloMosaic Idealize.SL.Sem Cert.Out

/-- The out projection's frames are the generated ones, the gate projection's are `GateFrame`'s and `GateIdealFrame`'s; the
    idealization rewrites nothing, and the values are `OutClaim`'s and `GateClaim`'s. The other projections go like the gate's. -/
theorem claim : Cert.Claim := ⟨Cert.Out.Gen.facts, Cert.OutIdeal.Gen.facts, Cert.OutReferenceIdeal.Gen.facts,
  Cert.Gate.Gen.facts, Cert.GateIdeal.Gen.facts, Cert.GateReferenceIdeal.Gen.facts,
  Cert.V.Gen.facts, Cert.VIdeal.Gen.facts, Cert.VReferenceIdeal.Gen.facts,
  Cert.Qk.Gen.facts, Cert.QkIdeal.Gen.facts, Cert.QkReferenceIdeal.Gen.facts,
  fun m ρ _ => Cert.Out.Gen.frame m ρ, fun m ρ _ => Cert.OutIdeal.Gen.frame m ρ, fun m ρ _ => Cert.OutReferenceIdeal.Gen.frame m ρ,
  fun m ρ _ => Cert.Gate.FrameRun.frame m ρ, fun m ρ _ => Cert.GateIdeal.FrameRun.frame m ρ, fun m ρ _ => Cert.GateReferenceIdeal.Gen.frame m ρ,
  fun m ρ _ => Cert.V.FrameRun.frame m ρ, fun m ρ _ => Cert.VIdeal.FrameRun.frame m ρ, fun m ρ _ => Cert.VReferenceIdeal.Gen.frame m ρ,
  fun m ρ _ => Cert.Qk.FrameRun.frame m ρ, fun m ρ _ => Cert.QkIdeal.FrameRun.frame m ρ, fun m ρ _ => Cert.QkReferenceIdeal.Gen.frame m ρ,
  trivial, Cert.OutClaim.algebraic, trivial, Cert.GateClaim.algebraic, trivial, Cert.VClaim.algebraic, trivial, Cert.QkClaim.algebraic⟩

end Cert.Proof

end
